-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_below_inf [hPre_decay_below_inf : Cert.Pre_decay_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_decay_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_below_inf [hPre_decay_below_inf : Cert.Pre_decay_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_decay_below_inf [hKernelIdeal : Cert.KernelIdeal.Facts] [hPre_decay_below_inf : Cert.Pre_decay_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_decay_below_inf [hReferenceIdeal : Cert.ReferenceIdeal.Facts] [hPre_decay_below_inf : Cert.Pre_decay_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_decay_below_inf [hKernelIdeal : Cert.KernelIdeal.Facts] [hReferenceIdeal : Cert.ReferenceIdeal.Facts] [hPre_decay_below_inf : Cert.Pre_decay_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v603) = v0 c
          ∧ r.2.mem ((c.tc : Thread Cert.ReferenceIdeal.nD Cert.ReferenceIdeal.τ).loc Cert.ReferenceIdeal.main_v604) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v46_0)) (v1 : (c : Dev Cert.Kernel3Ideal.nD) → Buf (Elt Ideal) ((c.tc : Thread Cert.Kernel3Ideal.nD Cert.Kernel3Ideal.τ).loc Cert.Kernel3Ideal.main_v47)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v46_0) = v0 c
          ∧ r.2.mem ((c.tc : Thread Cert.Kernel3Ideal.nD Cert.Kernel3Ideal.τ).loc Cert.Kernel3Ideal.main_v47) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v119) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v8)) (v1 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_v10) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_decay_below_inf : Cert.Pre_decay_below_inf.Facts),
    quiescent_Kernel (hKernel := hKernel)
    ∧ quiescent_KernelIdeal (hKernelIdeal := hKernelIdeal)
    ∧ quiescent_KernelIdeal_pre_decay_below_inf (hKernelIdeal := hKernelIdeal) (hPre_decay_below_inf := hPre_decay_below_inf)
    ∧ quiescent_ReferenceIdeal (hReferenceIdeal := hReferenceIdeal)
    ∧ quiescent_ReferenceIdeal_pre_decay_below_inf (hReferenceIdeal := hReferenceIdeal) (hPre_decay_below_inf := hPre_decay_below_inf)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_decay_below_inf (hKernelIdeal := hKernelIdeal) (hReferenceIdeal := hReferenceIdeal) (hPre_decay_below_inf := hPre_decay_below_inf)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_decay_below_inf.lean ====
abbrev S11x32x2048x1024 : Shape := ⟨4, ![11, 32, 2048, 1024]⟩
abbrev S11x32x256x1024 : Shape := ⟨4, ![11, 32, 256, 1024]⟩
abbrev S2x8 : Shape := ⟨2, ![2, 8]⟩
abbrev S1x1024 : Shape := ⟨2, ![1, 1024]⟩
abbrev S_ : Shape := ⟨0, ![]⟩

class Facts : Prop where
  bcast_S_S2x8 : S_.BroadcastsInDim S2x8 (![] : Fin 0 → Fin S2x8.rank)
  reducesTo_S2x8_S_d0_1 : S2x8.ReducesTo [0, 1] S_
  h_S_ : 0 < S_.numel

variable [Facts]

def fn {F : FTy → Type} [FloatOps F] (main_arg0 : FVec F S11x32x2048x1024 .bf16) (main_arg1 : FVec F S11x32x256x1024 .bf16) (main_arg2 : FVec F S2x8 .f32) (main_arg3 : FVec F S1x1024 .f32) : IVec S_ 1 :=
  let main_cst : FVec F S_ .f32 := constant S_ .f32 0x7F800000#32
  let main_v0 : FVec F S2x8 .f32 := broadcastInDim S2x8 ![] bcast_S_S2x8 main_cst
  let main_v1 : IVec S2x8 1 := cmpf .olt main_arg2 main_v0
  let main_c : IVec S_ 1 := constantI S_ 1 1#1
  let main_v2 : IVec S_ 1 := (fun x v => Host.reduce IntOp.andi x v reducesTo_S2x8_S_d0_1 h_S_) main_v1 main_c
  main_v2
-- ==== Kernel.lean ====
abbrev S11x32x2048x1024 : Shape := ⟨4, ![11, 32, 2048, 1024]⟩
abbrev S11x32x256x1024 : Shape := ⟨4, ![11, 32, 256, 1024]⟩
abbrev S2x8 : Shape := ⟨2, ![2, 8]⟩
abbrev S1x1024 : Shape := ⟨2, ![1, 1024]⟩
abbrev S32x2048x1024 : Shape := ⟨3, ![32, 2048, 1024]⟩
abbrev S32x256x1024 : Shape := ⟨3, ![32, 256, 1024]⟩
abbrev S1x1x2048x128 : Shape := ⟨4, ![1, 1, 2048, 128]⟩
abbrev S1x1x256x128 : Shape := ⟨4, ![1, 1, 256, 128]⟩
abbrev S1x128 : Shape := ⟨2, ![1, 128]⟩
abbrev S1x2048x128 : Shape := ⟨3, ![1, 2048, 128]⟩
abbrev S1x256x128 : Shape := ⟨3, ![1, 256, 128]⟩
abbrev S18x128x128 : Shape := ⟨3, ![18, 128, 128]⟩
abbrev S1x1 : Shape := ⟨2, ![1, 1]⟩
abbrev S128x128 : Shape := ⟨2, ![128, 128]⟩
abbrev S128x1 : Shape := ⟨2, ![128, 1]⟩
abbrev S1x128x128 : Shape := ⟨3, ![1, 128, 128]⟩
abbrev S1x1x128x128 : Shape := ⟨4, ![1, 1, 128, 128]⟩
abbrev S128 : Shape := ⟨1, ![128]⟩

abbrev nBuf : Space → Nat
  | .hbm => 6
  | .vmem => 23
  | .smem => 1
  | _ => 0

abbrev bufTy : (tb : Table) → Fin (tcTables nBuf tb) → BufTy
  | .hbm, ⟨0, _⟩ => ⟨S11x32x2048x1024, .bf16⟩
  | .hbm, ⟨1, _⟩ => ⟨S11x32x256x1024, .bf16⟩
  | .hbm, ⟨2, _⟩ => ⟨S2x8, .f32⟩
  | .hbm, ⟨3, _⟩ => ⟨S1x1024, .f32⟩
  | .hbm, ⟨4, _⟩ => ⟨S32x2048x1024, .bf16⟩
  | .hbm, ⟨5, _⟩ => ⟨S32x256x1024, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x1x2048x128, .bf16⟩
  | .local _ .vmem, ⟨7, _⟩ => ⟨S1x1x2048x128, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S1x1x256x128, .bf16⟩
  | .local _ .vmem, ⟨11, _⟩ => ⟨S1x1x256x128, .bf16⟩
  | .local _ .vmem, ⟨12, _⟩ => ⟨S1x1x256x128, .bf16⟩
  | .local _ .vmem, ⟨13, _⟩ => ⟨S1x1x256x128, .bf16⟩
  | .local _ .vmem, ⟨14, _⟩ => ⟨S1x1x256x128, .bf16⟩
  | .local _ .vmem, ⟨15, _⟩ => ⟨S1x1x256x128, .bf16⟩
  | .local _ .vmem, ⟨16, _⟩ => ⟨S1x128, .f32⟩
  | .local _ .vmem, ⟨17, _⟩ => ⟨S1x128, .f32⟩
  | .local _ .vmem, ⟨18, _⟩ => ⟨S1x2048x128, .bf16⟩
  | .local _ .vmem, ⟨19, _⟩ => ⟨S1x2048x128, .bf16⟩
  | .local _ .vmem, ⟨20, _⟩ => ⟨S1x256x128, .bf16⟩
  | .local _ .vmem, ⟨21, _⟩ => ⟨S1x256x128, .bf16⟩
  | .local _ .vmem, ⟨22, _⟩ => ⟨S18x128x128, .bf16⟩
  | .local _ .smem, ⟨0, _⟩ => ⟨S2x8, .f32⟩
  | _, _ => ⟨S11x32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![32, 8], ![false, false]⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v2 : Index := Scalar.indexCast arg1
  ![1, v2.toNat]
def k0_off3 (c0_i32_14 : BitVec 32) (c1_i32 : BitVec 32) (c0_i32 : BitVec 32) : Fin 3 → Nat :=
  let v58 : BitVec 32 := Scalar.subi c1_i32 c0_i32
  let v60 : BitVec 32 := Scalar.addi c0_i32_14 v58
  let v61 : Index := Scalar.indexCast v60
  let c0_15 : Index := 0#32
  let c0_16 : Index := 0#32
  ![v61.toNat, 0, 0]
def k0_off3_at (r : Fin 18) : BitVec 32 × BitVec 32 × BitVec 32 :=
  if r.val < 9 then
    if r.val < 4 then
      if r.val < 2 then
        if r.val < 1 then
          (0#32, 1#32, 0#32)
        else
          (0#32, 1#32, 1#32)
      else
        if r.val < 3 then
          (2#32, 15#32, 0#32)
        else
          (2#32, 15#32, 1#32)
    else
      if r.val < 6 then
        if r.val < 5 then
          (2#32, 15#32, 2#32)
        else
          (2#32, 15#32, 3#32)
      else
        if r.val < 7 then
          (2#32, 15#32, 4#32)
        else
          if r.val < 8 then
            (2#32, 15#32, 5#32)
          else
            (2#32, 15#32, 6#32)
  else
    if r.val < 13 then
      if r.val < 11 then
        if r.val < 10 then
          (2#32, 15#32, 7#32)
        else
          (2#32, 15#32, 8#32)
      else
        if r.val < 12 then
          (2#32, 15#32, 9#32)
        else
          (2#32, 15#32, 10#32)
    else
      if r.val < 15 then
        if r.val < 14 then
          (2#32, 15#32, 11#32)
        else
          (2#32, 15#32, 12#32)
      else
        if r.val < 16 then
          (2#32, 15#32, 13#32)
        else
          if r.val < 17 then
            (2#32, 15#32, 14#32)
          else
            (2#32, 15#32, 15#32)
def k0_mult1 : BitVec 32 :=
  let c1_i32 : BitVec 32 := 1#32
  let c0_i32 : BitVec 32 := 0#32
  let v58 : BitVec 32 := Scalar.subi c1_i32 c0_i32
  let c128_i32 : BitVec 32 := 128#32
  let v65 : BitVec 32 := Scalar.muli v58 c128_i32
  v65
def k0_off4 (c0_i32 : BitVec 32) : Fin 4 → Nat :=
  let c0_17 : Index := 0#32
  let c0_18 : Index := 0#32
  let c1_i32 : BitVec 32 := 1#32
  let v58 : BitVec 32 := Scalar.subi c1_i32 c0_i32
  let c128_i32 : BitVec 32 := 128#32
  let v65 : BitVec 32 := Scalar.muli v58 c128_i32
  let v66 : BitVec 32 := v65
  let v67 : Index := Scalar.indexCast v66
  let c0_19 : Index := 0#32
  ![0, 0, v67.toNat, 0]
def k0_mult2 : BitVec 32 :=
  let c1_i32_25 : BitVec 32 := 1#32
  let c1_i32_24 : BitVec 32 := 1#32
  let v81 : BitVec 32 := Scalar.subi c1_i32_25 c1_i32_24
  let c128_i32_29 : BitVec 32 := 128#32
  let v88 : BitVec 32 := Scalar.muli v81 c128_i32_29
  v88
def k0_mult3 : BitVec 32 :=
  let c15_i32 : BitVec 32 := 15#32
  let c0_i32_37 : BitVec 32 := 0#32
  let v104 : BitVec 32 := Scalar.subi c15_i32 c0_i32_37
  let c128_i32_41 : BitVec 32 := 128#32
  let v111 : BitVec 32 := Scalar.muli v104 c128_i32_41
  v111
def k0_off5 (c0_i32_37 : BitVec 32) : Fin 4 → Nat :=
  let c0_42 : Index := 0#32
  let c0_43 : Index := 0#32
  let c15_i32 : BitVec 32 := 15#32
  let v104 : BitVec 32 := Scalar.subi c15_i32 c0_i32_37
  let c128_i32_41 : BitVec 32 := 128#32
  let v111 : BitVec 32 := Scalar.muli v104 c128_i32_41
  let v112 : BitVec 32 := v111
  let v113 : Index := Scalar.indexCast v112
  let c0_44 : Index := 0#32
  ![0, 0, v113.toNat, 0]
def k0_mult4 : BitVec 32 :=
  let c15_i32_50 : BitVec 32 := 15#32
  let c1_i32_49 : BitVec 32 := 1#32
  let v127 : BitVec 32 := Scalar.subi c15_i32_50 c1_i32_49
  let c128_i32_54 : BitVec 32 := 128#32
  let v134 : BitVec 32 := Scalar.muli v127 c128_i32_54
  v134
def k0_mult5 : BitVec 32 :=
  let c15_i32_63 : BitVec 32 := 15#32
  let c2_i32_62 : BitVec 32 := 2#32
  let v150 : BitVec 32 := Scalar.subi c15_i32_63 c2_i32_62
  let c128_i32_67 : BitVec 32 := 128#32
  let v157 : BitVec 32 := Scalar.muli v150 c128_i32_67
  v157
def k0_mult6 : BitVec 32 :=
  let c15_i32_75 : BitVec 32 := 15#32
  let c3_i32 : BitVec 32 := 3#32
  let v173 : BitVec 32 := Scalar.subi c15_i32_75 c3_i32
  let c128_i32_79 : BitVec 32 := 128#32
  let v180 : BitVec 32 := Scalar.muli v173 c128_i32_79
  v180
def k0_mult7 : BitVec 32 :=
  let c15_i32_87 : BitVec 32 := 15#32
  let c4_i32 : BitVec 32 := 4#32
  let v196 : BitVec 32 := Scalar.subi c15_i32_87 c4_i32
  let c128_i32_91 : BitVec 32 := 128#32
  let v203 : BitVec 32 := Scalar.muli v196 c128_i32_91
  v203
def k0_mult8 : BitVec 32 :=
  let c15_i32_99 : BitVec 32 := 15#32
  let c5_i32 : BitVec 32 := 5#32
  let v219 : BitVec 32 := Scalar.subi c15_i32_99 c5_i32
  let c128_i32_103 : BitVec 32 := 128#32
  let v226 : BitVec 32 := Scalar.muli v219 c128_i32_103
  v226
def k0_mult9 : BitVec 32 :=
  let c15_i32_111 : BitVec 32 := 15#32
  let c6_i32 : BitVec 32 := 6#32
  let v242 : BitVec 32 := Scalar.subi c15_i32_111 c6_i32
  let c128_i32_115 : BitVec 32 := 128#32
  let v249 : BitVec 32 := Scalar.muli v242 c128_i32_115
  v249
def k0_mult10 : BitVec 32 :=
  let c15_i32_123 : BitVec 32 := 15#32
  let c7_i32 : BitVec 32 := 7#32
  let v265 : BitVec 32 := Scalar.subi c15_i32_123 c7_i32
  let c128_i32_127 : BitVec 32 := 128#32
  let v272 : BitVec 32 := Scalar.muli v265 c128_i32_127
  v272
def k0_mult11 : BitVec 32 :=
  let c15_i32_135 : BitVec 32 := 15#32
  let c8_i32 : BitVec 32 := 8#32
  let v288 : BitVec 32 := Scalar.subi c15_i32_135 c8_i32
  let c128_i32_139 : BitVec 32 := 128#32
  let v295 : BitVec 32 := Scalar.muli v288 c128_i32_139
  v295
def k0_mult12 : BitVec 32 :=
  let c15_i32_147 : BitVec 32 := 15#32
  let c9_i32 : BitVec 32 := 9#32
  let v311 : BitVec 32 := Scalar.subi c15_i32_147 c9_i32
  let c128_i32_151 : BitVec 32 := 128#32
  let v318 : BitVec 32 := Scalar.muli v311 c128_i32_151
  v318
def k0_mult13 : BitVec 32 :=
  let c15_i32_159 : BitVec 32 := 15#32
  let c10_i32 : BitVec 32 := 10#32
  let v334 : BitVec 32 := Scalar.subi c15_i32_159 c10_i32
  let c128_i32_163 : BitVec 32 := 128#32
  let v341 : BitVec 32 := Scalar.muli v334 c128_i32_163
  v341
def k0_mult14 : BitVec 32 :=
  let c15_i32_171 : BitVec 32 := 15#32
  let c11_i32 : BitVec 32 := 11#32
  let v357 : BitVec 32 := Scalar.subi c15_i32_171 c11_i32
  let c128_i32_175 : BitVec 32 := 128#32
  let v364 : BitVec 32 := Scalar.muli v357 c128_i32_175
  v364
def k0_mult15 : BitVec 32 :=
  let c15_i32_183 : BitVec 32 := 15#32
  let c12_i32 : BitVec 32 := 12#32
  let v380 : BitVec 32 := Scalar.subi c15_i32_183 c12_i32
  let c128_i32_187 : BitVec 32 := 128#32
  let v387 : BitVec 32 := Scalar.muli v380 c128_i32_187
  v387
def k0_mult16 : BitVec 32 :=
  let c15_i32_195 : BitVec 32 := 15#32
  let c13_i32 : BitVec 32 := 13#32
  let v403 : BitVec 32 := Scalar.subi c15_i32_195 c13_i32
  let c128_i32_199 : BitVec 32 := 128#32
  let v410 : BitVec 32 := Scalar.muli v403 c128_i32_199
  v410
def k0_mult17 : BitVec 32 :=
  let c15_i32_207 : BitVec 32 := 15#32
  let c14_i32 : BitVec 32 := 14#32
  let v426 : BitVec 32 := Scalar.subi c15_i32_207 c14_i32
  let c128_i32_211 : BitVec 32 := 128#32
  let v433 : BitVec 32 := Scalar.muli v426 c128_i32_211
  v433
def k0_mult18 : BitVec 32 :=
  let c15_i32_220 : BitVec 32 := 15#32
  let c15_i32_219 : BitVec 32 := 15#32
  let v449 : BitVec 32 := Scalar.subi c15_i32_220 c15_i32_219
  let c128_i32_224 : BitVec 32 := 128#32
  let v456 : BitVec 32 := Scalar.muli v449 c128_i32_224
  v456
def k0_mult19 : BitVec 32 :=
  let c0_i32_232 : BitVec 32 := 0#32
  let c128_i32_233 : BitVec 32 := 128#32
  let v472 : BitVec 32 := Scalar.muli c0_i32_232 c128_i32_233
  v472
def k0_off6 (c0_i32_232 : BitVec 32) : Fin 4 → Nat :=
  let c0_234 : Index := 0#32
  let c0_235 : Index := 0#32
  let c128_i32_233 : BitVec 32 := 128#32
  let v472 : BitVec 32 := Scalar.muli c0_i32_232 c128_i32_233
  let v473 : BitVec 32 := v472
  let v474 : Index := Scalar.indexCast v473
  let c0_236 : Index := 0#32
  ![0, 0, v474.toNat, 0]
def k0_off7 (c0_i32_246 : BitVec 32) (c0_i32_232 : BitVec 32) : Fin 3 → Nat :=
  let v497 : BitVec 32 := Scalar.addi c0_i32_246 c0_i32_232
  let v498 : Index := Scalar.indexCast v497
  let c0_247 : Index := 0#32
  let c0_248 : Index := 0#32
  ![v498.toNat, 0, 0]
def k0_off7_at (r : Fin 18) : BitVec 32 × BitVec 32 :=
  if r.val < 9 then
    if r.val < 4 then
      if r.val < 2 then
        if r.val < 1 then
          (0#32, 0#32)
        else
          (0#32, 1#32)
      else
        if r.val < 3 then
          (2#32, 0#32)
        else
          (2#32, 1#32)
    else
      if r.val < 6 then
        if r.val < 5 then
          (2#32, 2#32)
        else
          (2#32, 3#32)
      else
        if r.val < 7 then
          (2#32, 4#32)
        else
          if r.val < 8 then
            (2#32, 5#32)
          else
            (2#32, 6#32)
  else
    if r.val < 13 then
      if r.val < 11 then
        if r.val < 10 then
          (2#32, 7#32)
        else
          (2#32, 8#32)
      else
        if r.val < 12 then
          (2#32, 9#32)
        else
          (2#32, 10#32)
    else
      if r.val < 15 then
        if r.val < 14 then
          (2#32, 11#32)
        else
          (2#32, 12#32)
      else
        if r.val < 16 then
          (2#32, 13#32)
        else
          if r.val < 17 then
            (2#32, 14#32)
          else
            (2#32, 15#32)
def k0_off8 (c0_i32_232 : BitVec 32) : Fin 3 → Nat :=
  let c0_258 : Index := 0#32
  let c128_i32_233 : BitVec 32 := 128#32
  let v472 : BitVec 32 := Scalar.muli c0_i32_232 c128_i32_233
  let v473 : BitVec 32 := v472
  let v529 : Index := Scalar.indexCast v473
  let c0_259 : Index := 0#32
  ![0, v529.toNat, 0]
def k0_mult20 : BitVec 32 :=
  let c0_i32_232 : BitVec 32 := 0#32
  let c128_i32_260 : BitVec 32 := 128#32
  let v533 : BitVec 32 := Scalar.muli c0_i32_232 c128_i32_260
  v533
def k0_mult21 : BitVec 32 :=
  let c1_i32_268 : BitVec 32 := 1#32
  let c128_i32_269 : BitVec 32 := 128#32
  let v549 : BitVec 32 := Scalar.muli c1_i32_268 c128_i32_269
  v549
def k0_mult22 : BitVec 32 :=
  let c1_i32_268 : BitVec 32 := 1#32
  let c128_i32_296 : BitVec 32 := 128#32
  let v610 : BitVec 32 := Scalar.muli c1_i32_268 c128_i32_296
  v610
def k0_mult23 : BitVec 32 :=
  let c0_i32_305 : BitVec 32 := 0#32
  let c128_i32_306 : BitVec 32 := 128#32
  let v626 : BitVec 32 := Scalar.muli c0_i32_305 c128_i32_306
  v626
def k0_off9 (c0_i32_305 : BitVec 32) : Fin 4 → Nat :=
  let c0_307 : Index := 0#32
  let c0_308 : Index := 0#32
  let c128_i32_306 : BitVec 32 := 128#32
  let v626 : BitVec 32 := Scalar.muli c0_i32_305 c128_i32_306
  let v627 : BitVec 32 := v626
  let v628 : Index := Scalar.indexCast v627
  let c0_309 : Index := 0#32
  ![0, 0, v628.toNat, 0]
def k0_off10 (c0_i32_305 : BitVec 32) : Fin 3 → Nat :=
  let c0_331 : Index := 0#32
  let c128_i32_306 : BitVec 32 := 128#32
  let v626 : BitVec 32 := Scalar.muli c0_i32_305 c128_i32_306
  let v627 : BitVec 32 := v626
  let v683 : Index := Scalar.indexCast v627
  let c0_332 : Index := 0#32
  ![0, v683.toNat, 0]
def k0_mult24 : BitVec 32 :=
  let c0_i32_305 : BitVec 32 := 0#32
  let c128_i32_333 : BitVec 32 := 128#32
  let v687 : BitVec 32 := Scalar.muli c0_i32_305 c128_i32_333
  v687
def k0_mult25 : BitVec 32 :=
  let c1_i32_341 : BitVec 32 := 1#32
  let c128_i32_342 : BitVec 32 := 128#32
  let v703 : BitVec 32 := Scalar.muli c1_i32_341 c128_i32_342
  v703
def k0_mult26 : BitVec 32 :=
  let c1_i32_341 : BitVec 32 := 1#32
  let c128_i32_369 : BitVec 32 := 128#32
  let v764 : BitVec 32 := Scalar.muli c1_i32_341 c128_i32_369
  v764
def k0_mult27 : BitVec 32 :=
  let c2_i32_377 : BitVec 32 := 2#32
  let c128_i32_378 : BitVec 32 := 128#32
  let v780 : BitVec 32 := Scalar.muli c2_i32_377 c128_i32_378
  v780
def k0_mult28 : BitVec 32 :=
  let c2_i32_377 : BitVec 32 := 2#32
  let c128_i32_405 : BitVec 32 := 128#32
  let v841 : BitVec 32 := Scalar.muli c2_i32_377 c128_i32_405
  v841
def k0_mult29 : BitVec 32 :=
  let c3_i32_413 : BitVec 32 := 3#32
  let c128_i32_414 : BitVec 32 := 128#32
  let v857 : BitVec 32 := Scalar.muli c3_i32_413 c128_i32_414
  v857
def k0_mult30 : BitVec 32 :=
  let c3_i32_413 : BitVec 32 := 3#32
  let c128_i32_441 : BitVec 32 := 128#32
  let v918 : BitVec 32 := Scalar.muli c3_i32_413 c128_i32_441
  v918
def k0_mult31 : BitVec 32 :=
  let c4_i32_449 : BitVec 32 := 4#32
  let c128_i32_450 : BitVec 32 := 128#32
  let v934 : BitVec 32 := Scalar.muli c4_i32_449 c128_i32_450
  v934
def k0_mult32 : BitVec 32 :=
  let c4_i32_449 : BitVec 32 := 4#32
  let c128_i32_477 : BitVec 32 := 128#32
  let v995 : BitVec 32 := Scalar.muli c4_i32_449 c128_i32_477
  v995
def k0_mult33 : BitVec 32 :=
  let c5_i32_485 : BitVec 32 := 5#32
  let c128_i32_486 : BitVec 32 := 128#32
  let v1011 : BitVec 32 := Scalar.muli c5_i32_485 c128_i32_486
  v1011
def k0_mult34 : BitVec 32 :=
  let c5_i32_485 : BitVec 32 := 5#32
  let c128_i32_513 : BitVec 32 := 128#32
  let v1072 : BitVec 32 := Scalar.muli c5_i32_485 c128_i32_513
  v1072
def k0_mult35 : BitVec 32 :=
  let c6_i32_521 : BitVec 32 := 6#32
  let c128_i32_522 : BitVec 32 := 128#32
  let v1088 : BitVec 32 := Scalar.muli c6_i32_521 c128_i32_522
  v1088
def k0_mult36 : BitVec 32 :=
  let c6_i32_521 : BitVec 32 := 6#32
  let c128_i32_549 : BitVec 32 := 128#32
  let v1149 : BitVec 32 := Scalar.muli c6_i32_521 c128_i32_549
  v1149
def k0_mult37 : BitVec 32 :=
  let c7_i32_557 : BitVec 32 := 7#32
  let c128_i32_558 : BitVec 32 := 128#32
  let v1165 : BitVec 32 := Scalar.muli c7_i32_557 c128_i32_558
  v1165
def k0_mult38 : BitVec 32 :=
  let c7_i32_557 : BitVec 32 := 7#32
  let c128_i32_585 : BitVec 32 := 128#32
  let v1226 : BitVec 32 := Scalar.muli c7_i32_557 c128_i32_585
  v1226
def k0_mult39 : BitVec 32 :=
  let c8_i32_593 : BitVec 32 := 8#32
  let c128_i32_594 : BitVec 32 := 128#32
  let v1242 : BitVec 32 := Scalar.muli c8_i32_593 c128_i32_594
  v1242
def k0_mult40 : BitVec 32 :=
  let c8_i32_593 : BitVec 32 := 8#32
  let c128_i32_621 : BitVec 32 := 128#32
  let v1303 : BitVec 32 := Scalar.muli c8_i32_593 c128_i32_621
  v1303
def k0_mult41 : BitVec 32 :=
  let c9_i32_629 : BitVec 32 := 9#32
  let c128_i32_630 : BitVec 32 := 128#32
  let v1319 : BitVec 32 := Scalar.muli c9_i32_629 c128_i32_630
  v1319
def k0_mult42 : BitVec 32 :=
  let c9_i32_629 : BitVec 32 := 9#32
  let c128_i32_657 : BitVec 32 := 128#32
  let v1380 : BitVec 32 := Scalar.muli c9_i32_629 c128_i32_657
  v1380
def k0_mult43 : BitVec 32 :=
  let c10_i32_665 : BitVec 32 := 10#32
  let c128_i32_666 : BitVec 32 := 128#32
  let v1396 : BitVec 32 := Scalar.muli c10_i32_665 c128_i32_666
  v1396
def k0_mult44 : BitVec 32 :=
  let c10_i32_665 : BitVec 32 := 10#32
  let c128_i32_693 : BitVec 32 := 128#32
  let v1457 : BitVec 32 := Scalar.muli c10_i32_665 c128_i32_693
  v1457
def k0_mult45 : BitVec 32 :=
  let c11_i32_701 : BitVec 32 := 11#32
  let c128_i32_702 : BitVec 32 := 128#32
  let v1473 : BitVec 32 := Scalar.muli c11_i32_701 c128_i32_702
  v1473
def k0_mult46 : BitVec 32 :=
  let c11_i32_701 : BitVec 32 := 11#32
  let c128_i32_729 : BitVec 32 := 128#32
  let v1534 : BitVec 32 := Scalar.muli c11_i32_701 c128_i32_729
  v1534
def k0_mult47 : BitVec 32 :=
  let c12_i32_737 : BitVec 32 := 12#32
  let c128_i32_738 : BitVec 32 := 128#32
  let v1550 : BitVec 32 := Scalar.muli c12_i32_737 c128_i32_738
  v1550
def k0_mult48 : BitVec 32 :=
  let c12_i32_737 : BitVec 32 := 12#32
  let c128_i32_765 : BitVec 32 := 128#32
  let v1611 : BitVec 32 := Scalar.muli c12_i32_737 c128_i32_765
  v1611
def k0_mult49 : BitVec 32 :=
  let c13_i32_773 : BitVec 32 := 13#32
  let c128_i32_774 : BitVec 32 := 128#32
  let v1627 : BitVec 32 := Scalar.muli c13_i32_773 c128_i32_774
  v1627
def k0_mult50 : BitVec 32 :=
  let c13_i32_773 : BitVec 32 := 13#32
  let c128_i32_801 : BitVec 32 := 128#32
  let v1688 : BitVec 32 := Scalar.muli c13_i32_773 c128_i32_801
  v1688
def k0_mult51 : BitVec 32 :=
  let c14_i32_809 : BitVec 32 := 14#32
  let c128_i32_810 : BitVec 32 := 128#32
  let v1704 : BitVec 32 := Scalar.muli c14_i32_809 c128_i32_810
  v1704
def k0_mult52 : BitVec 32 :=
  let c14_i32_809 : BitVec 32 := 14#32
  let c128_i32_837 : BitVec 32 := 128#32
  let v1765 : BitVec 32 := Scalar.muli c14_i32_809 c128_i32_837
  v1765
def k0_mult53 : BitVec 32 :=
  let c15_i32_845 : BitVec 32 := 15#32
  let c128_i32_846 : BitVec 32 := 128#32
  let v1781 : BitVec 32 := Scalar.muli c15_i32_845 c128_i32_846
  v1781
def k0_mult54 : BitVec 32 :=
  let c15_i32_845 : BitVec 32 := 15#32
  let c128_i32_873 : BitVec 32 := 128#32
  let v1842 : BitVec 32 := Scalar.muli c15_i32_845 c128_i32_873
  v1842
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S11x32x2048x1024 : Shape := ⟨4, ![11, 32, 2048, 1024]⟩
abbrev S11x32x256x1024 : Shape := ⟨4, ![11, 32, 256, 1024]⟩
abbrev S2x8 : Shape := ⟨2, ![2, 8]⟩
abbrev S1x1024 : Shape := ⟨2, ![1, 1024]⟩
abbrev S1x32x2048x1024 : Shape := ⟨4, ![1, 32, 2048, 1024]⟩
abbrev S32x2048x1024 : Shape := ⟨3, ![32, 2048, 1024]⟩
abbrev S32x2048x8x128 : Shape := ⟨4, ![32, 2048, 8, 128]⟩
abbrev S32x8x2048x128 : Shape := ⟨4, ![32, 8, 2048, 128]⟩
abbrev S1x32x256x1024 : Shape := ⟨4, ![1, 32, 256, 1024]⟩
abbrev S32x256x1024 : Shape := ⟨3, ![32, 256, 1024]⟩
abbrev S32x256x8x128 : Shape := ⟨4, ![32, 256, 8, 128]⟩
abbrev S32x8x256x128 : Shape := ⟨4, ![32, 8, 256, 128]⟩
abbrev S_ : Shape := ⟨0, ![]⟩
abbrev S32x8x128x128 : Shape := ⟨4, ![32, 8, 128, 128]⟩
abbrev S1x8 : Shape := ⟨2, ![1, 8]⟩
abbrev S8 : Shape := ⟨1, ![8]⟩
abbrev S32x8x2x128x128 : Shape := ⟨5, ![32, 8, 2, 128, 128]⟩
abbrev S128 : Shape := ⟨1, ![128]⟩
abbrev S8x1 : Shape := ⟨2, ![8, 1]⟩
abbrev S1x128 : Shape := ⟨2, ![1, 128]⟩
abbrev S8x128 : Shape := ⟨2, ![8, 128]⟩
abbrev S1x8x1x128x1 : Shape := ⟨5, ![1, 8, 1, 128, 1]⟩
abbrev S8x1x1 : Shape := ⟨3, ![8, 1, 1]⟩
abbrev S1x8x1x1 : Shape := ⟨4, ![1, 8, 1, 1]⟩
abbrev S32x8x1x128x128 : Shape := ⟨5, ![32, 8, 1, 128, 128]⟩
abbrev S32x8x16x128x128 : Shape := ⟨5, ![32, 8, 16, 128, 128]⟩
abbrev S128x1 : Shape := ⟨2, ![128, 1]⟩
abbrev S128x128 : Shape := ⟨2, ![128, 128]⟩
abbrev S1x128x128 : Shape := ⟨3, ![1, 128, 128]⟩
abbrev S8x128x128 : Shape := ⟨3, ![8, 128, 128]⟩
abbrev S8x1x128x128 : Shape := ⟨4, ![8, 1, 128, 128]⟩
abbrev S1x8x1x128x128 : Shape := ⟨5, ![1, 8, 1, 128, 128]⟩
abbrev S8x1x128x1 : Shape := ⟨4, ![8, 1, 128, 1]⟩
abbrev S1024 : Shape := ⟨1, ![1024]⟩
abbrev S32x8x2048 : Shape := ⟨3, ![32, 8, 2048]⟩
abbrev S32x8x2048x1 : Shape := ⟨4, ![32, 8, 2048, 1]⟩
abbrev S1x1x1024 : Shape := ⟨3, ![1, 1, 1024]⟩
abbrev S32x8x256 : Shape := ⟨3, ![32, 8, 256]⟩
abbrev S32x8x256x1 : Shape := ⟨4, ![32, 8, 256, 1]⟩

abbrev nBuf : Space → Nat
  | .hbm => 672
  | .vmem => 0
  | .smem => 0
  | _ => 0

abbrev hbmTy0_0 (i : Nat) : BufTy := match i % 128 with
  | 0 => ⟨S11x32x2048x1024, .bf16⟩
  | 1 => ⟨S11x32x256x1024, .bf16⟩
  | 2 => ⟨S2x8, .f32⟩
  | 3 => ⟨S1x1024, .f32⟩
  | 4 => ⟨S1x32x2048x1024, .bf16⟩
  | 5 => ⟨S32x2048x1024, .bf16⟩
  | 6 => ⟨S32x2048x1024, .f32⟩
  | 7 => ⟨S32x2048x8x128, .f32⟩
  | 8 => ⟨S32x8x2048x128, .f32⟩
  | 9 => ⟨S1x32x2048x1024, .bf16⟩
  | 10 => ⟨S32x2048x1024, .bf16⟩
  | 11 => ⟨S32x2048x1024, .f32⟩
  | 12 => ⟨S32x2048x8x128, .f32⟩
  | 13 => ⟨S32x8x2048x128, .f32⟩
  | 14 => ⟨S1x32x2048x1024, .bf16⟩
  | 15 => ⟨S32x2048x1024, .bf16⟩
  | 16 => ⟨S32x2048x1024, .f32⟩
  | 17 => ⟨S32x2048x8x128, .f32⟩
  | 18 => ⟨S32x8x2048x128, .f32⟩
  | 19 => ⟨S1x32x2048x1024, .bf16⟩
  | 20 => ⟨S32x2048x1024, .bf16⟩
  | 21 => ⟨S32x2048x1024, .f32⟩
  | 22 => ⟨S1x32x256x1024, .bf16⟩
  | 23 => ⟨S32x256x1024, .bf16⟩
  | 24 => ⟨S32x256x1024, .f32⟩
  | 25 => ⟨S32x256x8x128, .f32⟩
  | 26 => ⟨S32x8x256x128, .f32⟩
  | 27 => ⟨S1x32x256x1024, .bf16⟩
  | 28 => ⟨S32x256x1024, .bf16⟩
  | 29 => ⟨S32x256x1024, .f32⟩
  | 30 => ⟨S32x256x8x128, .f32⟩
  | 31 => ⟨S32x8x256x128, .f32⟩
  | 32 => ⟨S1x32x256x1024, .bf16⟩
  | 33 => ⟨S32x256x1024, .bf16⟩
  | 34 => ⟨S32x256x1024, .f32⟩
  | 35 => ⟨S32x256x8x128, .f32⟩
  | 36 => ⟨S32x8x256x128, .f32⟩
  | 37 => ⟨S1x32x256x1024, .bf16⟩
  | 38 => ⟨S32x256x1024, .bf16⟩
  | 39 => ⟨S32x256x1024, .f32⟩
  | 40 => ⟨S_, .f32⟩
  | 41 => ⟨S32x8x128x128, .f32⟩
  | 42 => ⟨S1x8, .f32⟩
  | 43 => ⟨S8, .f32⟩
  | 44 => ⟨S32x8x2x128x128, .f32⟩
  | 45 => ⟨S32x8x2x128x128, .f32⟩
  | 46 => ⟨S128, .i32⟩
  | 47 => ⟨S128, .f32⟩
  | 48 => ⟨S8x1, .f32⟩
  | 49 => ⟨S_, .f32⟩
  | 50 => ⟨S128, .f32⟩
  | 51 => ⟨S128, .f32⟩
  | 52 => ⟨S1x128, .f32⟩
  | 53 => ⟨S8x128, .f32⟩
  | 54 => ⟨S8x128, .f32⟩
  | 55 => ⟨S8x128, .f32⟩
  | 56 => ⟨S8x128, .f32⟩
  | 57 => ⟨S1x8x1x128x1, .f32⟩
  | 58 => ⟨S32x8x2x128x128, .f32⟩
  | 59 => ⟨S32x8x2x128x128, .f32⟩
  | 60 => ⟨S32x8x2x128x128, .f32⟩
  | 61 => ⟨S_, .f32⟩
  | 62 => ⟨S8, .f32⟩
  | 63 => ⟨S8, .f32⟩
  | 64 => ⟨S8, .f32⟩
  | 65 => ⟨S8x1x1, .f32⟩
  | 66 => ⟨S1x8x1x1, .f32⟩
  | 67 => ⟨S32x8x128x128, .f32⟩
  | 68 => ⟨S32x8x128x128, .f32⟩
  | 69 => ⟨S32x8x1x128x128, .f32⟩
  | 70 => ⟨S32x8x128x128, .f32⟩
  | 71 => ⟨S32x8x128x128, .f32⟩
  | 72 => ⟨S1x8x1x1, .f32⟩
  | 73 => ⟨S32x8x128x128, .f32⟩
  | 74 => ⟨S32x8x128x128, .f32⟩
  | 75 => ⟨S32x8x1x128x128, .f32⟩
  | 76 => ⟨S32x8x128x128, .f32⟩
  | 77 => ⟨S32x8x128x128, .f32⟩
  | 78 => ⟨S32x8x1x128x128, .f32⟩
  | 79 => ⟨S32x8x1x128x128, .f32⟩
  | 80 => ⟨S32x8x2x128x128, .f32⟩
  | 81 => ⟨S32x8x16x128x128, .f32⟩
  | 82 => ⟨S32x8x16x128x128, .f32⟩
  | 83 => ⟨S128, .i32⟩
  | 84 => ⟨S128, .f32⟩
  | 85 => ⟨S8x1, .f32⟩
  | 86 => ⟨S_, .f32⟩
  | 87 => ⟨S128, .f32⟩
  | 88 => ⟨S128, .f32⟩
  | 89 => ⟨S1x128, .f32⟩
  | 90 => ⟨S8x128, .f32⟩
  | 91 => ⟨S8x128, .f32⟩
  | 92 => ⟨S8x128, .f32⟩
  | 93 => ⟨S8x128, .f32⟩
  | 94 => ⟨S1x8x1x128x1, .f32⟩
  | 95 => ⟨S32x8x16x128x128, .f32⟩
  | 96 => ⟨S32x8x16x128x128, .f32⟩
  | 97 => ⟨S32x8x16x128x128, .f32⟩
  | 98 => ⟨S_, .f32⟩
  | 99 => ⟨S8, .f32⟩
  | 100 => ⟨S8, .f32⟩
  | 101 => ⟨S8, .f32⟩
  | 102 => ⟨S8x1x1, .f32⟩
  | 103 => ⟨S1x8x1x1, .f32⟩
  | 104 => ⟨S32x8x128x128, .f32⟩
  | 105 => ⟨S32x8x128x128, .f32⟩
  | 106 => ⟨S32x8x1x128x128, .f32⟩
  | 107 => ⟨S32x8x128x128, .f32⟩
  | 108 => ⟨S32x8x128x128, .f32⟩
  | 109 => ⟨S1x8x1x1, .f32⟩
  | 110 => ⟨S32x8x128x128, .f32⟩
  | 111 => ⟨S32x8x128x128, .f32⟩
  | 112 => ⟨S32x8x1x128x128, .f32⟩
  | 113 => ⟨S32x8x128x128, .f32⟩
  | 114 => ⟨S32x8x128x128, .f32⟩
  | 115 => ⟨S1x8x1x1, .f32⟩
  | 116 => ⟨S32x8x128x128, .f32⟩
  | 117 => ⟨S32x8x128x128, .f32⟩
  | 118 => ⟨S32x8x1x128x128, .f32⟩
  | 119 => ⟨S32x8x128x128, .f32⟩
  | 120 => ⟨S32x8x128x128, .f32⟩
  | 121 => ⟨S1x8x1x1, .f32⟩
  | 122 => ⟨S32x8x128x128, .f32⟩
  | 123 => ⟨S32x8x128x128, .f32⟩
  | 124 => ⟨S32x8x1x128x128, .f32⟩
  | 125 => ⟨S32x8x128x128, .f32⟩
  | 126 => ⟨S32x8x128x128, .f32⟩
  | 127 => ⟨S1x8x1x1, .f32⟩
  | _ => ⟨S11x32x2048x1024, .bf16⟩

abbrev hbmTy0_1 (i : Nat) : BufTy := match i % 128 with
  | 0 => ⟨S32x8x128x128, .f32⟩
  | 1 => ⟨S32x8x128x128, .f32⟩
  | 2 => ⟨S32x8x1x128x128, .f32⟩
  | 3 => ⟨S32x8x128x128, .f32⟩
  | 4 => ⟨S32x8x128x128, .f32⟩
  | 5 => ⟨S1x8x1x1, .f32⟩
  | 6 => ⟨S32x8x128x128, .f32⟩
  | 7 => ⟨S32x8x128x128, .f32⟩
  | 8 => ⟨S32x8x1x128x128, .f32⟩
  | 9 => ⟨S32x8x128x128, .f32⟩
  | 10 => ⟨S32x8x128x128, .f32⟩
  | 11 => ⟨S1x8x1x1, .f32⟩
  | 12 => ⟨S32x8x128x128, .f32⟩
  | 13 => ⟨S32x8x128x128, .f32⟩
  | 14 => ⟨S32x8x1x128x128, .f32⟩
  | 15 => ⟨S32x8x128x128, .f32⟩
  | 16 => ⟨S32x8x128x128, .f32⟩
  | 17 => ⟨S1x8x1x1, .f32⟩
  | 18 => ⟨S32x8x128x128, .f32⟩
  | 19 => ⟨S32x8x128x128, .f32⟩
  | 20 => ⟨S32x8x1x128x128, .f32⟩
  | 21 => ⟨S32x8x128x128, .f32⟩
  | 22 => ⟨S32x8x128x128, .f32⟩
  | 23 => ⟨S1x8x1x1, .f32⟩
  | 24 => ⟨S32x8x128x128, .f32⟩
  | 25 => ⟨S32x8x128x128, .f32⟩
  | 26 => ⟨S32x8x1x128x128, .f32⟩
  | 27 => ⟨S32x8x128x128, .f32⟩
  | 28 => ⟨S32x8x128x128, .f32⟩
  | 29 => ⟨S1x8x1x1, .f32⟩
  | 30 => ⟨S32x8x128x128, .f32⟩
  | 31 => ⟨S32x8x128x128, .f32⟩
  | 32 => ⟨S32x8x1x128x128, .f32⟩
  | 33 => ⟨S32x8x128x128, .f32⟩
  | 34 => ⟨S32x8x128x128, .f32⟩
  | 35 => ⟨S1x8x1x1, .f32⟩
  | 36 => ⟨S32x8x128x128, .f32⟩
  | 37 => ⟨S32x8x128x128, .f32⟩
  | 38 => ⟨S32x8x1x128x128, .f32⟩
  | 39 => ⟨S32x8x128x128, .f32⟩
  | 40 => ⟨S32x8x128x128, .f32⟩
  | 41 => ⟨S1x8x1x1, .f32⟩
  | 42 => ⟨S32x8x128x128, .f32⟩
  | 43 => ⟨S32x8x128x128, .f32⟩
  | 44 => ⟨S32x8x1x128x128, .f32⟩
  | 45 => ⟨S32x8x128x128, .f32⟩
  | 46 => ⟨S32x8x128x128, .f32⟩
  | 47 => ⟨S1x8x1x1, .f32⟩
  | 48 => ⟨S32x8x128x128, .f32⟩
  | 49 => ⟨S32x8x128x128, .f32⟩
  | 50 => ⟨S32x8x1x128x128, .f32⟩
  | 51 => ⟨S32x8x128x128, .f32⟩
  | 52 => ⟨S32x8x128x128, .f32⟩
  | 53 => ⟨S1x8x1x1, .f32⟩
  | 54 => ⟨S32x8x128x128, .f32⟩
  | 55 => ⟨S32x8x128x128, .f32⟩
  | 56 => ⟨S32x8x1x128x128, .f32⟩
  | 57 => ⟨S32x8x128x128, .f32⟩
  | 58 => ⟨S32x8x128x128, .f32⟩
  | 59 => ⟨S1x8x1x1, .f32⟩
  | 60 => ⟨S32x8x128x128, .f32⟩
  | 61 => ⟨S32x8x128x128, .f32⟩
  | 62 => ⟨S32x8x1x128x128, .f32⟩
  | 63 => ⟨S32x8x128x128, .f32⟩
  | 64 => ⟨S32x8x128x128, .f32⟩
  | 65 => ⟨S1x8x1x1, .f32⟩
  | 66 => ⟨S32x8x128x128, .f32⟩
  | 67 => ⟨S32x8x128x128, .f32⟩
  | 68 => ⟨S32x8x1x128x128, .f32⟩
  | 69 => ⟨S32x8x128x128, .f32⟩
  | 70 => ⟨S32x8x128x128, .f32⟩
  | 71 => ⟨S32x8x1x128x128, .f32⟩
  | 72 => ⟨S32x8x1x128x128, .f32⟩
  | 73 => ⟨S32x8x1x128x128, .f32⟩
  | 74 => ⟨S32x8x1x128x128, .f32⟩
  | 75 => ⟨S32x8x1x128x128, .f32⟩
  | 76 => ⟨S32x8x1x128x128, .f32⟩
  | 77 => ⟨S32x8x1x128x128, .f32⟩
  | 78 => ⟨S32x8x1x128x128, .f32⟩
  | 79 => ⟨S32x8x1x128x128, .f32⟩
  | 80 => ⟨S32x8x1x128x128, .f32⟩
  | 81 => ⟨S32x8x1x128x128, .f32⟩
  | 82 => ⟨S32x8x1x128x128, .f32⟩
  | 83 => ⟨S32x8x1x128x128, .f32⟩
  | 84 => ⟨S32x8x1x128x128, .f32⟩
  | 85 => ⟨S32x8x1x128x128, .f32⟩
  | 86 => ⟨S32x8x1x128x128, .f32⟩
  | 87 => ⟨S32x8x16x128x128, .f32⟩
  | 88 => ⟨S32x8x16x128x128, .f32⟩
  | 89 => ⟨S32x8x16x128x128, .f32⟩
  | 90 => ⟨S32x8x16x128x128, .f32⟩
  | 91 => ⟨S128, .i32⟩
  | 92 => ⟨S128, .f32⟩
  | 93 => ⟨S128x1, .f32⟩
  | 94 => ⟨S1x128, .f32⟩
  | 95 => ⟨S128x128, .f32⟩
  | 96 => ⟨S128x128, .f32⟩
  | 97 => ⟨S128x128, .f32⟩
  | 98 => ⟨S_, .f32⟩
  | 99 => ⟨S128x128, .f32⟩
  | 100 => ⟨S128x128, .i1⟩
  | 101 => ⟨S8x1x1, .f32⟩
  | 102 => ⟨S_, .f32⟩
  | 103 => ⟨S128x128, .f32⟩
  | 104 => ⟨S128x128, .f32⟩
  | 105 => ⟨S1x128x128, .f32⟩
  | 106 => ⟨S8x128x128, .f32⟩
  | 107 => ⟨S8x128x128, .f32⟩
  | 108 => ⟨S8x128x128, .f32⟩
  | 109 => ⟨S8x128x128, .f32⟩
  | 110 => ⟨S_, .f32⟩
  | 111 => ⟨S_, .f32⟩
  | 112 => ⟨S8x128x128, .i1⟩
  | 113 => ⟨S8x128x128, .f32⟩
  | 114 => ⟨S8x128x128, .f32⟩
  | 115 => ⟨S32x8x16x128x128, .f32⟩
  | 116 => ⟨S8x1x128x128, .f32⟩
  | 117 => ⟨S1x8x1x128x128, .f32⟩
  | 118 => ⟨S32x8x16x128x128, .f32⟩
  | 119 => ⟨S32x8x16x128x128, .f32⟩
  | 120 => ⟨S32x8x16x128x128, .f32⟩
  | 121 => ⟨S8x1, .f32⟩
  | 122 => ⟨S_, .f32⟩
  | 123 => ⟨S128, .f32⟩
  | 124 => ⟨S128, .f32⟩
  | 125 => ⟨S1x128, .f32⟩
  | 126 => ⟨S8x128, .f32⟩
  | 127 => ⟨S8x128, .f32⟩
  | _ => ⟨S11x32x2048x1024, .bf16⟩

abbrev hbmTy0_2 (i : Nat) : BufTy := match i % 128 with
  | 0 => ⟨S8x128, .f32⟩
  | 1 => ⟨S8x128, .f32⟩
  | 2 => ⟨S32x8x16x128x128, .f32⟩
  | 3 => ⟨S8x1x128x1, .f32⟩
  | 4 => ⟨S1x8x1x128x1, .f32⟩
  | 5 => ⟨S32x8x16x128x128, .f32⟩
  | 6 => ⟨S32x8x16x128x128, .f32⟩
  | 7 => ⟨S32x8x16x128x128, .f32⟩
  | 8 => ⟨S32x8x2048x128, .f32⟩
  | 9 => ⟨S32x8x2x128x128, .f32⟩
  | 10 => ⟨S32x8x2x128x128, .f32⟩
  | 11 => ⟨S32x8x2x128x128, .f32⟩
  | 12 => ⟨S128, .i32⟩
  | 13 => ⟨S128, .f32⟩
  | 14 => ⟨S128x1, .f32⟩
  | 15 => ⟨S1x128, .f32⟩
  | 16 => ⟨S128x128, .f32⟩
  | 17 => ⟨S128x128, .f32⟩
  | 18 => ⟨S128x128, .f32⟩
  | 19 => ⟨S_, .f32⟩
  | 20 => ⟨S128x128, .f32⟩
  | 21 => ⟨S128x128, .i1⟩
  | 22 => ⟨S8x1x1, .f32⟩
  | 23 => ⟨S_, .f32⟩
  | 24 => ⟨S128x128, .f32⟩
  | 25 => ⟨S128x128, .f32⟩
  | 26 => ⟨S1x128x128, .f32⟩
  | 27 => ⟨S8x128x128, .f32⟩
  | 28 => ⟨S8x128x128, .f32⟩
  | 29 => ⟨S8x128x128, .f32⟩
  | 30 => ⟨S8x128x128, .f32⟩
  | 31 => ⟨S_, .f32⟩
  | 32 => ⟨S_, .f32⟩
  | 33 => ⟨S8x128x128, .i1⟩
  | 34 => ⟨S8x128x128, .f32⟩
  | 35 => ⟨S8x128x128, .f32⟩
  | 36 => ⟨S32x8x2x128x128, .f32⟩
  | 37 => ⟨S8x1x128x128, .f32⟩
  | 38 => ⟨S1x8x1x128x128, .f32⟩
  | 39 => ⟨S32x8x2x128x128, .f32⟩
  | 40 => ⟨S32x8x2x128x128, .f32⟩
  | 41 => ⟨S32x8x2x128x128, .f32⟩
  | 42 => ⟨S8x1, .f32⟩
  | 43 => ⟨S_, .f32⟩
  | 44 => ⟨S128, .f32⟩
  | 45 => ⟨S128, .f32⟩
  | 46 => ⟨S1x128, .f32⟩
  | 47 => ⟨S8x128, .f32⟩
  | 48 => ⟨S8x128, .f32⟩
  | 49 => ⟨S8x128, .f32⟩
  | 50 => ⟨S8x128, .f32⟩
  | 51 => ⟨S32x8x2x128x128, .f32⟩
  | 52 => ⟨S8x1x128x1, .f32⟩
  | 53 => ⟨S1x8x1x128x1, .f32⟩
  | 54 => ⟨S32x8x2x128x128, .f32⟩
  | 55 => ⟨S32x8x2x128x128, .f32⟩
  | 56 => ⟨S32x8x2x128x128, .f32⟩
  | 57 => ⟨S32x8x256x128, .f32⟩
  | 58 => ⟨S1x8, .f32⟩
  | 59 => ⟨S8, .f32⟩
  | 60 => ⟨S32x8x256x128, .f32⟩
  | 61 => ⟨S32x8x256x128, .f32⟩
  | 62 => ⟨S32x8x2048x128, .f32⟩
  | 63 => ⟨S32x8x2048x128, .f32⟩
  | 64 => ⟨S32x8x2x128x128, .f32⟩
  | 65 => ⟨S32x8x2x128x128, .f32⟩
  | 66 => ⟨S128, .i32⟩
  | 67 => ⟨S128, .f32⟩
  | 68 => ⟨S8x1, .f32⟩
  | 69 => ⟨S_, .f32⟩
  | 70 => ⟨S128, .f32⟩
  | 71 => ⟨S128, .f32⟩
  | 72 => ⟨S1x128, .f32⟩
  | 73 => ⟨S8x128, .f32⟩
  | 74 => ⟨S8x128, .f32⟩
  | 75 => ⟨S8x128, .f32⟩
  | 76 => ⟨S8x128, .f32⟩
  | 77 => ⟨S1x8x1x128x1, .f32⟩
  | 78 => ⟨S32x8x2x128x128, .f32⟩
  | 79 => ⟨S32x8x2x128x128, .f32⟩
  | 80 => ⟨S32x8x2x128x128, .f32⟩
  | 81 => ⟨S_, .f32⟩
  | 82 => ⟨S8, .f32⟩
  | 83 => ⟨S8, .f32⟩
  | 84 => ⟨S8, .f32⟩
  | 85 => ⟨S8x1x1, .f32⟩
  | 86 => ⟨S1x8x1x1, .f32⟩
  | 87 => ⟨S32x8x128x128, .f32⟩
  | 88 => ⟨S32x8x128x128, .f32⟩
  | 89 => ⟨S32x8x1x128x128, .f32⟩
  | 90 => ⟨S32x8x128x128, .f32⟩
  | 91 => ⟨S32x8x128x128, .f32⟩
  | 92 => ⟨S1x8x1x1, .f32⟩
  | 93 => ⟨S32x8x128x128, .f32⟩
  | 94 => ⟨S32x8x128x128, .f32⟩
  | 95 => ⟨S32x8x1x128x128, .f32⟩
  | 96 => ⟨S32x8x128x128, .f32⟩
  | 97 => ⟨S32x8x128x128, .f32⟩
  | 98 => ⟨S32x8x1x128x128, .f32⟩
  | 99 => ⟨S32x8x1x128x128, .f32⟩
  | 100 => ⟨S32x8x2x128x128, .f32⟩
  | 101 => ⟨S32x8x16x128x128, .f32⟩
  | 102 => ⟨S32x8x16x128x128, .f32⟩
  | 103 => ⟨S128, .i32⟩
  | 104 => ⟨S128, .f32⟩
  | 105 => ⟨S8x1, .f32⟩
  | 106 => ⟨S_, .f32⟩
  | 107 => ⟨S128, .f32⟩
  | 108 => ⟨S128, .f32⟩
  | 109 => ⟨S1x128, .f32⟩
  | 110 => ⟨S8x128, .f32⟩
  | 111 => ⟨S8x128, .f32⟩
  | 112 => ⟨S8x128, .f32⟩
  | 113 => ⟨S8x128, .f32⟩
  | 114 => ⟨S1x8x1x128x1, .f32⟩
  | 115 => ⟨S32x8x16x128x128, .f32⟩
  | 116 => ⟨S32x8x16x128x128, .f32⟩
  | 117 => ⟨S32x8x16x128x128, .f32⟩
  | 118 => ⟨S_, .f32⟩
  | 119 => ⟨S8, .f32⟩
  | 120 => ⟨S8, .f32⟩
  | 121 => ⟨S8, .f32⟩
  | 122 => ⟨S8x1x1, .f32⟩
  | 123 => ⟨S1x8x1x1, .f32⟩
  | 124 => ⟨S32x8x128x128, .f32⟩
  | 125 => ⟨S32x8x128x128, .f32⟩
  | 126 => ⟨S32x8x1x128x128, .f32⟩
  | 127 => ⟨S32x8x128x128, .f32⟩
  | _ => ⟨S11x32x2048x1024, .bf16⟩

abbrev hbmTy0_3 (i : Nat) : BufTy := match i % 128 with
  | 0 => ⟨S32x8x128x128, .f32⟩
  | 1 => ⟨S1x8x1x1, .f32⟩
  | 2 => ⟨S32x8x128x128, .f32⟩
  | 3 => ⟨S32x8x128x128, .f32⟩
  | 4 => ⟨S32x8x1x128x128, .f32⟩
  | 5 => ⟨S32x8x128x128, .f32⟩
  | 6 => ⟨S32x8x128x128, .f32⟩
  | 7 => ⟨S1x8x1x1, .f32⟩
  | 8 => ⟨S32x8x128x128, .f32⟩
  | 9 => ⟨S32x8x128x128, .f32⟩
  | 10 => ⟨S32x8x1x128x128, .f32⟩
  | 11 => ⟨S32x8x128x128, .f32⟩
  | 12 => ⟨S32x8x128x128, .f32⟩
  | 13 => ⟨S1x8x1x1, .f32⟩
  | 14 => ⟨S32x8x128x128, .f32⟩
  | 15 => ⟨S32x8x128x128, .f32⟩
  | 16 => ⟨S32x8x1x128x128, .f32⟩
  | 17 => ⟨S32x8x128x128, .f32⟩
  | 18 => ⟨S32x8x128x128, .f32⟩
  | 19 => ⟨S1x8x1x1, .f32⟩
  | 20 => ⟨S32x8x128x128, .f32⟩
  | 21 => ⟨S32x8x128x128, .f32⟩
  | 22 => ⟨S32x8x1x128x128, .f32⟩
  | 23 => ⟨S32x8x128x128, .f32⟩
  | 24 => ⟨S32x8x128x128, .f32⟩
  | 25 => ⟨S1x8x1x1, .f32⟩
  | 26 => ⟨S32x8x128x128, .f32⟩
  | 27 => ⟨S32x8x128x128, .f32⟩
  | 28 => ⟨S32x8x1x128x128, .f32⟩
  | 29 => ⟨S32x8x128x128, .f32⟩
  | 30 => ⟨S32x8x128x128, .f32⟩
  | 31 => ⟨S1x8x1x1, .f32⟩
  | 32 => ⟨S32x8x128x128, .f32⟩
  | 33 => ⟨S32x8x128x128, .f32⟩
  | 34 => ⟨S32x8x1x128x128, .f32⟩
  | 35 => ⟨S32x8x128x128, .f32⟩
  | 36 => ⟨S32x8x128x128, .f32⟩
  | 37 => ⟨S1x8x1x1, .f32⟩
  | 38 => ⟨S32x8x128x128, .f32⟩
  | 39 => ⟨S32x8x128x128, .f32⟩
  | 40 => ⟨S32x8x1x128x128, .f32⟩
  | 41 => ⟨S32x8x128x128, .f32⟩
  | 42 => ⟨S32x8x128x128, .f32⟩
  | 43 => ⟨S1x8x1x1, .f32⟩
  | 44 => ⟨S32x8x128x128, .f32⟩
  | 45 => ⟨S32x8x128x128, .f32⟩
  | 46 => ⟨S32x8x1x128x128, .f32⟩
  | 47 => ⟨S32x8x128x128, .f32⟩
  | 48 => ⟨S32x8x128x128, .f32⟩
  | 49 => ⟨S1x8x1x1, .f32⟩
  | 50 => ⟨S32x8x128x128, .f32⟩
  | 51 => ⟨S32x8x128x128, .f32⟩
  | 52 => ⟨S32x8x1x128x128, .f32⟩
  | 53 => ⟨S32x8x128x128, .f32⟩
  | 54 => ⟨S32x8x128x128, .f32⟩
  | 55 => ⟨S1x8x1x1, .f32⟩
  | 56 => ⟨S32x8x128x128, .f32⟩
  | 57 => ⟨S32x8x128x128, .f32⟩
  | 58 => ⟨S32x8x1x128x128, .f32⟩
  | 59 => ⟨S32x8x128x128, .f32⟩
  | 60 => ⟨S32x8x128x128, .f32⟩
  | 61 => ⟨S1x8x1x1, .f32⟩
  | 62 => ⟨S32x8x128x128, .f32⟩
  | 63 => ⟨S32x8x128x128, .f32⟩
  | 64 => ⟨S32x8x1x128x128, .f32⟩
  | 65 => ⟨S32x8x128x128, .f32⟩
  | 66 => ⟨S32x8x128x128, .f32⟩
  | 67 => ⟨S1x8x1x1, .f32⟩
  | 68 => ⟨S32x8x128x128, .f32⟩
  | 69 => ⟨S32x8x128x128, .f32⟩
  | 70 => ⟨S32x8x1x128x128, .f32⟩
  | 71 => ⟨S32x8x128x128, .f32⟩
  | 72 => ⟨S32x8x128x128, .f32⟩
  | 73 => ⟨S1x8x1x1, .f32⟩
  | 74 => ⟨S32x8x128x128, .f32⟩
  | 75 => ⟨S32x8x128x128, .f32⟩
  | 76 => ⟨S32x8x1x128x128, .f32⟩
  | 77 => ⟨S32x8x128x128, .f32⟩
  | 78 => ⟨S32x8x128x128, .f32⟩
  | 79 => ⟨S1x8x1x1, .f32⟩
  | 80 => ⟨S32x8x128x128, .f32⟩
  | 81 => ⟨S32x8x128x128, .f32⟩
  | 82 => ⟨S32x8x1x128x128, .f32⟩
  | 83 => ⟨S32x8x128x128, .f32⟩
  | 84 => ⟨S32x8x128x128, .f32⟩
  | 85 => ⟨S1x8x1x1, .f32⟩
  | 86 => ⟨S32x8x128x128, .f32⟩
  | 87 => ⟨S32x8x128x128, .f32⟩
  | 88 => ⟨S32x8x1x128x128, .f32⟩
  | 89 => ⟨S32x8x128x128, .f32⟩
  | 90 => ⟨S32x8x128x128, .f32⟩
  | 91 => ⟨S32x8x1x128x128, .f32⟩
  | 92 => ⟨S32x8x1x128x128, .f32⟩
  | 93 => ⟨S32x8x1x128x128, .f32⟩
  | 94 => ⟨S32x8x1x128x128, .f32⟩
  | 95 => ⟨S32x8x1x128x128, .f32⟩
  | 96 => ⟨S32x8x1x128x128, .f32⟩
  | 97 => ⟨S32x8x1x128x128, .f32⟩
  | 98 => ⟨S32x8x1x128x128, .f32⟩
  | 99 => ⟨S32x8x1x128x128, .f32⟩
  | 100 => ⟨S32x8x1x128x128, .f32⟩
  | 101 => ⟨S32x8x1x128x128, .f32⟩
  | 102 => ⟨S32x8x1x128x128, .f32⟩
  | 103 => ⟨S32x8x1x128x128, .f32⟩
  | 104 => ⟨S32x8x1x128x128, .f32⟩
  | 105 => ⟨S32x8x1x128x128, .f32⟩
  | 106 => ⟨S32x8x1x128x128, .f32⟩
  | 107 => ⟨S32x8x16x128x128, .f32⟩
  | 108 => ⟨S32x8x2048x128, .f32⟩
  | 109 => ⟨S32x8x16x128x128, .f32⟩
  | 110 => ⟨S32x8x16x128x128, .f32⟩
  | 111 => ⟨S32x8x16x128x128, .f32⟩
  | 112 => ⟨S128, .i32⟩
  | 113 => ⟨S128, .f32⟩
  | 114 => ⟨S128x1, .f32⟩
  | 115 => ⟨S1x128, .f32⟩
  | 116 => ⟨S128x128, .f32⟩
  | 117 => ⟨S128x128, .f32⟩
  | 118 => ⟨S128x128, .f32⟩
  | 119 => ⟨S_, .f32⟩
  | 120 => ⟨S128x128, .f32⟩
  | 121 => ⟨S128x128, .i1⟩
  | 122 => ⟨S8x1x1, .f32⟩
  | 123 => ⟨S_, .f32⟩
  | 124 => ⟨S128x128, .f32⟩
  | 125 => ⟨S128x128, .f32⟩
  | 126 => ⟨S1x128x128, .f32⟩
  | 127 => ⟨S8x128x128, .f32⟩
  | _ => ⟨S11x32x2048x1024, .bf16⟩

abbrev hbmTy0_4 (i : Nat) : BufTy := match i % 128 with
  | 0 => ⟨S8x128x128, .f32⟩
  | 1 => ⟨S8x128x128, .f32⟩
  | 2 => ⟨S8x128x128, .f32⟩
  | 3 => ⟨S_, .f32⟩
  | 4 => ⟨S_, .f32⟩
  | 5 => ⟨S8x128x128, .i1⟩
  | 6 => ⟨S8x128x128, .f32⟩
  | 7 => ⟨S8x128x128, .f32⟩
  | 8 => ⟨S32x8x16x128x128, .f32⟩
  | 9 => ⟨S8x1x128x128, .f32⟩
  | 10 => ⟨S1x8x1x128x128, .f32⟩
  | 11 => ⟨S32x8x16x128x128, .f32⟩
  | 12 => ⟨S32x8x16x128x128, .f32⟩
  | 13 => ⟨S32x8x16x128x128, .f32⟩
  | 14 => ⟨S8x1, .f32⟩
  | 15 => ⟨S_, .f32⟩
  | 16 => ⟨S128, .f32⟩
  | 17 => ⟨S128, .f32⟩
  | 18 => ⟨S1x128, .f32⟩
  | 19 => ⟨S8x128, .f32⟩
  | 20 => ⟨S8x128, .f32⟩
  | 21 => ⟨S8x128, .f32⟩
  | 22 => ⟨S8x128, .f32⟩
  | 23 => ⟨S32x8x16x128x128, .f32⟩
  | 24 => ⟨S8x1x128x1, .f32⟩
  | 25 => ⟨S1x8x1x128x1, .f32⟩
  | 26 => ⟨S32x8x16x128x128, .f32⟩
  | 27 => ⟨S32x8x16x128x128, .f32⟩
  | 28 => ⟨S32x8x16x128x128, .f32⟩
  | 29 => ⟨S32x8x2048x128, .f32⟩
  | 30 => ⟨S32x8x2048x128, .f32⟩
  | 31 => ⟨S32x8x256x128, .f32⟩
  | 32 => ⟨S32x8x2x128x128, .f32⟩
  | 33 => ⟨S32x8x2x128x128, .f32⟩
  | 34 => ⟨S32x8x2x128x128, .f32⟩
  | 35 => ⟨S128, .i32⟩
  | 36 => ⟨S128, .f32⟩
  | 37 => ⟨S128x1, .f32⟩
  | 38 => ⟨S1x128, .f32⟩
  | 39 => ⟨S128x128, .f32⟩
  | 40 => ⟨S128x128, .f32⟩
  | 41 => ⟨S128x128, .f32⟩
  | 42 => ⟨S_, .f32⟩
  | 43 => ⟨S128x128, .f32⟩
  | 44 => ⟨S128x128, .i1⟩
  | 45 => ⟨S8x1x1, .f32⟩
  | 46 => ⟨S_, .f32⟩
  | 47 => ⟨S128x128, .f32⟩
  | 48 => ⟨S128x128, .f32⟩
  | 49 => ⟨S1x128x128, .f32⟩
  | 50 => ⟨S8x128x128, .f32⟩
  | 51 => ⟨S8x128x128, .f32⟩
  | 52 => ⟨S8x128x128, .f32⟩
  | 53 => ⟨S8x128x128, .f32⟩
  | 54 => ⟨S_, .f32⟩
  | 55 => ⟨S_, .f32⟩
  | 56 => ⟨S8x128x128, .i1⟩
  | 57 => ⟨S8x128x128, .f32⟩
  | 58 => ⟨S8x128x128, .f32⟩
  | 59 => ⟨S32x8x2x128x128, .f32⟩
  | 60 => ⟨S8x1x128x128, .f32⟩
  | 61 => ⟨S1x8x1x128x128, .f32⟩
  | 62 => ⟨S32x8x2x128x128, .f32⟩
  | 63 => ⟨S32x8x2x128x128, .f32⟩
  | 64 => ⟨S32x8x2x128x128, .f32⟩
  | 65 => ⟨S8x1, .f32⟩
  | 66 => ⟨S_, .f32⟩
  | 67 => ⟨S128, .f32⟩
  | 68 => ⟨S128, .f32⟩
  | 69 => ⟨S1x128, .f32⟩
  | 70 => ⟨S8x128, .f32⟩
  | 71 => ⟨S8x128, .f32⟩
  | 72 => ⟨S8x128, .f32⟩
  | 73 => ⟨S8x128, .f32⟩
  | 74 => ⟨S32x8x2x128x128, .f32⟩
  | 75 => ⟨S8x1x128x1, .f32⟩
  | 76 => ⟨S1x8x1x128x1, .f32⟩
  | 77 => ⟨S32x8x2x128x128, .f32⟩
  | 78 => ⟨S32x8x2x128x128, .f32⟩
  | 79 => ⟨S32x8x2x128x128, .f32⟩
  | 80 => ⟨S32x8x256x128, .f32⟩
  | 81 => ⟨S32x8x256x128, .f32⟩
  | 82 => ⟨S32x8x2048x128, .f32⟩
  | 83 => ⟨S32x8x256x128, .f32⟩
  | 84 => ⟨S1024, .f32⟩
  | 85 => ⟨S_, .f32⟩
  | 86 => ⟨S32x8x2048, .f32⟩
  | 87 => ⟨S32x8x2048x1, .f32⟩
  | 88 => ⟨S_, .f32⟩
  | 89 => ⟨S32x8x2048x1, .f32⟩
  | 90 => ⟨S32x8x2048x1, .f32⟩
  | 91 => ⟨S32x8x2048x128, .f32⟩
  | 92 => ⟨S32x8x2048x128, .f32⟩
  | 93 => ⟨S32x8x2048x128, .f32⟩
  | 94 => ⟨S_, .f32⟩
  | 95 => ⟨S32x8x2048, .f32⟩
  | 96 => ⟨S32x8x2048x1, .f32⟩
  | 97 => ⟨S_, .f32⟩
  | 98 => ⟨S32x8x2048x1, .f32⟩
  | 99 => ⟨S32x8x2048x1, .f32⟩
  | 100 => ⟨S_, .f32⟩
  | 101 => ⟨S32x8x2048x1, .f32⟩
  | 102 => ⟨S32x8x2048x1, .f32⟩
  | 103 => ⟨S32x8x2048x1, .f32⟩
  | 104 => ⟨S32x8x2048x128, .f32⟩
  | 105 => ⟨S32x8x2048x128, .f32⟩
  | 106 => ⟨S32x2048x8x128, .f32⟩
  | 107 => ⟨S32x2048x1024, .f32⟩
  | 108 => ⟨S1x1x1024, .f32⟩
  | 109 => ⟨S32x2048x1024, .f32⟩
  | 110 => ⟨S32x2048x1024, .f32⟩
  | 111 => ⟨S32x2048x1024, .f32⟩
  | 112 => ⟨S32x2048x1024, .f32⟩
  | 113 => ⟨S_, .f32⟩
  | 114 => ⟨S32x2048x1024, .f32⟩
  | 115 => ⟨S32x2048x1024, .f32⟩
  | 116 => ⟨S_, .f32⟩
  | 117 => ⟨S32x2048x1024, .f32⟩
  | 118 => ⟨S32x2048x1024, .f32⟩
  | 119 => ⟨S32x2048x1024, .f32⟩
  | 120 => ⟨S32x2048x1024, .f32⟩
  | 121 => ⟨S1024, .f32⟩
  | 122 => ⟨S_, .f32⟩
  | 123 => ⟨S32x8x256, .f32⟩
  | 124 => ⟨S32x8x256x1, .f32⟩
  | 125 => ⟨S_, .f32⟩
  | 126 => ⟨S32x8x256x1, .f32⟩
  | 127 => ⟨S32x8x256x1, .f32⟩
  | _ => ⟨S11x32x2048x1024, .bf16⟩

abbrev hbmTy0_5 (i : Nat) : BufTy := match i % 128 with
  | 0 => ⟨S32x8x256x128, .f32⟩
  | 1 => ⟨S32x8x256x128, .f32⟩
  | 2 => ⟨S32x8x256x128, .f32⟩
  | 3 => ⟨S_, .f32⟩
  | 4 => ⟨S32x8x256, .f32⟩
  | 5 => ⟨S32x8x256x1, .f32⟩
  | 6 => ⟨S_, .f32⟩
  | 7 => ⟨S32x8x256x1, .f32⟩
  | 8 => ⟨S32x8x256x1, .f32⟩
  | 9 => ⟨S_, .f32⟩
  | 10 => ⟨S32x8x256x1, .f32⟩
  | 11 => ⟨S32x8x256x1, .f32⟩
  | 12 => ⟨S32x8x256x1, .f32⟩
  | 13 => ⟨S32x8x256x128, .f32⟩
  | 14 => ⟨S32x8x256x128, .f32⟩
  | 15 => ⟨S32x256x8x128, .f32⟩
  | 16 => ⟨S32x256x1024, .f32⟩
  | 17 => ⟨S1x1x1024, .f32⟩
  | 18 => ⟨S32x256x1024, .f32⟩
  | 19 => ⟨S32x256x1024, .f32⟩
  | 20 => ⟨S32x256x1024, .f32⟩
  | 21 => ⟨S32x256x1024, .f32⟩
  | 22 => ⟨S_, .f32⟩
  | 23 => ⟨S32x256x1024, .f32⟩
  | 24 => ⟨S32x256x1024, .f32⟩
  | 25 => ⟨S_, .f32⟩
  | 26 => ⟨S32x256x1024, .f32⟩
  | 27 => ⟨S32x256x1024, .f32⟩
  | 28 => ⟨S32x256x1024, .f32⟩
  | 29 => ⟨S32x256x1024, .f32⟩
  | 30 => ⟨S32x2048x1024, .bf16⟩
  | 31 => ⟨S32x256x1024, .bf16⟩
  | _ => ⟨S11x32x2048x1024, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S11x32x2048x1024, .bf16⟩

abbrev bufTy : (tb : Table) → Fin (tcTables nBuf tb) → BufTy
  | .hbm, ⟨i, _⟩ => hbmTy i
  | _, _ => ⟨S11x32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_0 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_cst_1 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_cst_2 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_cst_3 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_cst_4 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_cst_5 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_cst_6 : Ref sig .tc := ⟨.hbm, 238, rfl⟩
abbrev main_call0_v0 : Ref sig .tc := ⟨.hbm, 239, rfl⟩
abbrev main_call0_v1 : Ref sig .tc := ⟨.hbm, 240, rfl⟩
abbrev main_call0_v2 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_cst_7 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_cst_8 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_cst_9 : Ref sig .tc := ⟨.hbm, 279, rfl⟩
abbrev main_v262 : Ref sig .tc := ⟨.hbm, 280, rfl⟩
abbrev main_v263 : Ref sig .tc := ⟨.hbm, 281, rfl⟩
abbrev main_v264 : Ref sig .tc := ⟨.hbm, 282, rfl⟩
abbrev main_v265 : Ref sig .tc := ⟨.hbm, 283, rfl⟩
abbrev main_v266 : Ref sig .tc := ⟨.hbm, 284, rfl⟩
abbrev main_v267 : Ref sig .tc := ⟨.hbm, 285, rfl⟩
abbrev main_v268 : Ref sig .tc := ⟨.hbm, 286, rfl⟩
abbrev main_cst_10 : Ref sig .tc := ⟨.hbm, 287, rfl⟩
abbrev main_call1_v0 : Ref sig .tc := ⟨.hbm, 288, rfl⟩
abbrev main_call1_v1 : Ref sig .tc := ⟨.hbm, 289, rfl⟩
abbrev main_call1_v2 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_cst_11 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_v283 : Ref sig .tc := ⟨.hbm, 306, rfl⟩
abbrev main_v284 : Ref sig .tc := ⟨.hbm, 307, rfl⟩
abbrev main_v285 : Ref sig .tc := ⟨.hbm, 308, rfl⟩
abbrev main_v286 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_v295 : Ref sig .tc := ⟨.hbm, 318, rfl⟩
abbrev main_v296 : Ref sig .tc := ⟨.hbm, 319, rfl⟩
abbrev main_v297 : Ref sig .tc := ⟨.hbm, 320, rfl⟩
abbrev main_v298 : Ref sig .tc := ⟨.hbm, 321, rfl⟩
abbrev main_v299 : Ref sig .tc := ⟨.hbm, 322, rfl⟩
abbrev main_v300 : Ref sig .tc := ⟨.hbm, 323, rfl⟩
abbrev main_v301 : Ref sig .tc := ⟨.hbm, 324, rfl⟩
abbrev main_cst_12 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_cst_13 : Ref sig .tc := ⟨.hbm, 337, rfl⟩
abbrev main_v313 : Ref sig .tc := ⟨.hbm, 338, rfl⟩
abbrev main_v314 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_v319 : Ref sig .tc := ⟨.hbm, 344, rfl⟩
abbrev main_v320 : Ref sig .tc := ⟨.hbm, 345, rfl⟩
abbrev main_v321 : Ref sig .tc := ⟨.hbm, 346, rfl⟩
abbrev main_v322 : Ref sig .tc := ⟨.hbm, 347, rfl⟩
abbrev main_v323 : Ref sig .tc := ⟨.hbm, 348, rfl⟩
abbrev main_v324 : Ref sig .tc := ⟨.hbm, 349, rfl⟩
abbrev main_v325 : Ref sig .tc := ⟨.hbm, 350, rfl⟩
abbrev main_v326 : Ref sig .tc := ⟨.hbm, 351, rfl⟩
abbrev main_v327 : Ref sig .tc := ⟨.hbm, 352, rfl⟩
abbrev main_v328 : Ref sig .tc := ⟨.hbm, 353, rfl⟩
abbrev main_v329 : Ref sig .tc := ⟨.hbm, 354, rfl⟩
abbrev main_v330 : Ref sig .tc := ⟨.hbm, 355, rfl⟩
abbrev main_v331 : Ref sig .tc := ⟨.hbm, 356, rfl⟩
abbrev main_v332 : Ref sig .tc := ⟨.hbm, 357, rfl⟩
abbrev main_v333 : Ref sig .tc := ⟨.hbm, 358, rfl⟩
abbrev main_v334 : Ref sig .tc := ⟨.hbm, 359, rfl⟩
abbrev main_v335 : Ref sig .tc := ⟨.hbm, 360, rfl⟩
abbrev main_v336 : Ref sig .tc := ⟨.hbm, 361, rfl⟩
abbrev main_cst_14 : Ref sig .tc := ⟨.hbm, 362, rfl⟩
abbrev main_v337 : Ref sig .tc := ⟨.hbm, 363, rfl⟩
abbrev main_v338 : Ref sig .tc := ⟨.hbm, 364, rfl⟩
abbrev main_v339 : Ref sig .tc := ⟨.hbm, 365, rfl⟩
abbrev main_v340 : Ref sig .tc := ⟨.hbm, 366, rfl⟩
abbrev main_v341 : Ref sig .tc := ⟨.hbm, 367, rfl⟩
abbrev main_v342 : Ref sig .tc := ⟨.hbm, 368, rfl⟩
abbrev main_v343 : Ref sig .tc := ⟨.hbm, 369, rfl⟩
abbrev main_v344 : Ref sig .tc := ⟨.hbm, 370, rfl⟩
abbrev main_v345 : Ref sig .tc := ⟨.hbm, 371, rfl⟩
abbrev main_v346 : Ref sig .tc := ⟨.hbm, 372, rfl⟩
abbrev main_v347 : Ref sig .tc := ⟨.hbm, 373, rfl⟩
abbrev main_cst_15 : Ref sig .tc := ⟨.hbm, 374, rfl⟩
abbrev main_v348 : Ref sig .tc := ⟨.hbm, 375, rfl⟩
abbrev main_v349 : Ref sig .tc := ⟨.hbm, 376, rfl⟩
abbrev main_v350 : Ref sig .tc := ⟨.hbm, 377, rfl⟩
abbrev main_v351 : Ref sig .tc := ⟨.hbm, 378, rfl⟩
abbrev main_v352 : Ref sig .tc := ⟨.hbm, 379, rfl⟩
abbrev main_v353 : Ref sig .tc := ⟨.hbm, 380, rfl⟩
abbrev main_v354 : Ref sig .tc := ⟨.hbm, 381, rfl⟩
abbrev main_v355 : Ref sig .tc := ⟨.hbm, 382, rfl⟩
abbrev main_v356 : Ref sig .tc := ⟨.hbm, 383, rfl⟩
abbrev main_v357 : Ref sig .tc := ⟨.hbm, 384, rfl⟩
abbrev main_v358 : Ref sig .tc := ⟨.hbm, 385, rfl⟩
abbrev main_v359 : Ref sig .tc := ⟨.hbm, 386, rfl⟩
abbrev main_v360 : Ref sig .tc := ⟨.hbm, 387, rfl⟩
abbrev main_v361 : Ref sig .tc := ⟨.hbm, 388, rfl⟩
abbrev main_v362 : Ref sig .tc := ⟨.hbm, 389, rfl⟩
abbrev main_v363 : Ref sig .tc := ⟨.hbm, 390, rfl⟩
abbrev main_v364 : Ref sig .tc := ⟨.hbm, 391, rfl⟩
abbrev main_v365 : Ref sig .tc := ⟨.hbm, 392, rfl⟩
abbrev main_v366 : Ref sig .tc := ⟨.hbm, 393, rfl⟩
abbrev main_v367 : Ref sig .tc := ⟨.hbm, 394, rfl⟩
abbrev main_v368 : Ref sig .tc := ⟨.hbm, 395, rfl⟩
abbrev main_v369 : Ref sig .tc := ⟨.hbm, 396, rfl⟩
abbrev main_v370 : Ref sig .tc := ⟨.hbm, 397, rfl⟩
abbrev main_v371 : Ref sig .tc := ⟨.hbm, 398, rfl⟩
abbrev main_v372 : Ref sig .tc := ⟨.hbm, 399, rfl⟩
abbrev main_v373 : Ref sig .tc := ⟨.hbm, 400, rfl⟩
abbrev main_v374 : Ref sig .tc := ⟨.hbm, 401, rfl⟩
abbrev main_v375 : Ref sig .tc := ⟨.hbm, 402, rfl⟩
abbrev main_v376 : Ref sig .tc := ⟨.hbm, 403, rfl⟩
abbrev main_v377 : Ref sig .tc := ⟨.hbm, 404, rfl⟩
abbrev main_v378 : Ref sig .tc := ⟨.hbm, 405, rfl⟩
abbrev main_v379 : Ref sig .tc := ⟨.hbm, 406, rfl⟩
abbrev main_v380 : Ref sig .tc := ⟨.hbm, 407, rfl⟩
abbrev main_v381 : Ref sig .tc := ⟨.hbm, 408, rfl⟩
abbrev main_v382 : Ref sig .tc := ⟨.hbm, 409, rfl⟩
abbrev main_v383 : Ref sig .tc := ⟨.hbm, 410, rfl⟩
abbrev main_v384 : Ref sig .tc := ⟨.hbm, 411, rfl⟩
abbrev main_v385 : Ref sig .tc := ⟨.hbm, 412, rfl⟩
abbrev main_v386 : Ref sig .tc := ⟨.hbm, 413, rfl⟩
abbrev main_v387 : Ref sig .tc := ⟨.hbm, 414, rfl⟩
abbrev main_v388 : Ref sig .tc := ⟨.hbm, 415, rfl⟩
abbrev main_v389 : Ref sig .tc := ⟨.hbm, 416, rfl⟩
abbrev main_v390 : Ref sig .tc := ⟨.hbm, 417, rfl⟩
abbrev main_v391 : Ref sig .tc := ⟨.hbm, 418, rfl⟩
abbrev main_v392 : Ref sig .tc := ⟨.hbm, 419, rfl⟩
abbrev main_v393 : Ref sig .tc := ⟨.hbm, 420, rfl⟩
abbrev main_v394 : Ref sig .tc := ⟨.hbm, 421, rfl⟩
abbrev main_v395 : Ref sig .tc := ⟨.hbm, 422, rfl⟩
abbrev main_v396 : Ref sig .tc := ⟨.hbm, 423, rfl⟩
abbrev main_v397 : Ref sig .tc := ⟨.hbm, 424, rfl⟩
abbrev main_v398 : Ref sig .tc := ⟨.hbm, 425, rfl⟩
abbrev main_v399 : Ref sig .tc := ⟨.hbm, 426, rfl⟩
abbrev main_v400 : Ref sig .tc := ⟨.hbm, 427, rfl⟩
abbrev main_v401 : Ref sig .tc := ⟨.hbm, 428, rfl⟩
abbrev main_v402 : Ref sig .tc := ⟨.hbm, 429, rfl⟩
abbrev main_v403 : Ref sig .tc := ⟨.hbm, 430, rfl⟩
abbrev main_v404 : Ref sig .tc := ⟨.hbm, 431, rfl⟩
abbrev main_v405 : Ref sig .tc := ⟨.hbm, 432, rfl⟩
abbrev main_v406 : Ref sig .tc := ⟨.hbm, 433, rfl⟩
abbrev main_v407 : Ref sig .tc := ⟨.hbm, 434, rfl⟩
abbrev main_v408 : Ref sig .tc := ⟨.hbm, 435, rfl⟩
abbrev main_v409 : Ref sig .tc := ⟨.hbm, 436, rfl⟩
abbrev main_v410 : Ref sig .tc := ⟨.hbm, 437, rfl⟩
abbrev main_v411 : Ref sig .tc := ⟨.hbm, 438, rfl⟩
abbrev main_v412 : Ref sig .tc := ⟨.hbm, 439, rfl⟩
abbrev main_v413 : Ref sig .tc := ⟨.hbm, 440, rfl⟩
abbrev main_v414 : Ref sig .tc := ⟨.hbm, 441, rfl⟩
abbrev main_v415 : Ref sig .tc := ⟨.hbm, 442, rfl⟩
abbrev main_v416 : Ref sig .tc := ⟨.hbm, 443, rfl⟩
abbrev main_v417 : Ref sig .tc := ⟨.hbm, 444, rfl⟩
abbrev main_v418 : Ref sig .tc := ⟨.hbm, 445, rfl⟩
abbrev main_v419 : Ref sig .tc := ⟨.hbm, 446, rfl⟩
abbrev main_v420 : Ref sig .tc := ⟨.hbm, 447, rfl⟩
abbrev main_v421 : Ref sig .tc := ⟨.hbm, 448, rfl⟩
abbrev main_v422 : Ref sig .tc := ⟨.hbm, 449, rfl⟩
abbrev main_v423 : Ref sig .tc := ⟨.hbm, 450, rfl⟩
abbrev main_v424 : Ref sig .tc := ⟨.hbm, 451, rfl⟩
abbrev main_v425 : Ref sig .tc := ⟨.hbm, 452, rfl⟩
abbrev main_v426 : Ref sig .tc := ⟨.hbm, 453, rfl⟩
abbrev main_v427 : Ref sig .tc := ⟨.hbm, 454, rfl⟩
abbrev main_v428 : Ref sig .tc := ⟨.hbm, 455, rfl⟩
abbrev main_v429 : Ref sig .tc := ⟨.hbm, 456, rfl⟩
abbrev main_v430 : Ref sig .tc := ⟨.hbm, 457, rfl⟩
abbrev main_v431 : Ref sig .tc := ⟨.hbm, 458, rfl⟩
abbrev main_v432 : Ref sig .tc := ⟨.hbm, 459, rfl⟩
abbrev main_v433 : Ref sig .tc := ⟨.hbm, 460, rfl⟩
abbrev main_v434 : Ref sig .tc := ⟨.hbm, 461, rfl⟩
abbrev main_v435 : Ref sig .tc := ⟨.hbm, 462, rfl⟩
abbrev main_v436 : Ref sig .tc := ⟨.hbm, 463, rfl⟩
abbrev main_v437 : Ref sig .tc := ⟨.hbm, 464, rfl⟩
abbrev main_v438 : Ref sig .tc := ⟨.hbm, 465, rfl⟩
abbrev main_v439 : Ref sig .tc := ⟨.hbm, 466, rfl⟩
abbrev main_v440 : Ref sig .tc := ⟨.hbm, 467, rfl⟩
abbrev main_v441 : Ref sig .tc := ⟨.hbm, 468, rfl⟩
abbrev main_v442 : Ref sig .tc := ⟨.hbm, 469, rfl⟩
abbrev main_v443 : Ref sig .tc := ⟨.hbm, 470, rfl⟩
abbrev main_v444 : Ref sig .tc := ⟨.hbm, 471, rfl⟩
abbrev main_v445 : Ref sig .tc := ⟨.hbm, 472, rfl⟩
abbrev main_v446 : Ref sig .tc := ⟨.hbm, 473, rfl⟩
abbrev main_v447 : Ref sig .tc := ⟨.hbm, 474, rfl⟩
abbrev main_v448 : Ref sig .tc := ⟨.hbm, 475, rfl⟩
abbrev main_v449 : Ref sig .tc := ⟨.hbm, 476, rfl⟩
abbrev main_v450 : Ref sig .tc := ⟨.hbm, 477, rfl⟩
abbrev main_v451 : Ref sig .tc := ⟨.hbm, 478, rfl⟩
abbrev main_v452 : Ref sig .tc := ⟨.hbm, 479, rfl⟩
abbrev main_v453 : Ref sig .tc := ⟨.hbm, 480, rfl⟩
abbrev main_v454 : Ref sig .tc := ⟨.hbm, 481, rfl⟩
abbrev main_v455 : Ref sig .tc := ⟨.hbm, 482, rfl⟩
abbrev main_v456 : Ref sig .tc := ⟨.hbm, 483, rfl⟩
abbrev main_v457 : Ref sig .tc := ⟨.hbm, 484, rfl⟩
abbrev main_v458 : Ref sig .tc := ⟨.hbm, 485, rfl⟩
abbrev main_v459 : Ref sig .tc := ⟨.hbm, 486, rfl⟩
abbrev main_v460 : Ref sig .tc := ⟨.hbm, 487, rfl⟩
abbrev main_v461 : Ref sig .tc := ⟨.hbm, 488, rfl⟩
abbrev main_v462 : Ref sig .tc := ⟨.hbm, 489, rfl⟩
abbrev main_v463 : Ref sig .tc := ⟨.hbm, 490, rfl⟩
abbrev main_v464 : Ref sig .tc := ⟨.hbm, 491, rfl⟩
abbrev main_v465 : Ref sig .tc := ⟨.hbm, 492, rfl⟩
abbrev main_v466 : Ref sig .tc := ⟨.hbm, 493, rfl⟩
abbrev main_v467 : Ref sig .tc := ⟨.hbm, 494, rfl⟩
abbrev main_v468 : Ref sig .tc := ⟨.hbm, 495, rfl⟩
abbrev main_v469 : Ref sig .tc := ⟨.hbm, 496, rfl⟩
abbrev main_v470 : Ref sig .tc := ⟨.hbm, 497, rfl⟩
abbrev main_v471 : Ref sig .tc := ⟨.hbm, 498, rfl⟩
abbrev main_v472 : Ref sig .tc := ⟨.hbm, 499, rfl⟩
abbrev main_v473 : Ref sig .tc := ⟨.hbm, 500, rfl⟩
abbrev main_v474 : Ref sig .tc := ⟨.hbm, 501, rfl⟩
abbrev main_v475 : Ref sig .tc := ⟨.hbm, 502, rfl⟩
abbrev main_cst_16 : Ref sig .tc := ⟨.hbm, 503, rfl⟩
abbrev main_v476 : Ref sig .tc := ⟨.hbm, 504, rfl⟩
abbrev main_v477 : Ref sig .tc := ⟨.hbm, 505, rfl⟩
abbrev main_v478 : Ref sig .tc := ⟨.hbm, 506, rfl⟩
abbrev main_cst_17 : Ref sig .tc := ⟨.hbm, 507, rfl⟩
abbrev main_v479 : Ref sig .tc := ⟨.hbm, 508, rfl⟩
abbrev main_v480 : Ref sig .tc := ⟨.hbm, 509, rfl⟩
abbrev main_v481 : Ref sig .tc := ⟨.hbm, 510, rfl⟩
abbrev main_v482 : Ref sig .tc := ⟨.hbm, 511, rfl⟩
abbrev main_v483 : Ref sig .tc := ⟨.hbm, 512, rfl⟩
abbrev main_v484 : Ref sig .tc := ⟨.hbm, 513, rfl⟩
abbrev main_v485 : Ref sig .tc := ⟨.hbm, 514, rfl⟩
abbrev main_cst_18 : Ref sig .tc := ⟨.hbm, 515, rfl⟩
abbrev main_call7_v0 : Ref sig .tc := ⟨.hbm, 516, rfl⟩
abbrev main_call7_v1 : Ref sig .tc := ⟨.hbm, 517, rfl⟩
abbrev main_call7_v2 : Ref sig .tc := ⟨.hbm, 518, rfl⟩
abbrev main_v486 : Ref sig .tc := ⟨.hbm, 519, rfl⟩
abbrev main_v487 : Ref sig .tc := ⟨.hbm, 520, rfl⟩
abbrev main_v488 : Ref sig .tc := ⟨.hbm, 521, rfl⟩
abbrev main_v489 : Ref sig .tc := ⟨.hbm, 522, rfl⟩
abbrev main_v490 : Ref sig .tc := ⟨.hbm, 523, rfl⟩
abbrev main_v491 : Ref sig .tc := ⟨.hbm, 524, rfl⟩
abbrev main_v492 : Ref sig .tc := ⟨.hbm, 525, rfl⟩
abbrev main_v493 : Ref sig .tc := ⟨.hbm, 526, rfl⟩
abbrev main_cst_19 : Ref sig .tc := ⟨.hbm, 527, rfl⟩
abbrev main_v494 : Ref sig .tc := ⟨.hbm, 528, rfl⟩
abbrev main_v495 : Ref sig .tc := ⟨.hbm, 529, rfl⟩
abbrev main_v496 : Ref sig .tc := ⟨.hbm, 530, rfl⟩
abbrev main_v497 : Ref sig .tc := ⟨.hbm, 531, rfl⟩
abbrev main_v498 : Ref sig .tc := ⟨.hbm, 532, rfl⟩
abbrev main_v499 : Ref sig .tc := ⟨.hbm, 533, rfl⟩
abbrev main_v500 : Ref sig .tc := ⟨.hbm, 534, rfl⟩
abbrev main_v501 : Ref sig .tc := ⟨.hbm, 535, rfl⟩
abbrev main_v502 : Ref sig .tc := ⟨.hbm, 536, rfl⟩
abbrev main_v503 : Ref sig .tc := ⟨.hbm, 537, rfl⟩
abbrev main_v504 : Ref sig .tc := ⟨.hbm, 538, rfl⟩
abbrev main_v505 : Ref sig .tc := ⟨.hbm, 539, rfl⟩
abbrev main_v506 : Ref sig .tc := ⟨.hbm, 540, rfl⟩
abbrev main_v507 : Ref sig .tc := ⟨.hbm, 541, rfl⟩
abbrev main_v508 : Ref sig .tc := ⟨.hbm, 542, rfl⟩
abbrev main_v509 : Ref sig .tc := ⟨.hbm, 543, rfl⟩
abbrev main_v510 : Ref sig .tc := ⟨.hbm, 544, rfl⟩
abbrev main_v511 : Ref sig .tc := ⟨.hbm, 545, rfl⟩
abbrev main_v512 : Ref sig .tc := ⟨.hbm, 546, rfl⟩
abbrev main_v513 : Ref sig .tc := ⟨.hbm, 547, rfl⟩
abbrev main_v514 : Ref sig .tc := ⟨.hbm, 548, rfl⟩
abbrev main_v515 : Ref sig .tc := ⟨.hbm, 549, rfl⟩
abbrev main_v516 : Ref sig .tc := ⟨.hbm, 550, rfl⟩
abbrev main_v517 : Ref sig .tc := ⟨.hbm, 551, rfl⟩
abbrev main_v518 : Ref sig .tc := ⟨.hbm, 552, rfl⟩
abbrev main_v519 : Ref sig .tc := ⟨.hbm, 553, rfl⟩
abbrev main_cst_20 : Ref sig .tc := ⟨.hbm, 554, rfl⟩
abbrev main_v520 : Ref sig .tc := ⟨.hbm, 555, rfl⟩
abbrev main_v521 : Ref sig .tc := ⟨.hbm, 556, rfl⟩
abbrev main_v522 : Ref sig .tc := ⟨.hbm, 557, rfl⟩
abbrev main_cst_21 : Ref sig .tc := ⟨.hbm, 558, rfl⟩
abbrev main_v523 : Ref sig .tc := ⟨.hbm, 559, rfl⟩
abbrev main_v524 : Ref sig .tc := ⟨.hbm, 560, rfl⟩
abbrev main_v525 : Ref sig .tc := ⟨.hbm, 561, rfl⟩
abbrev main_v526 : Ref sig .tc := ⟨.hbm, 562, rfl⟩
abbrev main_v527 : Ref sig .tc := ⟨.hbm, 563, rfl⟩
abbrev main_v528 : Ref sig .tc := ⟨.hbm, 564, rfl⟩
abbrev main_v529 : Ref sig .tc := ⟨.hbm, 565, rfl⟩
abbrev main_cst_22 : Ref sig .tc := ⟨.hbm, 566, rfl⟩
abbrev main_call10_v0 : Ref sig .tc := ⟨.hbm, 567, rfl⟩
abbrev main_call10_v1 : Ref sig .tc := ⟨.hbm, 568, rfl⟩
abbrev main_call10_v2 : Ref sig .tc := ⟨.hbm, 569, rfl⟩
abbrev main_v530 : Ref sig .tc := ⟨.hbm, 570, rfl⟩
abbrev main_v531 : Ref sig .tc := ⟨.hbm, 571, rfl⟩
abbrev main_v532 : Ref sig .tc := ⟨.hbm, 572, rfl⟩
abbrev main_v533 : Ref sig .tc := ⟨.hbm, 573, rfl⟩
abbrev main_v534 : Ref sig .tc := ⟨.hbm, 574, rfl⟩
abbrev main_v535 : Ref sig .tc := ⟨.hbm, 575, rfl⟩
abbrev main_v536 : Ref sig .tc := ⟨.hbm, 576, rfl⟩
abbrev main_v537 : Ref sig .tc := ⟨.hbm, 577, rfl⟩
abbrev main_cst_23 : Ref sig .tc := ⟨.hbm, 578, rfl⟩
abbrev main_v538 : Ref sig .tc := ⟨.hbm, 579, rfl⟩
abbrev main_v539 : Ref sig .tc := ⟨.hbm, 580, rfl⟩
abbrev main_v540 : Ref sig .tc := ⟨.hbm, 581, rfl⟩
abbrev main_v541 : Ref sig .tc := ⟨.hbm, 582, rfl⟩
abbrev main_v542 : Ref sig .tc := ⟨.hbm, 583, rfl⟩
abbrev main_v543 : Ref sig .tc := ⟨.hbm, 584, rfl⟩
abbrev main_v544 : Ref sig .tc := ⟨.hbm, 585, rfl⟩
abbrev main_v545 : Ref sig .tc := ⟨.hbm, 586, rfl⟩
abbrev main_v546 : Ref sig .tc := ⟨.hbm, 587, rfl⟩
abbrev main_v547 : Ref sig .tc := ⟨.hbm, 588, rfl⟩
abbrev main_v548 : Ref sig .tc := ⟨.hbm, 589, rfl⟩
abbrev main_v549 : Ref sig .tc := ⟨.hbm, 590, rfl⟩
abbrev main_v550 : Ref sig .tc := ⟨.hbm, 591, rfl⟩
abbrev main_v551 : Ref sig .tc := ⟨.hbm, 592, rfl⟩
abbrev main_v552 : Ref sig .tc := ⟨.hbm, 593, rfl⟩
abbrev main_v553 : Ref sig .tc := ⟨.hbm, 594, rfl⟩
abbrev main_v554 : Ref sig .tc := ⟨.hbm, 595, rfl⟩
abbrev main_v555 : Ref sig .tc := ⟨.hbm, 596, rfl⟩
abbrev main_cst_24 : Ref sig .tc := ⟨.hbm, 597, rfl⟩
abbrev main_v556 : Ref sig .tc := ⟨.hbm, 598, rfl⟩
abbrev main_v557 : Ref sig .tc := ⟨.hbm, 599, rfl⟩
abbrev main_cst_25 : Ref sig .tc := ⟨.hbm, 600, rfl⟩
abbrev main_v558 : Ref sig .tc := ⟨.hbm, 601, rfl⟩
abbrev main_v559 : Ref sig .tc := ⟨.hbm, 602, rfl⟩
abbrev main_v560 : Ref sig .tc := ⟨.hbm, 603, rfl⟩
abbrev main_v561 : Ref sig .tc := ⟨.hbm, 604, rfl⟩
abbrev main_v562 : Ref sig .tc := ⟨.hbm, 605, rfl⟩
abbrev main_cst_26 : Ref sig .tc := ⟨.hbm, 606, rfl⟩
abbrev main_v563 : Ref sig .tc := ⟨.hbm, 607, rfl⟩
abbrev main_v564 : Ref sig .tc := ⟨.hbm, 608, rfl⟩
abbrev main_cst_27 : Ref sig .tc := ⟨.hbm, 609, rfl⟩
abbrev main_v565 : Ref sig .tc := ⟨.hbm, 610, rfl⟩
abbrev main_v566 : Ref sig .tc := ⟨.hbm, 611, rfl⟩
abbrev main_cst_28 : Ref sig .tc := ⟨.hbm, 612, rfl⟩
abbrev main_v567 : Ref sig .tc := ⟨.hbm, 613, rfl⟩
abbrev main_v568 : Ref sig .tc := ⟨.hbm, 614, rfl⟩
abbrev main_v569 : Ref sig .tc := ⟨.hbm, 615, rfl⟩
abbrev main_v570 : Ref sig .tc := ⟨.hbm, 616, rfl⟩
abbrev main_v571 : Ref sig .tc := ⟨.hbm, 617, rfl⟩
abbrev main_v572 : Ref sig .tc := ⟨.hbm, 618, rfl⟩
abbrev main_v573 : Ref sig .tc := ⟨.hbm, 619, rfl⟩
abbrev main_v574 : Ref sig .tc := ⟨.hbm, 620, rfl⟩
abbrev main_v575 : Ref sig .tc := ⟨.hbm, 621, rfl⟩
abbrev main_v576 : Ref sig .tc := ⟨.hbm, 622, rfl⟩
abbrev main_call12_v0 : Ref sig .tc := ⟨.hbm, 623, rfl⟩
abbrev main_call12_v1 : Ref sig .tc := ⟨.hbm, 624, rfl⟩
abbrev main_call12_cst : Ref sig .tc := ⟨.hbm, 625, rfl⟩
abbrev main_call12_v2 : Ref sig .tc := ⟨.hbm, 626, rfl⟩
abbrev main_call12_v3 : Ref sig .tc := ⟨.hbm, 627, rfl⟩
abbrev main_call12_cst_0 : Ref sig .tc := ⟨.hbm, 628, rfl⟩
abbrev main_call12_v4 : Ref sig .tc := ⟨.hbm, 629, rfl⟩
abbrev main_call12_v5 : Ref sig .tc := ⟨.hbm, 630, rfl⟩
abbrev main_v577 : Ref sig .tc := ⟨.hbm, 631, rfl⟩
abbrev main_v578 : Ref sig .tc := ⟨.hbm, 632, rfl⟩
abbrev main_v579 : Ref sig .tc := ⟨.hbm, 633, rfl⟩
abbrev main_cst_29 : Ref sig .tc := ⟨.hbm, 634, rfl⟩
abbrev main_v580 : Ref sig .tc := ⟨.hbm, 635, rfl⟩
abbrev main_v581 : Ref sig .tc := ⟨.hbm, 636, rfl⟩
abbrev main_cst_30 : Ref sig .tc := ⟨.hbm, 637, rfl⟩
abbrev main_v582 : Ref sig .tc := ⟨.hbm, 638, rfl⟩
abbrev main_v583 : Ref sig .tc := ⟨.hbm, 639, rfl⟩
abbrev main_v584 : Ref sig .tc := ⟨.hbm, 640, rfl⟩
abbrev main_v585 : Ref sig .tc := ⟨.hbm, 641, rfl⟩
abbrev main_v586 : Ref sig .tc := ⟨.hbm, 642, rfl⟩
abbrev main_cst_31 : Ref sig .tc := ⟨.hbm, 643, rfl⟩
abbrev main_v587 : Ref sig .tc := ⟨.hbm, 644, rfl⟩
abbrev main_v588 : Ref sig .tc := ⟨.hbm, 645, rfl⟩
abbrev main_cst_32 : Ref sig .tc := ⟨.hbm, 646, rfl⟩
abbrev main_v589 : Ref sig .tc := ⟨.hbm, 647, rfl⟩
abbrev main_v590 : Ref sig .tc := ⟨.hbm, 648, rfl⟩
abbrev main_cst_33 : Ref sig .tc := ⟨.hbm, 649, rfl⟩
abbrev main_v591 : Ref sig .tc := ⟨.hbm, 650, rfl⟩
abbrev main_v592 : Ref sig .tc := ⟨.hbm, 651, rfl⟩
abbrev main_v593 : Ref sig .tc := ⟨.hbm, 652, rfl⟩
abbrev main_v594 : Ref sig .tc := ⟨.hbm, 653, rfl⟩
abbrev main_v595 : Ref sig .tc := ⟨.hbm, 654, rfl⟩
abbrev main_v596 : Ref sig .tc := ⟨.hbm, 655, rfl⟩
abbrev main_v597 : Ref sig .tc := ⟨.hbm, 656, rfl⟩
abbrev main_v598 : Ref sig .tc := ⟨.hbm, 657, rfl⟩
abbrev main_v599 : Ref sig .tc := ⟨.hbm, 658, rfl⟩
abbrev main_v600 : Ref sig .tc := ⟨.hbm, 659, rfl⟩
abbrev main_call13_v0 : Ref sig .tc := ⟨.hbm, 660, rfl⟩
abbrev main_call13_v1 : Ref sig .tc := ⟨.hbm, 661, rfl⟩
abbrev main_call13_cst : Ref sig .tc := ⟨.hbm, 662, rfl⟩
abbrev main_call13_v2 : Ref sig .tc := ⟨.hbm, 663, rfl⟩
abbrev main_call13_v3 : Ref sig .tc := ⟨.hbm, 664, rfl⟩
abbrev main_call13_cst_0 : Ref sig .tc := ⟨.hbm, 665, rfl⟩
abbrev main_call13_v4 : Ref sig .tc := ⟨.hbm, 666, rfl⟩
abbrev main_call13_v5 : Ref sig .tc := ⟨.hbm, 667, rfl⟩
abbrev main_v601 : Ref sig .tc := ⟨.hbm, 668, rfl⟩
abbrev main_v602 : Ref sig .tc := ⟨.hbm, 669, rfl⟩
abbrev main_v603 : Ref sig .tc := ⟨.hbm, 670, rfl⟩
abbrev main_v604 : Ref sig .tc := ⟨.hbm, 671, rfl⟩

abbrev nD : Nat := 1
abbrev τ : Topo := Topo.v7x

variable {F : FTy → Type} [FloatOps F]
-- ==== Kernel2.lean ====
abbrev S32x2048x1024 : Shape := ⟨3, ![32, 2048, 1024]⟩
abbrev S11x32x2048x1024 : Shape := ⟨4, ![11, 32, 2048, 1024]⟩
abbrev S32x1024 : Shape := ⟨2, ![32, 1024]⟩
abbrev S1024x1024 : Shape := ⟨2, ![1024, 1024]⟩
abbrev S1024 : Shape := ⟨1, ![1024]⟩
abbrev S32x1x1024 : Shape := ⟨3, ![32, 1, 1024]⟩
abbrev S1x1024 : Shape := ⟨2, ![1, 1024]⟩
abbrev S1x1024x1024 : Shape := ⟨3, ![1, 1024, 1024]⟩
abbrev S1x1x1024x1024 : Shape := ⟨4, ![1, 1, 1024, 1024]⟩
abbrev S1x1x1024 : Shape := ⟨3, ![1, 1, 1024]⟩
abbrev S1024x1 : Shape := ⟨2, ![1024, 1]⟩

abbrev nBuf : Space → Nat
  | .hbm => 15
  | .vmem => 18
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S11x32x2048x1024, .bf16⟩
  | .hbm, ⟨3, _⟩ => ⟨S32x2048x1024, .f32⟩
  | .hbm, ⟨4, _⟩ => ⟨S32x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S32x1x1024, .f32⟩
  | .hbm, ⟨13, _⟩ => ⟨S1x1024, .f32⟩
  | .hbm, ⟨14, _⟩ => ⟨S32x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c9_i32 : BitVec 32 := 9#32
  let c0_i32 : BitVec 32 := 0#32
  let c0_i32_0 : BitVec 32 := 0#32
  ![c9_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  ![c10_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S32x2048x1024 : Shape := ⟨3, ![32, 2048, 1024]⟩
abbrev S11x32x2048x1024 : Shape := ⟨4, ![11, 32, 2048, 1024]⟩
abbrev S32x1024 : Shape := ⟨2, ![32, 1024]⟩
abbrev S1024x1024 : Shape := ⟨2, ![1024, 1024]⟩
abbrev S1024 : Shape := ⟨1, ![1024]⟩
abbrev S1x32x2048x1024 : Shape := ⟨4, ![1, 32, 2048, 1024]⟩
abbrev S_ : Shape := ⟨0, ![]⟩
abbrev S32x1x1024 : Shape := ⟨3, ![32, 1, 1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S11x32x2048x1024, .bf16⟩
  | .hbm, ⟨3, _⟩ => ⟨S32x2048x1024, .f32⟩
  | .hbm, ⟨4, _⟩ => ⟨S32x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1x32x2048x1024, .bf16⟩
  | .hbm, ⟨10, _⟩ => ⟨S32x2048x1024, .bf16⟩
  | .hbm, ⟨11, _⟩ => ⟨S32x2048x1024, .f32⟩
  | .hbm, ⟨12, _⟩ => ⟨S1x32x2048x1024, .bf16⟩
  | .hbm, ⟨13, _⟩ => ⟨S32x2048x1024, .bf16⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x2048x1024, .f32⟩
  | .hbm, ⟨23, _⟩ => ⟨S32x2048x1024, .f32⟩
  | .hbm, ⟨24, _⟩ => ⟨S_, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S_, .f32⟩
  | .hbm, ⟨31, _⟩ => ⟨S32x2048x1024, .f32⟩
  | .hbm, ⟨32, _⟩ => ⟨S32x2048x1024, .f32⟩
  | .hbm, ⟨33, _⟩ => ⟨S_, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S32x1x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S_, .f32⟩
  | .hbm, ⟨45, _⟩ => ⟨S32x2048, .f32⟩
  | .hbm, ⟨46, _⟩ => ⟨S32x2048x1, .f32⟩
  | .hbm, ⟨47, _⟩ => ⟨S_, .f32⟩
  | .hbm, ⟨48, _⟩ => ⟨S32x2048x1, .f32⟩
  | .hbm, ⟨49, _⟩ => ⟨S32x2048x1, .f32⟩
  | .hbm, ⟨50, _⟩ => ⟨S_, .f32⟩
  | .hbm, ⟨51, _⟩ => ⟨S32x2048x1, .f32⟩
  | .hbm, ⟨52, _⟩ => ⟨S32x2048x1, .f32⟩
  | .hbm, ⟨53, _⟩ => ⟨S32x2048x1, .f32⟩
  | .hbm, ⟨54, _⟩ => ⟨S32x2048x1024, .f32⟩
  | .hbm, ⟨55, _⟩ => ⟨S32x2048x1024, .f32⟩
  | .hbm, ⟨56, _⟩ => ⟨S1x1x1024, .f32⟩
  | .hbm, ⟨57, _⟩ => ⟨S32x2048x1024, .f32⟩
  | .hbm, ⟨58, _⟩ => ⟨S32x2048x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024 : Shape := ⟨1, ![1024]⟩
abbrev S32x1024 : Shape := ⟨2, ![32, 1024]⟩
abbrev S1024x11296 : Shape := ⟨2, ![1024, 11296]⟩
abbrev S11296 : Shape := ⟨1, ![11296]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S1024x9216 : Shape := ⟨2, ![1024, 9216]⟩
abbrev S1024x2048 : Shape := ⟨2, ![1024, 2048]⟩
abbrev S1024x11264 : Shape := ⟨2, ![1024, 11264]⟩
abbrev S9216 : Shape := ⟨1, ![9216]⟩
abbrev S11264 : Shape := ⟨1, ![11264]⟩
abbrev S1x11264 : Shape := ⟨2, ![1, 11264]⟩
abbrev S1024x32 : Shape := ⟨2, ![1024, 32]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S32x1x1024 : Shape := ⟨3, ![32, 1, 1024]⟩
abbrev S11x32x2048x1024 : Shape := ⟨4, ![11, 32, 2048, 1024]⟩
abbrev S32x2048x128 : Shape := ⟨3, ![32, 2048, 128]⟩
abbrev S1x2048x1024 : Shape := ⟨3, ![1, 2048, 1024]⟩
abbrev S1x1x1024 : Shape := ⟨3, ![1, 1, 1024]⟩
abbrev S1024x1024 : Shape := ⟨2, ![1024, 1024]⟩
abbrev S1x1x2048x1024 : Shape := ⟨4, ![1, 1, 2048, 1024]⟩
abbrev S1x2048x128 : Shape := ⟨3, ![1, 2048, 128]⟩
abbrev S2048x1024 : Shape := ⟨2, ![2048, 1024]⟩
abbrev S1024x256 : Shape := ⟨2, ![1024, 256]⟩
abbrev S2048x256 : Shape := ⟨2, ![2048, 256]⟩
abbrev S1x256 : Shape := ⟨2, ![1, 256]⟩
abbrev S1x1x2048x128 : Shape := ⟨4, ![1, 1, 2048, 128]⟩
abbrev S32x2048x32 : Shape := ⟨3, ![32, 2048, 32]⟩

abbrev nBuf : Space → Nat
  | .hbm => 61
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x11296, .f32⟩
  | .hbm, ⟨5, _⟩ => ⟨S11296, .f32⟩
  | .hbm, ⟨6, _⟩ => ⟨S32, .f32⟩
  | .hbm, ⟨7, _⟩ => ⟨S32x64, .f32⟩
  | .hbm, ⟨8, _⟩ => ⟨S2048, .f32⟩
  | .hbm, ⟨9, _⟩ => ⟨S64, .f32⟩
  | .hbm, ⟨10, _⟩ => ⟨S1x64, .f32⟩
  | .hbm, ⟨11, _⟩ => ⟨S32x64, .f32⟩
  | .hbm, ⟨12, _⟩ => ⟨S2048, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x1, .f32⟩
  | .hbm, ⟨27, _⟩ => ⟨S1x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S2048x128, .f32⟩
  | .hbm, ⟨35, _⟩ => ⟨S2048x64, .f32⟩
  | .hbm, ⟨36, _⟩ => ⟨S2048x128, .f32⟩
  | .hbm, ⟨37, _⟩ => ⟨S1024x9216, .f32⟩
  | .hbm, ⟨38, _⟩ => ⟨S1024x2048, .f32⟩
  | .hbm, ⟨39, _⟩ => ⟨S1024x11264, .f32⟩
  | .hbm, ⟨40, _⟩ => ⟨S1024x11264, .bf16⟩
  | .hbm, ⟨41, _⟩ => ⟨S9216, .f32⟩
  | .hbm, ⟨42, _⟩ => ⟨S2048, .f32⟩
  | .hbm, ⟨43, _⟩ => ⟨S11264, .f32⟩
  | .hbm, ⟨44, _⟩ => ⟨S1x11264, .f32⟩
  | .hbm, ⟨45, _⟩ => ⟨S1024x32, .f32⟩
  | .hbm, ⟨46, _⟩ => ⟨S_, .i32⟩
  | .hbm, ⟨47, _⟩ => ⟨S_, .f32⟩
  | .hbm, ⟨48, _⟩ => ⟨S1024x128, .f32⟩
  | .hbm, ⟨49, _⟩ => ⟨S1024x128, .bf16⟩
  | .hbm, ⟨50, _⟩ => ⟨S32, .f32⟩
  | .hbm, ⟨51, _⟩ => ⟨S_, .i32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S1x1024, .f32⟩
  | .hbm, ⟨56, _⟩ => ⟨S32x1x1024, .f32⟩
  | .hbm, ⟨57, _⟩ => ⟨S32x1x1024, .f32⟩
  | .hbm, ⟨58, _⟩ => ⟨S11x32x2048x1024, .bf16⟩
  | .hbm, ⟨59, _⟩ => ⟨S32x2048x128, .f32⟩
  | .hbm, ⟨60, _⟩ => ⟨S32x2048x32, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x128, .bf16⟩
  | .local _ .vmem, ⟨12, _⟩ => ⟨S1x128, .f32⟩
  | .local _ .vmem, ⟨13, _⟩ => ⟨S2048x128, .f32⟩
  | .local _ .vmem, ⟨14, _⟩ => ⟨S2048x128, .f32⟩
  | .local _ .vmem, ⟨15, _⟩ => ⟨S1x1x2048x1024, .bf16⟩
  | .local _ .vmem, ⟨16, _⟩ => ⟨S1x1x2048x1024, .bf16⟩
  | .local _ .vmem, ⟨17, _⟩ => ⟨S1x2048x128, .f32⟩
  | .local _ .vmem, ⟨18, _⟩ => ⟨S1x2048x128, .f32⟩
  | .local _ .vmem, ⟨19, _⟩ => ⟨S2048x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_call0_v0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_1 : Ref sig .tc := ⟨.hbm, 51, rfl⟩
abbrev main_call1_v0 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46_0 : Ref sig .tc := ⟨.hbm, 58, rfl⟩
abbrev main_v46_1 : Ref sig .tc := ⟨.hbm, 59, rfl⟩
abbrev main_v47 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨3, ![32, 1, 11], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c1_i32_4 : BitVec 32 := 1#32
  let v9 : BitVec 1 := Scalar.cmpi .sgt arg2 c1_i32_4
  let v10 : BitVec 32 := Scalar.extui v9
  let c0_i32_5 : BitVec 32 := 0#32
  let v11 : BitVec 1 := Scalar.cmpi .ne v10 c0_i32_5
  v11

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 2 → Memref sig .tc .vmem S1x1x2048x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference3Ideal.lean ====
abbrev S32x2048x1024 : Shape := ⟨3, ![32, 2048, 1024]⟩
abbrev S1024 : Shape := ⟨1, ![1024]⟩
abbrev S32x1024 : Shape := ⟨2, ![32, 1024]⟩
abbrev S1024x11296 : Shape := ⟨2, ![1024, 11296]⟩
abbrev S11296 : Shape := ⟨1, ![11296]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x11296 : Shape := ⟨3, ![32, 2048, 11296]⟩
abbrev S1x1x11296 : Shape := ⟨3, ![1, 1, 11296]⟩
abbrev S32x2048x32 : Shape := ⟨3, ![32, 2048, 32]⟩
abbrev S32x2048x8x128 : Shape := ⟨4, ![32, 2048, 8, 128]⟩
abbrev S32x8x2048x128 : Shape := ⟨4, ![32, 8, 2048, 128]⟩
abbrev S32x8x2048x64 : Shape := ⟨4, ![32, 8, 2048, 64]⟩
abbrev S1x1x2048x64 : Shape := ⟨4, ![1, 1, 2048, 64]⟩
abbrev S1x32x2048x1024 : Shape := ⟨4, ![1, 32, 2048, 1024]⟩
abbrev S11x32x2048x1024 : Shape := ⟨4, ![11, 32, 2048, 1024]⟩

abbrev nBuf : Space → Nat
  | .hbm => 133
  | .vmem => 0
  | .smem => 0
  | _ => 0

abbrev hbmTy0_0 (i : Nat) : BufTy := match i % 128 with
  | 0 => ⟨S32x2048x1024, .f32⟩
  | 1 => ⟨S1024, .f32⟩
  | 2 => ⟨S32x1024, .f32⟩
  | 3 => ⟨S32x1024, .f32⟩
  | 4 => ⟨S1024x11296, .f32⟩
  | 5 => ⟨S11296, .f32⟩
  | 6 => ⟨S32, .f32⟩
  | 7 => ⟨S32x64, .f32⟩
  | 8 => ⟨S2048, .f32⟩
  | 9 => ⟨S64, .f32⟩
  | 10 => ⟨S1x64, .f32⟩
  | 11 => ⟨S32x64, .f32⟩
  | 12 => ⟨S2048, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x1, .f32⟩
  | 27 => ⟨S1x32, .f32⟩
  | 28 => ⟨S2048x32, .f32⟩
  | 29 => ⟨S2048x32, .f32⟩
  | 30 => ⟨S2048x32, .f32⟩
  | 31 => ⟨S2048x64, .f32⟩
  | 32 => ⟨S2048x64, .f32⟩
  | 33 => ⟨S2048x64, .f32⟩
  | 34 => ⟨S32x2048x1024, .f32⟩
  | 35 => ⟨S_, .f32⟩
  | 36 => ⟨S32x2048, .f32⟩
  | 37 => ⟨S32x2048x1, .f32⟩
  | 38 => ⟨S_, .f32⟩
  | 39 => ⟨S32x2048x1, .f32⟩
  | 40 => ⟨S32x2048x1, .f32⟩
  | 41 => ⟨S_, .f32⟩
  | 42 => ⟨S32x2048x1, .f32⟩
  | 43 => ⟨S32x2048x1, .f32⟩
  | 44 => ⟨S32x2048x1, .f32⟩
  | 45 => ⟨S32x2048x1024, .f32⟩
  | 46 => ⟨S32x2048x1024, .f32⟩
  | 47 => ⟨S1x1x1024, .f32⟩
  | 48 => ⟨S32x2048x1024, .f32⟩
  | 49 => ⟨S32x2048x1024, .f32⟩
  | 50 => ⟨S32x1x1024, .f32⟩
  | 51 => ⟨S_, .f32⟩
  | 52 => ⟨S32x1x1024, .f32⟩
  | 53 => ⟨S32x1x1024, .f32⟩
  | 54 => ⟨S32x2048x1024, .f32⟩
  | 55 => ⟨S32x2048x1024, .f32⟩
  | 56 => ⟨S32x1x1024, .f32⟩
  | 57 => ⟨S32x2048x1024, .f32⟩
  | 58 => ⟨S32x2048x1024, .f32⟩
  | 59 => ⟨S32x2048x11296, .f32⟩
  | 60 => ⟨S1x1x11296, .f32⟩
  | 61 => ⟨S32x2048x11296, .f32⟩
  | 62 => ⟨S32x2048x11296, .f32⟩
  | 63 => ⟨S32x2048x1024, .f32⟩
  | 64 => ⟨S32x2048x1024, .f32⟩
  | 65 => ⟨S32x2048x1024, .f32⟩
  | 66 => ⟨S32x2048x1024, .f32⟩
  | 67 => ⟨S32x2048x1024, .f32⟩
  | 68 => ⟨S32x2048x1024, .f32⟩
  | 69 => ⟨S32x2048x1024, .f32⟩
  | 70 => ⟨S32x2048x1024, .f32⟩
  | 71 => ⟨S32x2048x1024, .f32⟩
  | 72 => ⟨S32x2048x32, .f32⟩
  | 73 => ⟨S32x2048x1024, .f32⟩
  | 74 => ⟨S32x2048x1024, .f32⟩
  | 75 => ⟨S32x2048x8x128, .f32⟩
  | 76 => ⟨S32x8x2048x128, .f32⟩
  | 77 => ⟨S32x2048x8x128, .f32⟩
  | 78 => ⟨S32x8x2048x128, .f32⟩
  | 79 => ⟨S32x8x2048x64, .f32⟩
  | 80 => ⟨S32x8x2048x64, .f32⟩
  | 81 => ⟨S1x1x2048x64, .f32⟩
  | 82 => ⟨S32x8x2048x64, .f32⟩
  | 83 => ⟨S32x8x2048x64, .f32⟩
  | 84 => ⟨S1x1x2048x64, .f32⟩
  | 85 => ⟨S32x8x2048x64, .f32⟩
  | 86 => ⟨S32x8x2048x64, .f32⟩
  | 87 => ⟨S32x8x2048x64, .f32⟩
  | 88 => ⟨S1x1x2048x64, .f32⟩
  | 89 => ⟨S32x8x2048x64, .f32⟩
  | 90 => ⟨S32x8x2048x64, .f32⟩
  | 91 => ⟨S1x1x2048x64, .f32⟩
  | 92 => ⟨S32x8x2048x64, .f32⟩
  | 93 => ⟨S32x8x2048x64, .f32⟩
  | 94 => ⟨S32x8x2048x64, .f32⟩
  | 95 => ⟨S32x8x2048x128, .f32⟩
  | 96 => ⟨S32x8x2048x64, .f32⟩
  | 97 => ⟨S32x8x2048x64, .f32⟩
  | 98 => ⟨S1x1x2048x64, .f32⟩
  | 99 => ⟨S32x8x2048x64, .f32⟩
  | 100 => ⟨S32x8x2048x64, .f32⟩
  | 101 => ⟨S1x1x2048x64, .f32⟩
  | 102 => ⟨S32x8x2048x64, .f32⟩
  | 103 => ⟨S32x8x2048x64, .f32⟩
  | 104 => ⟨S32x8x2048x64, .f32⟩
  | 105 => ⟨S1x1x2048x64, .f32⟩
  | 106 => ⟨S32x8x2048x64, .f32⟩
  | 107 => ⟨S32x8x2048x64, .f32⟩
  | 108 => ⟨S1x1x2048x64, .f32⟩
  | 109 => ⟨S32x8x2048x64, .f32⟩
  | 110 => ⟨S32x8x2048x64, .f32⟩
  | 111 => ⟨S32x8x2048x64, .f32⟩
  | 112 => ⟨S32x8x2048x128, .f32⟩
  | 113 => ⟨S_, .f32⟩
  | 114 => ⟨S32x8x2048x128, .f32⟩
  | 115 => ⟨S32x8x2048x128, .f32⟩
  | 116 => ⟨S32x2048x8x128, .f32⟩
  | 117 => ⟨S32x2048x1024, .f32⟩
  | 118 => ⟨S32x2048x8x128, .f32⟩
  | 119 => ⟨S32x2048x1024, .f32⟩
  | 120 => ⟨S1x32x2048x1024, .f32⟩
  | 121 => ⟨S1x32x2048x1024, .f32⟩
  | 122 => ⟨S1x32x2048x1024, .f32⟩
  | 123 => ⟨S1x32x2048x1024, .f32⟩
  | 124 => ⟨S1x32x2048x1024, .f32⟩
  | 125 => ⟨S1x32x2048x1024, .f32⟩
  | 126 => ⟨S1x32x2048x1024, .f32⟩
  | 127 => ⟨S1x32x2048x1024, .f32⟩
  | _ => ⟨S32x2048x1024, .f32⟩

abbrev hbmTy0_1 (i : Nat) : BufTy := match i % 128 with
  | 0 => ⟨S1x32x2048x1024, .f32⟩
  | 1 => ⟨S1x32x2048x1024, .f32⟩
  | 2 => ⟨S1x32x2048x1024, .f32⟩
  | 3 => ⟨S11x32x2048x1024, .f32⟩
  | 4 => ⟨S11x32x2048x1024, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_cst_5 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩

abbrev nD : Nat := 1
abbrev τ : Topo := Topo.v7x

variable {F : FTy → Type} [FloatOps F]
-- ==== Kernel4.lean ====
abbrev S32x2048x1024 : Shape := ⟨3, ![32, 2048, 1024]⟩
abbrev S11x32x2048x1024 : Shape := ⟨4, ![11, 32, 2048, 1024]⟩
abbrev S32x1024 : Shape := ⟨2, ![32, 1024]⟩
abbrev S1024x1024 : Shape := ⟨2, ![1024, 1024]⟩
abbrev S32x1x1024 : Shape := ⟨3, ![32, 1, 1024]⟩
abbrev S1x1024x1024 : Shape := ⟨3, ![1, 1024, 1024]⟩
abbrev S1x1x1024x1024 : Shape := ⟨4, ![1, 1, 1024, 1024]⟩
abbrev S1x1x1024 : Shape := ⟨3, ![1, 1, 1024]⟩
abbrev S1x1024 : Shape := ⟨2, ![1, 1024]⟩

abbrev nBuf : Space → Nat
  | .hbm => 13
  | .vmem => 17
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S11x32x2048x1024, .bf16⟩
  | .hbm, ⟨3, _⟩ => ⟨S32x2048x1024, .f32⟩
  | .hbm, ⟨4, _⟩ => ⟨S32x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S32x1x1024, .f32⟩
  | .hbm, ⟨12, _⟩ => ⟨S32x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024x1024, .f32⟩
  | .local _ .vmem, ⟨16, _⟩ => ⟨S1x1024x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c9_i32 : BitVec 32 := 9#32
  let c0_i32 : BitVec 32 := 0#32
  let c0_i32_0 : BitVec 32 := 0#32
  ![c9_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  ![c10_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S32x2048x1024 : Shape := ⟨3, ![32, 2048, 1024]⟩
abbrev S11x32x2048x1024 : Shape := ⟨4, ![11, 32, 2048, 1024]⟩
abbrev S32x1024 : Shape := ⟨2, ![32, 1024]⟩
abbrev S1024x1024 : Shape := ⟨2, ![1024, 1024]⟩
abbrev S1x32x2048x1024 : Shape := ⟨4, ![1, 32, 2048, 1024]⟩
abbrev S_ : Shape := ⟨0, ![]⟩
abbrev S32x1x1024 : Shape := ⟨3, ![32, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S11x32x2048x1024, .bf16⟩
  | .hbm, ⟨3, _⟩ => ⟨S32x2048x1024, .f32⟩
  | .hbm, ⟨4, _⟩ => ⟨S32x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x32x2048x1024, .bf16⟩
  | .hbm, ⟨9, _⟩ => ⟨S32x2048x1024, .bf16⟩
  | .hbm, ⟨10, _⟩ => ⟨S32x2048x1024, .f32⟩
  | .hbm, ⟨11, _⟩ => ⟨S1x32x2048x1024, .bf16⟩
  | .hbm, ⟨12, _⟩ => ⟨S32x2048x1024, .bf16⟩
  | .hbm, ⟨13, _⟩ => ⟨S32x2048x1024, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S_, .f32⟩
  | .hbm, ⟨21, _⟩ => ⟨S32x2048x1024, .f32⟩
  | .hbm, ⟨22, _⟩ => ⟨S32x2048x1024, .f32⟩
  | .hbm, ⟨23, _⟩ => ⟨S_, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S_, .f32⟩
  | .hbm, ⟨30, _⟩ => ⟨S32x2048x1024, .f32⟩
  | .hbm, ⟨31, _⟩ => ⟨S32x2048x1024, .f32⟩
  | .hbm, ⟨32, _⟩ => ⟨S_, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x1x1024, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel5.lean ====
abbrev S32x1024 : Shape := ⟨2, ![32, 1024]⟩
abbrev S1024 : Shape := ⟨1, ![1024]⟩
abbrev S2x1024x3072 : Shape := ⟨3, ![2, 1024, 3072]⟩
abbrev S2x3072 : Shape := ⟨2, ![2, 3072]⟩
abbrev S_ : Shape := ⟨0, ![]⟩
abbrev S40x1024 : Shape := ⟨2, ![40, 1024]⟩
abbrev S1 : Shape := ⟨1, ![1]⟩
abbrev S2x1x3072 : Shape := ⟨3, ![2, 1, 3072]⟩
abbrev S2x40x3072 : Shape := ⟨3, ![2, 40, 3072]⟩
abbrev S1x1024x3072 : Shape := ⟨3, ![1, 1024, 3072]⟩
abbrev S1x1x3072 : Shape := ⟨3, ![1, 1, 3072]⟩
abbrev S1x40x3072 : Shape := ⟨3, ![1, 40, 3072]⟩
abbrev S1024x3072 : Shape := ⟨2, ![1024, 3072]⟩
abbrev S40x3072 : Shape := ⟨2, ![40, 3072]⟩
abbrev S1x3072 : Shape := ⟨2, ![1, 3072]⟩
abbrev S2x32x3072 : Shape := ⟨3, ![2, 32, 3072]⟩

abbrev nBuf : Space → Nat
  | .hbm => 18
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S_, .f32⟩
  | .hbm, ⟨5, _⟩ => ⟨S40x1024, .f32⟩
  | .hbm, ⟨6, _⟩ => ⟨S_, .i32⟩
  | .hbm, ⟨7, _⟩ => ⟨S1, .i32⟩
  | .hbm, ⟨8, _⟩ => ⟨S40x1024, .f32⟩
  | .hbm, ⟨9, _⟩ => ⟨S_, .i32⟩
  | .hbm, ⟨10, _⟩ => ⟨S1, .i32⟩
  | .hbm, ⟨11, _⟩ => ⟨S40x1024, .f32⟩
  | .hbm, ⟨12, _⟩ => ⟨S2x1024x3072, .bf16⟩
  | .hbm, ⟨13, _⟩ => ⟨S2x1x3072, .f32⟩
  | .hbm, ⟨14, _⟩ => ⟨S2x40x3072, .f32⟩
  | .hbm, ⟨15, _⟩ => ⟨S2x32x3072, .f32⟩
  | .hbm, ⟨16, _⟩ => ⟨S2x1x3072, .f32⟩
  | .hbm, ⟨17, _⟩ => ⟨S2x3072, .f32⟩
  | .local _ .vmem, ⟨0, _⟩ => ⟨S40x1024, .f32⟩
  | .local _ .vmem, ⟨1, _⟩ => ⟨S1x1024x3072, .bf16⟩
  | .local _ .vmem, ⟨2, _⟩ => ⟨S1x1024x3072, .bf16⟩
  | .local _ .vmem, ⟨3, _⟩ => ⟨S1x1x3072, .f32⟩
  | .local _ .vmem, ⟨4, _⟩ => ⟨S1x1x3072, .f32⟩
  | .local _ .vmem, ⟨5, _⟩ => ⟨S1x40x3072, .f32⟩
  | .local _ .vmem, ⟨6, _⟩ => ⟨S1x40x3072, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x40x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S32x1024 : Shape := ⟨2, ![32, 1024]⟩
abbrev S1024 : Shape := ⟨1, ![1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S32x3072 : Shape := ⟨2, ![32, 3072]⟩
abbrev S1x3072 : Shape := ⟨2, ![1, 3072]⟩
abbrev S3072 : Shape := ⟨1, ![3072]⟩
abbrev S1x32x3072 : Shape := ⟨3, ![1, 32, 3072]⟩
abbrev S2x32x3072 : Shape := ⟨3, ![2, 32, 3072]⟩

abbrev nBuf : Space → Nat
  | .hbm => 74
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S1x1024x3072, .f32⟩
  | .hbm, ⟨14, _⟩ => ⟨S1024x3072, .f32⟩
  | .hbm, ⟨15, _⟩ => ⟨S32x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S32x3072, .f32⟩
  | .hbm, ⟨20, _⟩ => ⟨S32x3072, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S1x1024x3072, .f32⟩
  | .hbm, ⟨31, _⟩ => ⟨S1024x3072, .f32⟩
  | .hbm, ⟨32, _⟩ => ⟨S3072, .f32⟩
  | .hbm, ⟨33, _⟩ => ⟨S1x3072, .f32⟩
  | .hbm, ⟨34, _⟩ => ⟨S3072, .f32⟩
  | .hbm, ⟨35, _⟩ => ⟨S3072, .f32⟩
  | .hbm, ⟨36, _⟩ => ⟨S32x1024, .f32⟩
  | .hbm, ⟨37, _⟩ => ⟨S32x1024, .f32⟩
  | .hbm, ⟨38, _⟩ => ⟨S_, .f32⟩
  | .hbm, ⟨39, _⟩ => ⟨S32x1024, .f32⟩
  | .hbm, ⟨40, _⟩ => ⟨S32x1024, .f32⟩
  | .hbm, ⟨41, _⟩ => ⟨S_, .f32⟩
  | .hbm, ⟨42, _⟩ => ⟨S32x1024, .f32⟩
  | .hbm, ⟨43, _⟩ => ⟨S32x1024, .f32⟩
  | .hbm, ⟨44, _⟩ => ⟨S32x1024, .f32⟩
  | .hbm, ⟨45, _⟩ => ⟨S1x1024x3072, .f32⟩
  | .hbm, ⟨46, _⟩ => ⟨S1024x3072, .f32⟩
  | .hbm, ⟨47, _⟩ => ⟨S32x3072, .f32⟩
  | .hbm, ⟨48, _⟩ => ⟨S1x3072, .f32⟩
  | .hbm, ⟨49, _⟩ => ⟨S3072, .f32⟩
  | .hbm, ⟨50, _⟩ => ⟨S1x3072, .f32⟩
  | .hbm, ⟨51, _⟩ => ⟨S32x3072, .f32⟩
  | .hbm, ⟨52, _⟩ => ⟨S32x3072, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S1x1024x3072, .f32⟩
  | .hbm, ⟨63, _⟩ => ⟨S1024x3072, .f32⟩
  | .hbm, ⟨64, _⟩ => ⟨S3072, .f32⟩
  | .hbm, ⟨65, _⟩ => ⟨S1x3072, .f32⟩
  | .hbm, ⟨66, _⟩ => ⟨S3072, .f32⟩
  | .hbm, ⟨67, _⟩ => ⟨S3072, .f32⟩
  | .hbm, ⟨68, _⟩ => ⟨S1x32x3072, .f32⟩
  | .hbm, ⟨69, _⟩ => ⟨S1x32x3072, .f32⟩
  | .hbm, ⟨70, _⟩ => ⟨S2x32x3072, .f32⟩
  | .hbm, ⟨71, _⟩ => ⟨S1x3072, .f32⟩
  | .hbm, ⟨72, _⟩ => ⟨S1x3072, .f32⟩
  | .hbm, ⟨73, _⟩ => ⟨S2x3072, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call3_v0 : Ref sig .tc := ⟨.hbm, 53, rfl⟩
abbrev main_call3_v1 : Ref sig .tc := ⟨.hbm, 54, rfl⟩
abbrev main_call3_cst : Ref sig .tc := ⟨.hbm, 55, rfl⟩
abbrev main_call3_v2 : Ref sig .tc := ⟨.hbm, 56, rfl⟩
abbrev main_call3_v3 : Ref sig .tc := ⟨.hbm, 57, rfl⟩
abbrev main_call3_cst_0 : Ref sig .tc := ⟨.hbm, 58, rfl⟩
abbrev main_call3_v4 : Ref sig .tc := ⟨.hbm, 59, rfl⟩
abbrev main_call3_v5 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩

abbrev nD : Nat := 1
abbrev τ : Topo := Topo.v7x

variable {F : FTy → Type} [FloatOps F]
-- ==== Proof.Body.lean ====
/- One run of the retention kernel's body over abstract staging buffers: the pieces it leaves in its two results are
   found by the run. -/
module

public import proofs.«01_k».proof.Proof.Gen.KernelIdeal.Skeleton
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers: the ten operands at contents `x0 … x9` end as they were, the two results end at
    the canonical contents of the pieces `L10`, `L11` the run finds, and the scratch at some contents. -/
def bodyRun (c : Dev nD) (i : grid0.Coords) (arg2 : Memref sig .tc .smem S2x8 .f32) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x1x2048x128 .bf16) (harg6 : arg6.IsWhole) (arg7 : Memref sig .tc .vmem S1x1x256x128 .bf16) (harg7 : arg7.IsWhole) (arg8 : Memref sig .tc .vmem S1x1x256x128 .bf16) (harg8 : arg8.IsWhole) (arg9 : Memref sig .tc .vmem S1x1x256x128 .bf16) (harg9 : arg9.IsWhole) (arg10 : Memref sig .tc .vmem S1x1x256x128 .bf16) (harg10 : arg10.IsWhole) (arg11 : Memref sig .tc .vmem S1x128 .f32) (harg11 : arg11.IsWhole) (arg12 : Memref sig .tc .vmem S1x2048x128 .bf16) (harg12 : arg12.IsWhole) (arg13 : Memref sig .tc .vmem S1x256x128 .bf16) (harg13 : arg13.IsWhole) (arg14 : Memref sig .tc .vmem S18x128x128 .bf16) (harg14 : arg14.IsWhole)
    (x0 : Vec F S2x8 .f32) (x1 : Vec F S1x1x2048x128 .bf16) (x2 : Vec F S1x1x2048x128 .bf16) (x3 : Vec F S1x1x2048x128 .bf16) (x4 : Vec F S1x1x2048x128 .bf16) (x5 : Vec F S1x1x256x128 .bf16) (x6 : Vec F S1x1x256x128 .bf16) (x7 : Vec F S1x1x256x128 .bf16) (x8 : Vec F S1x1x256x128 .bf16) (x9 : Vec F S1x128 .f32) :
    Σ' (L10 : List (View.Piece (Elt F) S1x2048x128 .bf16)), { L11 : List (View.Piece (Elt F) S1x256x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ owns (c : Thread nD τ) arg12 fullShare (View.canon L10) ∗ owns (c : Thread nD τ) arg13 fullShare (View.canon L11) ∗ (∃ d, owns (c : Thread nD τ) arg14 fullShare d)) -∗ K ⟨⟩))
          ⊢ wp frame (wpE (defs₀ (F := F)) Variants.none c none) E (cc0_retention_ctx i arg2 harg2 arg3 harg3 arg4 harg4 arg5 harg5 arg6 harg6 arg7 harg7 arg8 harg8 arg9 harg9 arg10 harg10 arg11 harg11 arg12 harg12 arg13 harg13 arg14 harg14) K } := by
  refine ⟨?L10, ?L11, fun E K => ?run⟩
  case run =>
    simp only [cc0_retention_ctx_eq_skeleton]; unfold cc0_retention_ctx_skel
    simp only [k0_part47_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro; refine View.read_writes_eq_canon (Val := Elt F) _ _ _ ?_; exact View.cover_of_tiled _ S1x128x128.size (by rfl)
    isplitl [H11]
    · iexists _; isplitr; swap; · iexact H11
      ipureintro; refine View.read_writes_eq_canon (Val := Elt F) _ _ _ ?_; exact View.cover_of_tiled _ S1x128x128.size (by rfl)
    iexists _, _; isplitr; swap; · iexact HS0
    ipureintro; rfl

end Cert.KernelIdeal.Hand

end
-- ==== Proof.Spec.lean ====
/- The retention kernel's body in its own words, one chunk at a time: the decay vectors, the state's update by one
   chunk, the states a run of chunks passes through, and one chunk's output. -/
module

public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- A chunk of a head's rows, as the body loads it. -/
abbrev Blk (F : FTy → Type) := Vec F S1x1x128x128 .bf16
/-- A head's state. -/
abbrev St (F : FTy → Type) := FVec F S128x128 .f32

/-- The position inside a chunk, as a column. -/
def pos : FVec F S128x1 .f32 := sitofp .f32 (iota .tc S128x1 32 [0] iota_S128x1_d0_w32)

/-- `i - j`, the distance between a query's and a key's position. -/
def dist : FVec F S128x128 .f32 :=
  subf (sitofp .f32 (iota .tc S128x128 32 [0] iota_S128x128_d0_w32)) (sitofp .f32 (iota .tc S128x128 32 [1] iota_S128x128_d1_w32))

/-- The two directions' masks inside a chunk, added: the forward decay where `i ≥ j`, the backward one where `i ≤ j`. -/
def mask (lf lb : F .f32) : FVec F S128x128 .f32 :=
  addf
    (select (cmpf .oge (dist (F := F)) (broadcast S128x128 (Scalar.ofBits .f32 0x00000000#32)))
      (exp (mulf (broadcast S128x128 lf) (maximumf (dist (F := F)) (broadcast S128x128 (Scalar.ofBits .f32 0x00000000#32)))))
      (broadcast S128x128 (Scalar.ofBits .f32 0x00000000#32)))
    (select (cmpf .ole (dist (F := F)) (broadcast S128x128 (Scalar.ofBits .f32 0x00000000#32)))
      (exp (mulf (broadcast S128x128 lb)
        (maximumf (subf (broadcast S128x128 (Scalar.ofBits .f32 0x00000000#32)) dist)
          (broadcast S128x128 (Scalar.ofBits .f32 0x00000000#32)))))
      (broadcast S128x128 (Scalar.ofBits .f32 0x00000000#32)))

/-- The query's decay against the state of the chunks before it, -/
def xiF (l : F .f32) : FVec F S128x1 .f32 :=
  exp (mulf (broadcast S128x1 l) (addf pos (broadcast S128x1 (Scalar.ofBits .f32 0x3F800000#32))))
/-- and against the state of the chunks after it. -/
def xiB (l : F .f32) : FVec F S128x1 .f32 :=
  exp (mulf (broadcast S128x1 l) (subf (broadcast S128x1 (Scalar.ofBits .f32 0x43000000#32)) pos))
/-- The key's decay up to its chunk's end, -/
def zetaF (l : F .f32) : FVec F S128x1 .f32 :=
  exp (mulf (broadcast S128x1 l) (subf (broadcast S128x1 (Scalar.ofBits .f32 0x42FE0000#32)) pos))
/-- and back to its chunk's start. -/
def zetaB (l : F .f32) : FVec F S128x1 .f32 := exp (mulf (broadcast S128x1 l) pos)
/-- The decay of a whole chunk. -/
def dec (l : F .f32) : FVec F S1x128 .f32 := exp (broadcast S1x128 (Scalar.mulf l (Scalar.ofBits .f32 0x43000000#32)))

/-- The state a pass starts from. -/
def st0 : St F := broadcast S128x128 (Scalar.ofBits .f32 0x00000000#32)

/-- One chunk's update of the state: decayed, plus the decayed keys against the values. -/
def upd (zeta : FVec F S128x1 .f32) (d : FVec F S1x128 .f32) (k v : Blk F) (s : St F) : St F :=
  addf (mulf (broadcastTo S128x128 d broadcasts_S1x128_S128x128) s)
    (matmul dot_S128x128_S128x128_S128x128_0_0_1_1_n_n none
      (truncf .bf16 (mulf (extf .f32 (shapeCast S128x128 k shapeCasts_S1x1x128x128_S128x128) bitsLt_bf16_f32)
        (broadcastTo S128x128 zeta broadcasts_S128x1_S128x128)) bitsLt_bf16_f32)
      (shapeCast S128x128 v shapeCasts_S1x1x128x128_S128x128)
      (constant S128x128 .f32 0x00000000#32))

/-- The state as the scratch keeps it. -/
def kept (s : St F) : Vec F S1x128x128 .bf16 :=
  shapeCast S1x128x128 (truncf .bf16 s bitsLt_bf16_f32) shapeCasts_S128x128_S1x128x128

/-- The states a pass goes through: the chunk of step `t` is `ord t`. -/
def states (zeta : FVec F S128x1 .f32) (d : FVec F S1x128 .f32) (k v : ℕ → Blk F) (ord : ℕ → ℕ) (s : St F) : ℕ → St F
  | 0 => s
  | t + 1 => upd zeta d (k (ord t)) (v (ord t)) (states zeta d k v ord s t)

/-- A latent chunk's rectangle is inside its operand; -/
theorem inbL (n : ℕ) : ∀ a, (![0, 0, 128 * (n % 16), 0] : Fin 4 → ℕ) a + S1x1x128x128.size a ≤ S1x1x2048x128.size a := by
  have := Nat.mod_lt n (by decide : 0 < 16)
  intro a; fin_cases a <;> simp [S1x1x128x128, S1x1x2048x128] <;> omega
/-- a context chunk's too; -/
theorem inbC (n : ℕ) : ∀ a, (![0, 0, 128 * (n % 2), 0] : Fin 4 → ℕ) a + S1x1x128x128.size a ≤ S1x1x256x128.size a := by
  have := Nat.mod_lt n (by decide : 0 < 2)
  intro a; fin_cases a <;> simp [S1x1x128x128, S1x1x256x128] <;> omega
/-- so is a slot of the scratch, -/
theorem inbS (n : ℕ) : ∀ a, (![n % 18, 0, 0] : Fin 3 → ℕ) a + S1x128x128.size a ≤ S18x128x128.size a := by
  have := Nat.mod_lt n (by decide : 0 < 18)
  intro a; fin_cases a <;> simp [S1x128x128, S18x128x128] <;> omega
/-- a chunk of the latent result -/
theorem inbOL (n : ℕ) : ∀ a, (![0, 128 * (n % 16), 0] : Fin 3 → ℕ) a + S1x128x128.size a ≤ S1x2048x128.size a := by
  have := Nat.mod_lt n (by decide : 0 < 16)
  intro a; fin_cases a <;> simp [S1x128x128, S1x2048x128] <;> omega
/-- and of the context result. -/
theorem inbOC (n : ℕ) : ∀ a, (![0, 128 * (n % 2), 0] : Fin 3 → ℕ) a + S1x128x128.size a ≤ S1x256x128.size a := by
  have := Nat.mod_lt n (by decide : 0 < 2)
  intro a; fin_cases a <;> simp [S1x128x128, S1x256x128] <;> omega

/-- The backward states: of the context after `t` of its chunks, last first; -/
def bwdC (lb : F .f32) (kc vc : ℕ → Blk F) : ℕ → St F := states (zetaB lb) (dec lb) kc vc (fun t => 1 - t) st0
/-- of the latent rows after the context and `t` of their chunks. -/
def bwdL (lb : F .f32) (k v kc vc : ℕ → Blk F) : ℕ → St F :=
  states (zetaB lb) (dec lb) k v (fun t => 15 - t) (bwdC lb kc vc 2)
/-- The forward states likewise, first chunk first. -/
def fwdC (lf : F .f32) (kc vc : ℕ → Blk F) : ℕ → St F := states (zetaF lf) (dec lf) kc vc (fun t => t) st0
@[inherit_doc fwdC]
def fwdL (lf : F .f32) (k v kc vc : ℕ → Blk F) : ℕ → St F :=
  states (zetaF lf) (dec lf) k v (fun t => t) (fwdC lf kc vc 2)

/-- What slot `n` of the scratch keeps: the state of the rows after the slot's chunk. -/
def slot (lb : F .f32) (k v kc vc : ℕ → Blk F) (n : ℕ) : Vec F S1x128x128 .bf16 :=
  if n < 2 then kept (bwdC lb kc vc (1 - n)) else kept (bwdL lb k v kc vc (17 - n))

/-- The scratch's pieces, the last one stored first. -/
def slotPieces (w : ℕ → Vec F S1x128x128 .bf16) : List (View.Piece (Elt F) S18x128x128 .bf16) :=
  [2, 3, 4, 5, 6, 7, 8, 9, 10, 11, 12, 13, 14, 15, 16, 17, 0, 1].map fun n =>
    ⟨Rect.unit (s := S18x128x128) ![n % 18, 0, 0] S1x128x128.size (inbS n), w n⟩

/-- A chunk's retention: inside the chunk, from the chunks before it, from the chunks after it. -/
def mix (msk : FVec F S128x128 .f32) (xf xb : FVec F S128x1 .f32) (q k v : Blk F) (s : St F) (sb : Vec F S1x128x128 .bf16) :
    FVec F S128x128 .f32 :=
  addf
    (addf
      (matmul dot_S128x128_S128x128_S128x128_1_0_0_1_n_n none
        (truncf .bf16 (mulf
          (matmul dot_S128x128_S128x128_S128x128_1_1_0_0_n_n none
            (shapeCast S128x128 q shapeCasts_S1x1x128x128_S128x128)
            (shapeCast S128x128 k shapeCasts_S1x1x128x128_S128x128) (constant S128x128 .f32 0x00000000#32)) msk) bitsLt_bf16_f32)
        (shapeCast S128x128 v shapeCasts_S1x1x128x128_S128x128) (constant S128x128 .f32 0x00000000#32))
      (matmul dot_S128x128_S128x128_S128x128_1_0_0_1_n_n none
        (truncf .bf16 (mulf (extf .f32 (shapeCast S128x128 q shapeCasts_S1x1x128x128_S128x128) bitsLt_bf16_f32)
          (broadcastTo S128x128 xf broadcasts_S128x1_S128x128)) bitsLt_bf16_f32)
        (truncf .bf16 s bitsLt_bf16_f32) (constant S128x128 .f32 0x00000000#32)))
    (matmul dot_S128x128_S128x128_S128x128_1_0_0_1_n_n none
      (truncf .bf16 (mulf (extf .f32 (shapeCast S128x128 q shapeCasts_S1x1x128x128_S128x128) bitsLt_bf16_f32)
        (broadcastTo S128x128 xb broadcasts_S128x1_S128x128)) bitsLt_bf16_f32)
      (shapeCast S128x128 sb shapeCasts_S1x128x128_S128x128) (constant S128x128 .f32 0x00000000#32))

/-- The mean of every row, as a column. -/
def rowMean (o : FVec F S128x128 .f32) : FVec F S128x1 .f32 :=
  divf (shapeCast S128x1 (multiReduction .add [1] S128 o 0x00000000#32 reduces_S128x128_S128 (.inl rfl) rfl) shapeCasts_S128_S128x1)
    (broadcast S128x1 (Scalar.ofBits .f32 0x43000000#32))

/-- Every row less its mean. -/
def centred (o : FVec F S128x128 .f32) : FVec F S128x128 .f32 :=
  subf o (broadcastTo S128x128 (rowMean o) broadcasts_S128x1_S128x128)

/-- The head's normalisation and the gate, rounded as the result keeps it. -/
def normGate (nw : Vec F S1x128 .f32) (z : Blk F) (o : FVec F S128x128 .f32) : Vec F S1x128x128 .bf16 :=
  shapeCast S1x128x128
    (truncf .bf16
      (mulf
        (mulf
          (mulf (centred o)
            (broadcastTo S128x128
              (rsqrt (addf (rowMean (mulf (centred o) (centred o))) (broadcast S128x1 (Scalar.ofBits .f32 0x358637BD#32))))
              broadcasts_S128x1_S128x128))
          (broadcastTo S128x128 nw broadcasts_S1x128_S128x128))
        (mulf (extf .f32 (shapeCast S128x128 z shapeCasts_S1x1x128x128_S128x128) bitsLt_bf16_f32)
          (logistic (extf .f32 (shapeCast S128x128 z shapeCasts_S1x1x128x128_S128x128) bitsLt_bf16_f32))))
      bitsLt_bf16_f32)
    shapeCasts_S128x128_S1x128x128

/-- One chunk's output. -/
def chunkOut (lf lb : F .f32) (nw : Vec F S1x128 .f32) (q k v z : Blk F) (s : St F) (sb : Vec F S1x128x128 .bf16) :
    Vec F S1x128x128 .bf16 :=
  normGate nw z (mix (mask lf lb) (xiF lf) (xiB lb) q k v s sb)

/-- The latent result's pieces, the last one stored first: chunk `n` from the forward state before it and slot `n + 2`. -/
def piecesL (lf lb : F .f32) (nw : Vec F S1x128 .f32) (q k v z kc vc : ℕ → Blk F) (sb : ℕ → Vec F S1x128x128 .bf16) :
    List (View.Piece (Elt F) S1x2048x128 .bf16) :=
  [15, 14, 13, 12, 11, 10, 9, 8, 7, 6, 5, 4, 3, 2, 1, 0].map fun n =>
    ⟨Rect.unit (s := S1x2048x128) ![0, 128 * (n % 16), 0] S1x128x128.size (inbOL n),
      chunkOut lf lb nw (q n) (k n) (v n) (z n) (fwdL lf k v kc vc n) (sb (n + 2))⟩

/-- The context result's pieces likewise. -/
def piecesC (lf lb : F .f32) (nw : Vec F S1x128 .f32) (q k v z : ℕ → Blk F) (sb : ℕ → Vec F S1x128x128 .bf16) :
    List (View.Piece (Elt F) S1x256x128 .bf16) :=
  [1, 0].map fun n =>
    ⟨Rect.unit (s := S1x256x128) ![0, 128 * (n % 2), 0] S1x128x128.size (inbOC n),
      chunkOut lf lb nw (q n) (k n) (v n) (z n) (fwdC lf k v n) (sb n)⟩

end Cert.KernelIdeal.Hand

end
-- ==== Proof.Pieces.lean ====
/- The pieces the body's run leaves in its results and in its scratch, each as one chunk's value. -/
module

public import proofs.«01_k».proof.Proof.Body
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Chunk `n` of a latent operand, as the body loads it; -/
def rdL {arg : Memref sig .tc .vmem S1x1x2048x128 .bf16} (h : arg.IsWhole) (x : Vec F S1x1x2048x128 .bf16) (n : ℕ) : Blk F :=
  View.readAt (Elt F) arg.view (Rect.unit (s := S1x1x2048x128) ![0, 0, 128 * (n % 16), 0] S1x1x128x128.size (inbL n)).toLoadRect (h.unread x)
/-- and of a context operand. -/
def rdC {arg : Memref sig .tc .vmem S1x1x256x128 .bf16} (h : arg.IsWhole) (x : Vec F S1x1x256x128 .bf16) (n : ℕ) : Blk F :=
  View.readAt (Elt F) arg.view (Rect.unit (s := S1x1x256x128) ![0, 0, 128 * (n % 2), 0] S1x1x128x128.size (inbC n)).toLoadRect (h.unread x)

variable (c : Dev nD) (i : grid0.Coords) (arg2 : Memref sig .tc .smem S2x8 .f32) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x1x2048x128 .bf16) (harg6 : arg6.IsWhole) (arg7 : Memref sig .tc .vmem S1x1x256x128 .bf16) (harg7 : arg7.IsWhole) (arg8 : Memref sig .tc .vmem S1x1x256x128 .bf16) (harg8 : arg8.IsWhole) (arg9 : Memref sig .tc .vmem S1x1x256x128 .bf16) (harg9 : arg9.IsWhole) (arg10 : Memref sig .tc .vmem S1x1x256x128 .bf16) (harg10 : arg10.IsWhole) (arg11 : Memref sig .tc .vmem S1x128 .f32) (harg11 : arg11.IsWhole) (arg12 : Memref sig .tc .vmem S1x2048x128 .bf16) (harg12 : arg12.IsWhole) (arg13 : Memref sig .tc .vmem S1x256x128 .bf16) (harg13 : arg13.IsWhole) (arg14 : Memref sig .tc .vmem S18x128x128 .bf16) (harg14 : arg14.IsWhole)     (x0 : Vec F S2x8 .f32) (x1 : Vec F S1x1x2048x128 .bf16) (x2 : Vec F S1x1x2048x128 .bf16) (x3 : Vec F S1x1x2048x128 .bf16) (x4 : Vec F S1x1x2048x128 .bf16) (x5 : Vec F S1x1x256x128 .bf16) (x6 : Vec F S1x1x256x128 .bf16) (x7 : Vec F S1x1x256x128 .bf16) (x8 : Vec F S1x1x256x128 .bf16) (x9 : Vec F S1x128 .f32)

/-- The forward decay the body loads; -/
abbrev lf : F .f32 := bodyRun.sl.r c i arg2 harg2 x0
/-- the backward one. -/
abbrev lb : F .f32 := bodyRun.sl.r_1 c i arg2 harg2 x0

/-- The scratch's pieces are the states of the backward pass: two of the context, then sixteen of the latent rows. -/
theorem keptPieces : bodyRun.sl.HS0_18 c i arg2 harg2 arg4 harg4 arg5 harg5 arg8 harg8 arg9 harg9 x0 x2 x3 x6 x7
    = slotPieces (slot (lb c i arg2 harg2 x0) (rdL harg4 x2) (rdL harg5 x3) (rdC harg8 x6) (rdC harg9 x7)) := rfl

/-- Slot `n` of the scratch, as the forward pass loads it. -/
def rdS (n : ℕ) : Vec F S1x128x128 .bf16 :=
  arg14.view.readCov (bodyRun.sl.HS0_18 c i arg2 harg2 arg4 harg4 arg5 harg5 arg8 harg8 arg9 harg9 x0 x2 x3 x6 x7)
    (Rect.unit (s := S18x128x128) ![n % 18, 0, 0] S1x128x128.size (inbS n)).toLoadRect

/-- What the body loads of the norm's weights. -/
abbrev nwv : Vec F S1x128 .f32 := bodyRun.sl.r_10 c arg11 harg11 x9

/-- The latent result's pieces, as found, are the chunks' outputs; -/
theorem found10 : (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1
    = piecesL (lf c i arg2 harg2 x0) (lb c i arg2 harg2 x0) (nwv c arg11 harg11 x9) (rdL harg3 x1) (rdL harg4 x2) (rdL harg5 x3)
      (rdL harg6 x4) (rdC harg8 x6) (rdC harg9 x7)
      (rdS c i arg2 harg2 arg4 harg4 arg5 harg5 arg8 harg8 arg9 harg9 arg14 x0 x2 x3 x6 x7) := rfl

/-- the context result's too. -/
theorem found11 : (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.1
    = piecesC (lf c i arg2 harg2 x0) (lb c i arg2 harg2 x0) (nwv c arg11 harg11 x9) (rdC harg7 x5) (rdC harg8 x6) (rdC harg9 x7)
      (rdC harg10 x8)
      (rdS c i arg2 harg2 arg4 harg4 arg5 harg5 arg8 harg8 arg9 harg9 arg14 x0 x2 x3 x6 x7) := rfl

end Cert.KernelIdeal.Hand

end
-- ==== Proof.Reads.lean ====
/- The body's pieces in its operands alone: every load is a part of the operand's block, and the scratch's slots read back
   what the backward pass kept. -/
module

public import proofs.«01_k».proof.Proof.Pieces
public import Idealize.ShloMosaic.Lib.Pipeline.Value
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

/-- Chunk `n` of a head's latent rows; -/
def blkL (x : Vec F S1x1x2048x128 .bf16) (n : ℕ) : Blk F :=
  View.ld x (Rect.unit (s := S1x1x2048x128) ![0, 0, 128 * (n % 16), 0] S1x1x128x128.size (inbL n))
/-- of its context rows. -/
def blkC (x : Vec F S1x1x256x128 .bf16) (n : ℕ) : Blk F :=
  View.ld x (Rect.unit (s := S1x1x256x128) ![0, 0, 128 * (n % 2), 0] S1x1x128x128.size (inbC n))

theorem rdL_eq {arg : Memref sig .tc .vmem S1x1x2048x128 .bf16} (h : arg.IsWhole) (x : Vec F S1x1x2048x128 .bf16) :
    rdL h x = blkL x := funext fun n => by
  unfold rdL blkL; rw [View.readAt_eq_ld, h.read_unread]
theorem rdC_eq {arg : Memref sig .tc .vmem S1x1x256x128 .bf16} (h : arg.IsWhole) (x : Vec F S1x1x256x128 .bf16) :
    rdC h x = blkC x := funext fun n => by
  unfold rdC blkC; rw [View.readAt_eq_ld, h.read_unread]

/-- A slot's rectangle. -/
abbrev slotRect (n : ℕ) : Rect S18x128x128 := Rect.unit (s := S18x128x128) ![n % 18, 0, 0] S1x128x128.size (inbS n)

/-- A slot's piece, stored. -/
abbrev slotPiece (w : ℕ → Vec F S1x128x128 .bf16) (n : ℕ) : View.Piece (Elt F) S18x128x128 .bf16 :=
  ⟨Rect.unit (s := S18x128x128) ![n % 18, 0, 0] S1x128x128.size (inbS n), w n⟩

/-- Different slots are disjoint. -/
theorem slot_disjoint {a o : ℕ} (h : a % 18 ≠ o) (inb) :
    Disjoint (slotRect a).set (Rect.unit (s := S18x128x128) ![o, 0, 0] S1x128x128.size inb).set := by
  rw [Finset.disjoint_left]
  intro y ha hb
  rw [Rect.mem_set_unit] at ha hb
  have h1 := ha 0
  have h2 := hb 0
  simp [S1x128x128] at h1 h2
  omega

/-- The last store through a slot's rectangle is what its load reads. -/
theorem readCov_hit (v : View sig .tc .vmem S18x128x128 .bf16) (w : ℕ → Vec F S1x128x128 .bf16) (a o : ℕ) (h : o = a % 18)
    (L : List (View.Piece (Elt F) S18x128x128 .bf16)) (inb) :
    v.readCov (Val := Elt F) (slotPiece w a :: L) (Rect.unit (s := S18x128x128) ![o, 0, 0] S1x128x128.size inb).toLoadRect = w a := by
  subst h
  exact View.readCov_cons_toLoadRect v _ _ _

/-- Slot `o` of a scratch filled slot by slot reads what was stored there. -/
theorem readCov_slots (v : View sig .tc .vmem S18x128x128 .bf16) (w : ℕ → Vec F S1x128x128 .bf16) (o : ℕ) (ho : o < 18) (inb) :
    ∀ L : List ℕ, (∀ n ∈ L, n < 18) → o ∈ L →
      v.readCov (Val := Elt F) (L.map (slotPiece w)) (Rect.unit (s := S18x128x128) ![o, 0, 0] S1x128x128.size inb).toLoadRect = w o
  | [], _, h => by simp at h
  | a :: L, hL, h => by
    have ha := hL a (by simp)
    by_cases e : a = o
    · subst e
      exact readCov_hit v w _ _ (Nat.mod_eq_of_lt ho).symm _ _
    · have hd : a % 18 ≠ o := by omega
      have h1 := View.readCov_cons_of_disjoint (Val := Elt F) v (slotPiece w a) (L.map (slotPiece w))
        (Rect.unit (s := S18x128x128) ![o, 0, 0] S1x128x128.size inb).toLoadRect (slot_disjoint hd inb)
      exact h1.trans (readCov_slots v w o ho inb L (fun n hn => hL n (by simp [hn])) (by simpa [Ne.symm e] using h))

variable (c : Dev nD) (i : grid0.Coords) (arg2 : Memref sig .tc .smem S2x8 .f32) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x1x2048x128 .bf16) (harg6 : arg6.IsWhole) (arg7 : Memref sig .tc .vmem S1x1x256x128 .bf16) (harg7 : arg7.IsWhole) (arg8 : Memref sig .tc .vmem S1x1x256x128 .bf16) (harg8 : arg8.IsWhole) (arg9 : Memref sig .tc .vmem S1x1x256x128 .bf16) (harg9 : arg9.IsWhole) (arg10 : Memref sig .tc .vmem S1x1x256x128 .bf16) (harg10 : arg10.IsWhole) (arg11 : Memref sig .tc .vmem S1x128 .f32) (harg11 : arg11.IsWhole) (arg12 : Memref sig .tc .vmem S1x2048x128 .bf16) (harg12 : arg12.IsWhole) (arg13 : Memref sig .tc .vmem S1x256x128 .bf16) (harg13 : arg13.IsWhole) (arg14 : Memref sig .tc .vmem S18x128x128 .bf16) (harg14 : arg14.IsWhole)
    (x0 : Vec F S2x8 .f32) (x1 : Vec F S1x1x2048x128 .bf16) (x2 : Vec F S1x1x2048x128 .bf16) (x3 : Vec F S1x1x2048x128 .bf16) (x4 : Vec F S1x1x2048x128 .bf16) (x5 : Vec F S1x1x256x128 .bf16) (x6 : Vec F S1x1x256x128 .bf16) (x7 : Vec F S1x1x256x128 .bf16) (x8 : Vec F S1x1x256x128 .bf16) (x9 : Vec F S1x128 .f32)

/-- Slot `n` as the forward pass loads it is the state the backward pass kept there. -/
theorem rdS_eq : rdS c i arg2 harg2 arg4 harg4 arg5 harg5 arg8 harg8 arg9 harg9 arg14 x0 x2 x3 x6 x7
    = fun n => slot (lb c i arg2 harg2 x0) (blkL x2) (blkL x3) (blkC x6) (blkC x7) (n % 18) := funext fun n => by
  have hn := Nat.mod_lt n (by decide : 0 < 18)
  unfold rdS
  rw [keptPieces, rdL_eq, rdL_eq, rdC_eq, rdC_eq]
  exact readCov_slots arg14.view _ (n % 18) hn (inbS n)
    [2, 3, 4, 5, 6, 7, 8, 9, 10, 11, 12, 13, 14, 15, 16, 17, 0, 1] (by decide) (by
      generalize n % 18 = k at hn
      revert k
      decide)

/-- The forward decay of the head at grid point `i`, -/
def lfv (i : grid0.Coords) (x0 : Vec F S2x8 .f32) : F .f32 := x0 (ix2 0 (i 1))
/-- and the backward one. -/
def lbv (i : grid0.Coords) (x0 : Vec F S2x8 .f32) : F .f32 := x0 (ix2 1 (i 1))

theorem lf_eq : lf c i arg2 harg2 x0 = lfv i x0 := by
  unfold lf bodyRun.sl.r
  rw [View.readAt_apply, harg2.read_unread]
  refine congrArg x0 (funext fun a => Fin.ext ?_)
  have h1 : (i 1).val < 8 := (i 1).isLt
  match a with
  | ⟨0, _⟩ => rfl
  | ⟨1, _⟩ => show (BitVec.setWidth 32 (BitVec.ofNat 32 (i 1).val)).toNat + 1 * 0 = (i 1).val
              simp; omega
theorem lb_eq : lb c i arg2 harg2 x0 = lbv i x0 := by
  unfold lb bodyRun.sl.r_1
  rw [View.readAt_apply, harg2.read_unread]
  refine congrArg x0 (funext fun a => Fin.ext ?_)
  have h1 : (i 1).val < 8 := (i 1).isLt
  match a with
  | ⟨0, _⟩ => rfl
  | ⟨1, _⟩ => show (BitVec.setWidth 32 (BitVec.ofNat 32 (i 1).val)).toNat + 1 * 0 = (i 1).val
              simp; omega
theorem nwv_eq : nwv c arg11 harg11 x9 = x9 := by
  unfold nwv bodyRun.sl.r_10
  rw [View.readAt_eq_ld, harg11.read_unread]
  exact View.ld_unit_zero (by decide) _ _

/-- The latent result's pieces at grid point `i`, of the operands' blocks; -/
def outL (i : grid0.Coords) (x0 : Vec F S2x8 .f32) (x1 : Vec F S1x1x2048x128 .bf16) (x2 : Vec F S1x1x2048x128 .bf16) (x3 : Vec F S1x1x2048x128 .bf16) (x4 : Vec F S1x1x2048x128 .bf16) (x5 : Vec F S1x1x256x128 .bf16) (x6 : Vec F S1x1x256x128 .bf16) (x7 : Vec F S1x1x256x128 .bf16) (x8 : Vec F S1x1x256x128 .bf16) (x9 : Vec F S1x128 .f32) : List (View.Piece (Elt F) S1x2048x128 .bf16) :=
  piecesL (lfv i x0) (lbv i x0) x9 (blkL x1) (blkL x2) (blkL x3) (blkL x4) (blkC x6) (blkC x7)
    (fun n => slot (lbv i x0) (blkL x2) (blkL x3) (blkC x6) (blkC x7) (n % 18))
/-- the context result's. -/
def outC (i : grid0.Coords) (x0 : Vec F S2x8 .f32) (x1 : Vec F S1x1x2048x128 .bf16) (x2 : Vec F S1x1x2048x128 .bf16) (x3 : Vec F S1x1x2048x128 .bf16) (x4 : Vec F S1x1x2048x128 .bf16) (x5 : Vec F S1x1x256x128 .bf16) (x6 : Vec F S1x1x256x128 .bf16) (x7 : Vec F S1x1x256x128 .bf16) (x8 : Vec F S1x1x256x128 .bf16) (x9 : Vec F S1x128 .f32) : List (View.Piece (Elt F) S1x256x128 .bf16) :=
  piecesC (lfv i x0) (lbv i x0) x9 (blkC x5) (blkC x6) (blkC x7) (blkC x8)
    (fun n => slot (lbv i x0) (blkL x2) (blkL x3) (blkC x6) (blkC x7) (n % 18))

theorem found10' : (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 = outL i x0 x1 x2 x3 x4 x5 x6 x7 x8 x9 := by
  rw [found10, rdS_eq, lf_eq, lb_eq, nwv_eq, rdL_eq, rdL_eq, rdL_eq, rdL_eq, rdC_eq, rdC_eq]; rfl
theorem found11' : (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.1 = outC i x0 x1 x2 x3 x4 x5 x6 x7 x8 x9 := by
  rw [found11, rdS_eq, lf_eq, lb_eq, nwv_eq, rdC_eq, rdC_eq, rdC_eq, rdC_eq]; rfl

end Cert.KernelIdeal.Hand

end
-- ==== Proof.Run.lean ====
/- The retention kernel's launch: what every grid point leaves in the two results' buffers, the body's obligation at
   every point, and the frame. -/
module

public import proofs.«01_k».proof.Proof.Reads
public import proofs.«01_k».proof.Proof.Gen.KernelIdeal.Frame
public import proofs.«01_k».proof.Proof.Gen.KernelIdeal.Points
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand: a whole scoped buffer of the kernel's own, beside the windows. -/
abbrev scr : Memref sig .tc .vmem S18x128x128 .bf16 := Memref.whole cc0_scratch0

/-- The launch's invariant: the scratch owned at some contents, and the generator register. -/
theorem inv_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

/-- What point `t` leaves in the latent result's buffer: its chunks' outputs; -/
def left10 (c : Dev nD) (t : Fin cfg0.N) : Vec F S1x2048x128 .bf16 :=
  View.canon (outL (grid0.coords t) (iblk m c 0 t) (iblk m c 1 t) (iblk m c 2 t) (iblk m c 3 t) (iblk m c 4 t) (iblk m c 5 t) (iblk m c 6 t) (iblk m c 7 t) (iblk m c 8 t) (iblk m c 9 t))
/-- and in the context result's. -/
def left11 (c : Dev nD) (t : Fin cfg0.N) : Vec F S1x256x128 .bf16 :=
  View.canon (outC (grid0.coords t) (iblk m c 0 t) (iblk m c 1 t) (iblk m c 2 t) (iblk m c 3 t) (iblk m c 4 t) (iblk m c 5 t) (iblk m c 6 t) (iblk m c 7 t) (iblk m c 8 t) (iblk m c 9 t))

/-- The scratch's whole memref. -/
theorem hscr : scr.IsWhole := Memref.isWhole_whole _

/-- They are what the body's run finds at the point's buffers. -/
theorem left10_found (c : Dev nD) (t : Fin cfg0.N) : left10 m c t = View.canon (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scr hscr (iblk m c 0 t) (iblk m c 1 t) (iblk m c 2 t) (iblk m c 3 t) (iblk m c 4 t) (iblk m c 5 t) (iblk m c 6 t) (iblk m c 7 t) (iblk m c 8 t) (iblk m c 9 t)).1 :=
  (congrArg View.canon (found10' c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t))).symm
theorem left11_found (c : Dev nD) (t : Fin cfg0.N) : left11 m c t = View.canon (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scr hscr (iblk m c 0 t) (iblk m c 1 t) (iblk m c 2 t) (iblk m c 3 t) (iblk m c 4 t) (iblk m c 5 t) (iblk m c 6 t) (iblk m c 7 t) (iblk m c 8 t) (iblk m c 9 t)).2.1 :=
  (congrArg View.canon (found11' c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t))).symm

/-- The pipeline's proof data: the arrays as the launch finds them; after point `t` every input's buffer at its block and
    the results' at what the point leaves; nothing owed; every input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => left10 m c t
    | ⟨11, _⟩ => left11 m c t
  Φ _ := Pipeline.ΦA spec0 c
  q w := Pipeline.shareOf spec0 w
  owed _ := 0

/-- The proof data's arrays are what the launch finds. -/
theorem A_eq (c : Dev nD) (w : Fin cfg0.W) : (dats m 0 c).A w = V m c (Pipeline.arrRef spec0 w) := by
  dsimp only [dats]

/-- Every input's buffer holds its block at every point, before and after the body. -/
theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = iblk m c 5 t := by dsimp only [dats]
theorem aft6 (c : Dev nD) (t : Fin cfg0.N) : (dats m 0 c).after 6 t = iblk m c 6 t := by dsimp only [dats]
theorem aft7 (c : Dev nD) (t : Fin cfg0.N) : (dats m 0 c).after 7 t = iblk m c 7 t := by dsimp only [dats]
theorem aft8 (c : Dev nD) (t : Fin cfg0.N) : (dats m 0 c).after 8 t = iblk m c 8 t := by dsimp only [dats]
theorem aft9 (c : Dev nD) (t : Fin cfg0.N) : (dats m 0 c).after 9 t = iblk m c 9 t := by dsimp only [dats]
theorem bef0 (c : Dev nD) (t : Fin cfg0.N) (d) : (dats m 0 c).before 0 t d = iblk m c 0 t :=
  before0_0_of m (dats m 0 c) (A_eq m c 0) (aft0 m c) t d
theorem bef1 (c : Dev nD) (t : Fin cfg0.N) (d) : (dats m 0 c).before 1 t d = iblk m c 1 t :=
  before0_1_of m (dats m 0 c) (A_eq m c 1) (aft1 m c) t d
theorem bef2 (c : Dev nD) (t : Fin cfg0.N) (d) : (dats m 0 c).before 2 t d = iblk m c 2 t :=
  before0_2_of m (dats m 0 c) (A_eq m c 2) (aft2 m c) t d
theorem bef3 (c : Dev nD) (t : Fin cfg0.N) (d) : (dats m 0 c).before 3 t d = iblk m c 3 t :=
  before0_3_of m (dats m 0 c) (A_eq m c 3) (aft3 m c) t d
theorem bef4 (c : Dev nD) (t : Fin cfg0.N) (d) : (dats m 0 c).before 4 t d = iblk m c 4 t :=
  before0_4_of m (dats m 0 c) (A_eq m c 4) (aft4 m c) t d
theorem bef5 (c : Dev nD) (t : Fin cfg0.N) (d) : (dats m 0 c).before 5 t d = iblk m c 5 t :=
  before0_5_of m (dats m 0 c) (A_eq m c 5) (aft5 m c) t d
theorem bef6 (c : Dev nD) (t : Fin cfg0.N) (d) : (dats m 0 c).before 6 t d = iblk m c 6 t :=
  before0_6_of m (dats m 0 c) (A_eq m c 6) (aft6 m c) t d
theorem bef7 (c : Dev nD) (t : Fin cfg0.N) (d) : (dats m 0 c).before 7 t d = iblk m c 7 t :=
  before0_7_of m (dats m 0 c) (A_eq m c 7) (aft7 m c) t d
theorem bef8 (c : Dev nD) (t : Fin cfg0.N) (d) : (dats m 0 c).before 8 t d = iblk m c 8 t :=
  before0_8_of m (dats m 0 c) (A_eq m c 8) (aft8 m c) t d
theorem bef9 (c : Dev nD) (t : Fin cfg0.N) (d) : (dats m 0 c).before 9 t d = iblk m c 9 t :=
  before0_9_of m (dats m 0 c) (A_eq m c 9) (aft9 m c) t d
/-- The results' buffers after the body. -/
theorem aft10 (c : Dev nD) (t : Fin cfg0.N) : (dats m 0 c).after 10 t = left10 m c t := by dsimp only [dats]
theorem aft11 (c : Dev nD) (t : Fin cfg0.N) : (dats m 0 c).after 11 t = left11 m c t := by dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t))

set_option maxHeartbeats 1600000 in
/-- The body at any point: the inputs' buffers hold their blocks, so the run applies, and what it leaves in the results'
    buffers is the chunks' outputs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef0, bef1, bef2, bef3, bef4, bef5, bef6, bef7, bef8, bef9]
  rw [show (dats m 0 c).Φ t.succ = (dats m 0 c).Φ t.castSucc from rfl,
    show (dats m 0 c).owesAt () t.succ = (dats m 0 c).owesAt () t.castSucc from rfl,
    aft0, aft1, aft2, aft3, aft4, aft5, aft6, aft7, aft8, aft9, aft10, aft11]
  rw [show (dats m 0 c).Φ t.castSucc = Pipeline.ΦA spec0 c from rfl, inv_eq, left10_found, left11_found]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  iintro ⟨H0, H1, H2, H3, H4, H5, H6, H7, H8, H9, H10, H11, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t` is the body. -/
theorem row (t : Fin cfg0.N) : defs₀ (F := F) .tc cfg0.body (cfg0.bodyArgs t (cfg0.slots t)) = bodyAt0 t := by
  unfold defs₀; rw [Defs.onTc_tc]

/-- The body's obligation, at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The launch: every fair execution terminates with every array of the pipeline at what its points leave, and every
    semaphore counter at zero. -/
theorem launched : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The arguments end unchanged and every semaphore counter is zero: the frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.KernelIdeal.Hand

end
-- ==== Proof.Math.lean ====
/- The retention's arithmetic over the extended reals, with no program in sight: a chunk's output in the kernel's shape and
   in the reference's, the states, and what makes the two shapes equal. -/
module

public import Idealize.ShloMosaic.PureOps.Ideal.Laws

@[expose] public section

noncomputable section

namespace Cert.Ret

open Idealize.ShloMosaic

/-- A chunk of rows, or a state: 128 × 128 extended reals. -/
abbrev Mat := Fin 128 → Fin 128 → EReal

/-- A row's position in its chunk. -/
def P (i : Fin 128) : EReal := ((i.val : ℝ) : EReal)

/-- The decay at distance `a`, nothing ahead of it. -/
def dm (l a : EReal) : EReal := if 0 ≤ a then Ideal.exp (l * max a 0) else 0

/-- A key's decay up to its chunk's end. -/
def zeta (l : EReal) (j : Fin 128) : EReal := Ideal.exp (l * (127 - P j))
/-- A query's decay from its chunk's start. -/
def xi (l : EReal) (i : Fin 128) : EReal := Ideal.exp (l * (P i + 1))
/-- The decay of a whole chunk. -/
def dec (l : EReal) : EReal := Ideal.exp (l * 128)

/-- The rows of a chunk read last to first. -/
def revRows (m : Mat) : Mat := fun i => m i.rev

/-- The states of a pass: decayed, plus the decayed keys against the values; the chunk of step `t` is `ord t`. -/
def st (δ : EReal) (z : Fin 128 → EReal) (k v : ℕ → Mat) (ord : ℕ → ℕ) (s : Mat) : ℕ → Mat
  | 0 => s
  | t + 1 => fun d e => δ * st δ z k v ord s t d e + ∑ j, (k (ord t) j d * z j) * v (ord t) j e

/-- One direction's output: the masked scores against the values, plus the query against the state, decayed. -/
def one (D : Mat) (x : Fin 128 → EReal) (q k v s : Mat) (i e : Fin 128) : EReal :=
  (∑ j, ((∑ d, q i d * k j d) * D i j) * v j e) + (∑ d, q i d * s d e) * x i

/-- Both directions at once, the two masks added before they meet the values and the decays on the query's side. -/
def both (DF DB : Mat) (xf xb : Fin 128 → EReal) (q k v sF sB : Mat) (i e : Fin 128) : EReal :=
  ((∑ j, ((∑ d, q i d * k j d) * (DF i j + DB i j)) * v j e) + ∑ d, (q i d * xf i) * sF d e) + ∑ d, (q i d * xb i) * sB d e

/-- A head's mean over its 128 channels, -/
def mean (o : Fin 128 → EReal) : EReal := Ideal.div (∑ e, o e) 128
/-- its channels less the mean, -/
def cent (o : Fin 128 → EReal) (e : Fin 128) : EReal := o e - mean o
/-- and the channels normalised, scaled by the head's weight `w` and gated by `z`. -/
def gated (w z : EReal) (o : Fin 128 → EReal) (e : Fin 128) : EReal :=
  cent o e * Ideal.rsqrt (mean (fun e => cent o e * cent o e) + Ideal.ofBits .f32 0x358637BD#32) * w * (z * Ideal.logistic z)

/-- `Ideal.exp` is not negative. -/
theorem exp_nonneg (a : EReal) : 0 ≤ Ideal.exp a := by
  induction a with
  | bot => simp
  | top => simp
  | coe r => rw [Ideal.exp_coe]; exact_mod_cast (Real.exp_pos r).le

/-- `Ideal.exp` of anything below `⊤` is below `⊤`. -/
theorem exp_ne_top {a : EReal} (h : a ≠ ⊤) : Ideal.exp a ≠ ⊤ := by
  induction a with
  | bot => simp
  | top => exact absurd rfl h
  | coe r => rw [Ideal.exp_coe]; exact EReal.coe_ne_top _

/-- A log decay below `⊤`, times a positive real, is below `⊤`. -/
theorem mul_ne_top {l : EReal} (h : l < ⊤) {r : ℝ} (hr : 0 < r) : l * (r : EReal) ≠ ⊤ := by
  induction l with
  | bot => rw [EReal.bot_mul_coe_of_pos hr]; exact bot_ne_top
  | top => exact absurd h (lt_irrefl _)
  | coe a => rw [← EReal.coe_mul]; exact EReal.coe_ne_top _

/-- The mask is not negative. -/
theorem dm_nonneg (l a : EReal) : 0 ≤ dm l a := by
  unfold dm; split
  · exact exp_nonneg _
  · exact le_rfl

/-- Two masks that are not negative may be added before they meet a score and a value. -/
theorem mask_split (s a b v : EReal) (ha : 0 ≤ a) (hb : 0 ≤ b) : (s * (a + b)) * v = (s * a) * v + (s * b) * v := by
  rw [mul_right_comm, EReal.left_distrib_of_nonneg ha hb, mul_right_comm s v a, mul_right_comm s v b]

/-- A factor that is not negative and below `⊤` comes out of a sum. -/
theorem sum_mul_of_nonneg {ι : Type} (s : Finset ι) (f : ι → EReal) (x : EReal) (h : 0 ≤ x) (h' : x ≠ ⊤) :
    ∑ i ∈ s, f i * x = (∑ i ∈ s, f i) * x := by
  classical
  induction s using Finset.induction_on with
  | empty => simp
  | insert a s ha ih => rw [Finset.sum_insert ha, Finset.sum_insert ha, ih, EReal.right_distrib_of_nonneg_of_ne_top h h']

/-- The two directions at once are the two directions' outputs, added. -/
theorem both_eq (DF DB : Mat) (xf xb : Fin 128 → EReal) (q k v sF sB : Mat) (i e : Fin 128)
    (hF : ∀ i j, 0 ≤ DF i j) (hB : ∀ i j, 0 ≤ DB i j) (hxf : 0 ≤ xf i) (hxf' : xf i ≠ ⊤) (hxb : 0 ≤ xb i) (hxb' : xb i ≠ ⊤) :
    both DF DB xf xb q k v sF sB i e = one DF xf q k v sF i e + one DB xb q k v sB i e := by
  unfold both one
  simp only [mask_split _ _ _ _ (hF i _) (hB i _), Finset.sum_add_distrib, mul_right_comm (q i _) (xf i),
    mul_right_comm (q i _) (xb i), sum_mul_of_nonneg _ _ _ hxf hxf', sum_mul_of_nonneg _ _ _ hxb hxb']
  abel

/-- An output of chunks read last row to first, at the row read so, is the output of the mask and the decay read so. -/
theorem one_flip (D : Mat) (x : Fin 128 → EReal) (q k v s : Mat) (i e : Fin 128) :
    one D x (revRows q) (revRows k) (revRows v) s i.rev e = one (fun i j => D i.rev j.rev) (fun i => x i.rev) q k v s i e := by
  unfold one revRows
  rw [Fin.rev_rev]
  congr 1
  exact (Equiv.sum_comp Fin.revPerm (fun j : Fin 128 => ((∑ d, q i d * k j.rev d) * D i.rev j) * v j.rev e)).symm.trans
    (by simp [Fin.revPerm])

/-- States of chunks read last row to first are the states with the keys' decays read so. -/
theorem st_flip (δ : EReal) (z : Fin 128 → EReal) (k v : ℕ → Mat) (ord : ℕ → ℕ) (s : Mat) (t : ℕ) :
    st δ z (fun n => revRows (k n)) (fun n => revRows (v n)) ord s t = st δ (fun j => z j.rev) k v ord s t := by
  induction t with
  | zero => rfl
  | succ t ih =>
    funext d e
    simp only [st, ih, revRows]
    congr 1
    exact (Equiv.sum_comp Fin.revPerm (fun j : Fin 128 => (k (ord t) j.rev d * z j) * v (ord t) j.rev e)).symm.trans
      (by simp [Fin.revPerm])

/-- The order of the chunks may go into the chunks. -/
theorem st_ord (δ : EReal) (z : Fin 128 → EReal) (k v : ℕ → Mat) (ord : ℕ → ℕ) (s : Mat) (t : ℕ) :
    st δ z (fun n => k (ord n)) (fun n => v (ord n)) (fun n => n) s t = st δ z k v ord s t := by
  induction t with
  | zero => rfl
  | succ t ih => funext d e; simp only [st, ih]

/-- Only the chunks a pass has gone through matter. -/
theorem st_congr (δ : EReal) (z : Fin 128 → EReal) (k v k' v' : ℕ → Mat) (ord : ℕ → ℕ) (s : Mat) (t : ℕ)
    (hk : ∀ n < t, k (ord n) = k' (ord n)) (hv : ∀ n < t, v (ord n) = v' (ord n)) :
    st δ z k v ord s t = st δ z k' v' ord s t := by
  induction t with
  | zero => rfl
  | succ t ih =>
    funext d e
    simp only [st, ih (fun n h => hk n (by omega)) (fun n h => hv n (by omega)), hk t (by omega), hv t (by omega)]

/-- A position from the other end. -/
theorem P_rev (i : Fin 128) : P i.rev = (((127 - i.val : ℝ)) : EReal) := by
  unfold P
  congr 1
  rw [Fin.val_rev, Nat.cast_sub (by omega)]
  push_cast; ring

/-- The key's decay back to its chunk's start. -/
theorem zeta_rev (l : EReal) (j : Fin 128) : zeta l j.rev = Ideal.exp (l * P j) := by
  have : (127 : EReal) - P j.rev = P j := by
    rw [P_rev]; unfold P
    rw [show (127 : EReal) = ((127 : ℝ) : EReal) from rfl, ← EReal.coe_sub]; congr 1; ring
  rw [zeta, this]

/-- The query's decay from the chunk's end. -/
theorem xi_rev (l : EReal) (i : Fin 128) : xi l i.rev = Ideal.exp (l * (128 - P i)) := by
  have : P i.rev + 1 = (128 : EReal) - P i := by
    rw [P_rev]; unfold P
    rw [show (128 : EReal) = ((128 : ℝ) : EReal) from rfl, ← EReal.coe_sub,
      show (1 : EReal) = ((1 : ℝ) : EReal) from rfl, ← EReal.coe_add]; congr 1; ring
  rw [xi, this]

/-- The distance from the other end. -/
theorem P_sub_rev (i j : Fin 128) : P i.rev - P j.rev = 0 - (P i - P j) := by
  rw [P_rev, P_rev]; unfold P
  rw [← EReal.coe_sub, ← EReal.coe_sub, show (0 : EReal) = ((0 : ℝ) : EReal) from rfl, ← EReal.coe_sub]; congr 1; ring

/-- The query's decay is below `⊤` for a log decay below `⊤`. -/
theorem xi_ne_top {l : EReal} (h : l < ⊤) (i : Fin 128) : xi l i ≠ ⊤ := by
  have : P i + 1 = ((i.val + 1 : ℝ) : EReal) := by
    unfold P; rw [show (1 : EReal) = ((1 : ℝ) : EReal) from rfl, ← EReal.coe_add]
  rw [xi, this]
  exact exp_ne_top (mul_ne_top h (by positivity))

/-- What the chunk `n` of `N` is to the two results: the forward direction over the chunks as they come, the backward one
    over them from the last row to the first. -/
def dir2 (lf lb : EReal) (q k v sF sB : Mat) (i e : Fin 128) : EReal :=
  one (fun i j => dm lf (P i - P j)) (xi lf) q k v sF i e
    + one (fun i j => dm lb (P i - P j)) (xi lb) (revRows q) (revRows k) (revRows v) sB i.rev e

/-- The kernel's shape is the reference's, at log decays below `⊤`. -/
theorem both_dir2 {lf lb : EReal} (hf : lf < ⊤) (hb : lb < ⊤) (q k v sF sB : Mat) (i e : Fin 128) :
    both (fun i j => dm lf (P i - P j)) (fun i j => dm lb (0 - (P i - P j))) (xi lf) (fun i => Ideal.exp (lb * (128 - P i)))
      q k v sF sB i e = dir2 lf lb q k v sF sB i e := by
  have e1 : (fun i => Ideal.exp (lb * (128 - P i))) = fun i => xi lb i.rev := funext fun i => (xi_rev lb i).symm
  rw [e1, both_eq _ _ (xi lf) (fun i => xi lb i.rev) _ _ _ _ _ _ _ (fun _ _ => dm_nonneg _ _) (fun _ _ => dm_nonneg _ _) (exp_nonneg _) (xi_ne_top hf _)
    (show (0 : EReal) ≤ xi lb i.rev from exp_nonneg _) (xi_ne_top hb _), dir2, one_flip]
  simp only [P_sub_rev]

end Cert.Ret
end
-- ==== Proof.KernelAt.lean ====
/- The body's own words read at an element, over the extended reals: the masks, the decays, a state's update, a chunk's
   output. -/
module

public import proofs.«01_k».proof.Proof.Spec
public import proofs.«01_k».proof.Proof.Math
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select

@[expose] public section

set_option maxRecDepth 16384

noncomputable section

namespace Cert.KernelIdeal.Hand

open Cert.KernelIdeal Cert.KernelIdeal.Gen
open Idealize.ShloMosaic Idealize.ShloMosaic.TcCoe
open Cert.Ret

/-- `128.0`'s word. -/
theorem lit128 : Ideal.ofBits .f32 0x43000000#32 = 128 := by
  simp [Ideal.ofBits, Ideal.ieee]; norm_num; rw [← EReal.coe_mul]; norm_num; rfl
/-- `127.0`'s word. -/
theorem lit127 : Ideal.ofBits .f32 0x42FE0000#32 = 127 := by
  simp [Ideal.ofBits, Ideal.ieee]; norm_num; rw [← EReal.coe_mul]; norm_num; rfl

/-- A position read as a float. -/
theorem sitofp_pos (i : Fin 128) : FloatOps.sitofp (F := Ideal) .f32 (BitVec.ofNat 32 i.val) = P i := by
  show (((BitVec.ofNat 32 i.val).toInt : ℝ) : EReal) = ((i.val : ℝ) : EReal)
  have : (BitVec.ofNat 32 i.val).toInt = (i.val : ℤ) := by
    rw [BitVec.toInt_eq_toNat_of_lt] <;> simp [BitVec.toNat_ofNat] <;> omega
  rw [this]; norm_cast

theorem pos_at (i : Fin 128) : pos (F := Ideal) (ix2 i 0) = P i := by
  unfold pos
  pointwise
  exact sitofp_pos i

theorem dist_at (i j : Fin 128) : dist (F := Ideal) (ix2 i j) = P i - P j := by
  unfold dist
  pointwise
  rw [← sitofp_pos, ← sitofp_pos]

theorem mask_at (lf lb : EReal) (i j : Fin 128) :
    mask (F := Ideal) lf lb (ix2 i j) = dm lf (P i - P j) + dm lb (0 - (P i - P j)) := by
  unfold mask
  pointwise
  rw [dist_at]
  have h : (0 - (P i - P j) : EReal) = (((j.val - i.val : ℝ)) : EReal) := by
    unfold P
    rw [← EReal.coe_sub, show (0 : EReal) = ((0 : ℝ) : EReal) from rfl, ← EReal.coe_sub]; congr 1; ring
  have h' : (P i - P j : EReal) = (((i.val - j.val : ℝ)) : EReal) := by unfold P; rw [← EReal.coe_sub]
  have hb : (P i - P j ≤ 0) ↔ (0 ≤ 0 - (P i - P j)) := by
    rw [h, h', show (0 : EReal) = ((0 : ℝ) : EReal) from rfl, EReal.coe_le_coe_iff, EReal.coe_le_coe_iff]
    constructor <;> intro h <;> linarith
  unfold dm
  congr 1
  by_cases hc : P i - P j ≤ 0
  · rw [if_pos hc, if_pos (hb.mp hc)]
  · rw [if_neg hc, if_neg (fun h => hc (hb.mpr h))]

/-- A chunk's rows. -/
def bm (k : Blk Ideal) : Mat := fun i d => k (ix4 0 0 i d)
/-- A state's entries. -/
def sm (s : St Ideal) : Mat := fun d e => s (ix2 d e)

theorem upd_at (zeta : FVec Ideal S128x1 .f32) (d : FVec Ideal S1x128 .f32) (k v : Blk Ideal) (s : St Ideal) (a e : Fin 128) :
    upd zeta d k v s (ix2 a e) = d (ix2 0 e) * s (ix2 a e) + ∑ j, (bm k j a * zeta (ix2 j 0)) * bm v j e := by
  unfold upd
  pointwise
  rfl

/-- The decays at a row. -/
theorem xiF_at (l : EReal) (i : Fin 128) : xiF (F := Ideal) l (ix2 i 0) = xi l i := by
  unfold xiF; pointwise; rw [pos_at]; rfl
@[inherit_doc xiF_at]
theorem xiB_at (l : EReal) (i : Fin 128) : xiB (F := Ideal) l (ix2 i 0) = Ideal.exp (l * (128 - P i)) := by
  unfold xiB; pointwise; rw [pos_at, lit128]
@[inherit_doc xiF_at]
theorem zetaF_at (l : EReal) (i : Fin 128) : zetaF (F := Ideal) l (ix2 i 0) = zeta l i := by
  unfold zetaF; pointwise; rw [pos_at, lit127]; rfl
@[inherit_doc xiF_at]
theorem zetaB_at (l : EReal) (i : Fin 128) : zetaB (F := Ideal) l (ix2 i 0) = zeta l i.rev := by
  rw [zeta_rev]; unfold zetaB; pointwise; rw [pos_at]
@[inherit_doc xiF_at]
theorem dec_at (l : EReal) (e : Fin 128) : Hand.dec (F := Ideal) l (ix2 0 e) = Ret.dec l := by
  unfold Hand.dec; pointwise; rw [lit128]; rfl

/-- A chunk's retention at an element: both directions at once. -/
theorem mix_at (msk : FVec Ideal S128x128 .f32) (xf xb : FVec Ideal S128x1 .f32) (q k v : Blk Ideal) (s : St Ideal)
    (sb : Vec Ideal S1x128x128 .bf16) (DF DB : Mat) (i e : Fin 128) (hm : ∀ i j, msk (ix2 i j) = DF i j + DB i j) :
    mix msk xf xb q k v s sb (ix2 i e)
      = both DF DB (fun i => xf (ix2 i 0)) (fun i => xb (ix2 i 0)) (bm q) (bm k) (bm v) (sm s) (fun d e => sb (ix3 0 d e)) i e := by
  unfold mix
  pointwise
  simp only [hm]
  rfl

/-- A row less its mean. -/
theorem centred_at (o : FVec Ideal S128x128 .f32) (i e : Fin 128) : centred o (ix2 i e) = cent (sm o i) e := by
  unfold centred rowMean
  pointwise
  rw [lit128]; rfl

/-- A chunk's normalised and gated output at an element. -/
theorem normGate_at (nw : Vec Ideal S1x128 .f32) (z : Blk Ideal) (o : FVec Ideal S128x128 .f32) (i e : Fin 128) :
    normGate nw z o (ix3 0 i e) = gated (nw (ix2 0 e)) (bm z i e) (sm o i) e := by
  unfold normGate rowMean
  pointwise
  simp only [centred_at, lit128]; rfl

/-- The states at an element. -/
theorem states_at (zeta : FVec Ideal S128x1 .f32) (d : FVec Ideal S1x128 .f32) (k v : ℕ → Blk Ideal) (ord : ℕ → ℕ) (s : St Ideal)
    (t : ℕ) (δ : EReal) (hd : ∀ e, d (ix2 0 e) = δ) :
    sm (states zeta d k v ord s t) = st δ (fun j => zeta (ix2 j 0)) (fun n => bm (k n)) (fun n => bm (v n)) ord (sm s) t := by
  induction t with
  | zero => rfl
  | succ t ih =>
    funext a e
    show upd zeta d (k (ord t)) (v (ord t)) (states zeta d k v ord s t) (ix2 a e) = _
    rw [upd_at, hd]
    simp only [st, ← ih]
    rfl

/-- The state a pass starts from is zero. -/
theorem st0_at : sm (st0 (F := Ideal)) = fun _ _ => 0 := by
  funext a e; unfold sm st0; pointwise

/-- The backward states of the context: those of the flipped rows' pass. -/
theorem bwdC_at (lb : EReal) (kc vc : ℕ → Blk Ideal) (t : ℕ) :
    sm (bwdC (F := Ideal) lb kc vc t)
      = st (Ret.dec lb) (zeta lb) (fun n => revRows (bm (kc (1 - n)))) (fun n => revRows (bm (vc (1 - n)))) (fun n => n) (fun _ _ => 0) t := by
  unfold bwdC
  rw [states_at _ _ _ _ _ _ _ _ (dec_at lb), st0_at, st_flip _ _ (fun n => bm (kc (1 - n))) (fun n => bm (vc (1 - n))),
    st_ord _ _ (fun n => bm (kc n)) (fun n => bm (vc n)) (fun n => 1 - n)]
  simp only [zetaB_at]

/-- The backward states of the latent rows. -/
theorem bwdL_at (lb : EReal) (k v kc vc : ℕ → Blk Ideal) (t : ℕ) :
    sm (bwdL (F := Ideal) lb k v kc vc t)
      = st (Ret.dec lb) (zeta lb) (fun n => revRows (bm (k (15 - n)))) (fun n => revRows (bm (v (15 - n)))) (fun n => n)
          (sm (bwdC lb kc vc 2)) t := by
  unfold bwdL
  rw [states_at _ _ _ _ _ _ _ _ (dec_at lb), st_flip _ _ (fun n => bm (k (15 - n))) (fun n => bm (v (15 - n))),
    st_ord _ _ (fun n => bm (k n)) (fun n => bm (v n)) (fun n => 15 - n)]
  simp only [zetaB_at]

/-- The forward states of the context. -/
theorem fwdC_at (lf : EReal) (kc vc : ℕ → Blk Ideal) (t : ℕ) :
    sm (fwdC (F := Ideal) lf kc vc t)
      = st (Ret.dec lf) (zeta lf) (fun n => bm (kc n)) (fun n => bm (vc n)) (fun n => n) (fun _ _ => 0) t := by
  unfold fwdC
  rw [states_at _ _ _ _ _ _ _ _ (dec_at lf), st0_at]
  simp only [zetaF_at]

/-- The forward states of the latent rows. -/
theorem fwdL_at (lf : EReal) (k v kc vc : ℕ → Blk Ideal) (t : ℕ) :
    sm (fwdL (F := Ideal) lf k v kc vc t)
      = st (Ret.dec lf) (zeta lf) (fun n => bm (k n)) (fun n => bm (v n)) (fun n => n) (sm (fwdC lf kc vc 2)) t := by
  unfold fwdL
  rw [states_at _ _ _ _ _ _ _ _ (dec_at lf)]
  simp only [zetaF_at]

/-- A kept state is the state. -/
theorem kept_at (s : St Ideal) (d e : Fin 128) : kept s (ix3 0 d e) = sm s d e := by
  unfold kept; pointwise; rfl

/-- A chunk's output at an element: the two directions' outputs added, normalised and gated, at log decays below `⊤`. -/
theorem chunkOut_at {lf lb : EReal} (hf : lf < ⊤) (hb : lb < ⊤) (nw : Vec Ideal S1x128 .f32) (q k v z : Blk Ideal) (s : St Ideal)
    (s' : St Ideal) (i e : Fin 128) :
    chunkOut (F := Ideal) lf lb nw q k v z s (kept s') (ix3 0 i e)
      = gated (nw (ix2 0 e)) (bm z i e) (dir2 lf lb (bm q) (bm k) (bm v) (sm s) (sm s') i) e := by
  unfold chunkOut
  rw [normGate_at]
  congr 1
  funext e'
  show mix _ _ _ _ _ _ _ _ (ix2 i e') = _
  rw [mix_at _ _ _ _ _ _ _ _ (fun i j => dm lf (P i - P j)) (fun i j => dm lb (0 - (P i - P j))) _ _ (mask_at lf lb)]
  simp only [kept_at, xiF_at, xiB_at]
  exact both_dir2 hf hb _ _ _ _ _ _ _

end Cert.KernelIdeal.Hand
end
-- ==== Proof.Target.lean ====
/- What both programs compute, element by element, of the four arguments: the two results of the retention. -/
module

public import proofs.«01_k».proof.Proof.Math
public import Idealize.ShloMosaic.Lib.Pointwise.Index

@[expose] public section

noncomputable section

namespace Cert.Ret

open Idealize.ShloMosaic

/-- The latent slabs, -/
abbrev ArrX := (⟨4, ![11, 32, 2048, 1024]⟩ : Shape).Idx → EReal
/-- the context slabs, -/
abbrev ArrC := (⟨4, ![11, 32, 256, 1024]⟩ : Shape).Idx → EReal
/-- the log decays of the two directions, -/
abbrev ArrG := (⟨2, ![2, 8]⟩ : Shape).Idx → EReal
/-- the heads' weights. -/
abbrev ArrW := (⟨2, ![1, 1024]⟩ : Shape).Idx → EReal

/-- Chunk `n`'s rows of head `h` of a latent slab, -/
def rowsX (u : ArrX) (s : Fin 11) (b : Fin 32) (h : Fin 8) (n : ℕ) : Mat := fun i d =>
  u (ix4 s b ⟨128 * (n % 16) + i.val, by omega⟩ ⟨128 * h.val + d.val, by omega⟩)
/-- and of a context slab. -/
def rowsC (u : ArrC) (s : Fin 11) (b : Fin 32) (h : Fin 8) (n : ℕ) : Mat := fun i d =>
  u (ix4 s b ⟨128 * (n % 2) + i.val, by omega⟩ ⟨128 * h.val + d.val, by omega⟩)

/-- The forward state after `t` chunks of the context, -/
def fwdCtx (l : EReal) (k v : ℕ → Mat) : ℕ → Mat := st (dec l) (zeta l) k v (fun n => n) (fun _ _ => 0)
/-- and after the context and `t` chunks of the latent rows. -/
def fwdLat (l : EReal) (k v kc vc : ℕ → Mat) : ℕ → Mat := st (dec l) (zeta l) k v (fun n => n) (fwdCtx l kc vc 2)
/-- The backward states likewise, over the rows from last to first. -/
def bwdCtx (l : EReal) (k v : ℕ → Mat) : ℕ → Mat :=
  fwdCtx l (fun n => revRows (k (1 - n))) (fun n => revRows (v (1 - n)))
@[inherit_doc bwdCtx]
def bwdLat (l : EReal) (k v kc vc : ℕ → Mat) : ℕ → Mat :=
  fwdLat l (fun n => revRows (k (15 - n))) (fun n => revRows (v (15 - n)))
    (fun n => revRows (kc (1 - n))) (fun n => revRows (vc (1 - n)))

/-- Channel `e` of head `h`. -/
def chan (h : Fin 8) (e : Fin 128) : Fin 1024 := ⟨128 * h.val + e.val, by omega⟩

/-- The latent result at row `i` of chunk `n` and channel `e` of head `h`, -/
def atX (u : ArrX) (uc : ArrC) (lg : ArrG) (nw : ArrW) (b : Fin 32) (h : Fin 8) (n : ℕ) (i e : Fin 128) : EReal :=
  gated (nw (ix2 0 (chan h e))) (rowsX u 3 b h n i e)
    (dir2 (lg (ix2 0 h)) (lg (ix2 1 h)) (rowsX u 0 b h n) (rowsX u 1 b h n) (rowsX u 2 b h n)
      (fwdLat (lg (ix2 0 h)) (rowsX u 1 b h) (rowsX u 2 b h) (rowsC uc 1 b h) (rowsC uc 2 b h) n)
      (bwdLat (lg (ix2 1 h)) (rowsX u 1 b h) (rowsX u 2 b h) (rowsC uc 1 b h) (rowsC uc 2 b h) (15 - n)) i) e
/-- and the context result. -/
def atC (uc : ArrC) (lg : ArrG) (nw : ArrW) (b : Fin 32) (h : Fin 8) (n : ℕ) (i e : Fin 128) : EReal :=
  gated (nw (ix2 0 (chan h e))) (rowsC uc 3 b h n i e)
    (dir2 (lg (ix2 0 h)) (lg (ix2 1 h)) (rowsC uc 0 b h n) (rowsC uc 1 b h n) (rowsC uc 2 b h n)
      (fwdCtx (lg (ix2 0 h)) (rowsC uc 1 b h) (rowsC uc 2 b h) n)
      (bwdCtx (lg (ix2 1 h)) (rowsC uc 1 b h) (rowsC uc 2 b h) (1 - n)) i) e

/-- The latent result, -/
def resX (u : ArrX) (uc : ArrC) (lg : ArrG) (nw : ArrW) : (⟨3, ![32, 2048, 1024]⟩ : Shape).Idx → EReal := fun j =>
  atX u uc lg nw ⟨(j 0).val, (j 0).isLt⟩ ⟨(j 2).val / 128, by have : (j 2).val < 1024 := (j 2).isLt; omega⟩ ((j 1).val / 128)
    ⟨(j 1).val % 128, by omega⟩ ⟨(j 2).val % 128, by omega⟩
/-- and the context result. -/
def resC (uc : ArrC) (lg : ArrG) (nw : ArrW) : (⟨3, ![32, 256, 1024]⟩ : Shape).Idx → EReal := fun j =>
  atC uc lg nw ⟨(j 0).val, (j 0).isLt⟩ ⟨(j 2).val / 128, by have : (j 2).val < 1024 := (j 2).isLt; omega⟩ ((j 1).val / 128)
    ⟨(j 1).val % 128, by omega⟩ ⟨(j 2).val % 128, by omega⟩

/-- The latent result at an index given by its chunk, its row, its head and its channel. -/
theorem resX_eq (u : ArrX) (uc : ArrC) (lg : ArrG) (nw : ArrW) (j : (⟨3, ![32, 2048, 1024]⟩ : Shape).Idx) (b : Fin 32) (h : Fin 8)
    (n : ℕ) (i e : Fin 128) (h0 : (j 0).val = b.val) (h1 : (j 1).val = 128 * n + i.val) (h2 : (j 2).val = 128 * h.val + e.val) :
    resX u uc lg nw j = atX u uc lg nw b h n i e := by
  have := i.isLt; have := e.isLt
  unfold resX
  congr 1
  · exact Fin.ext h0
  · exact Fin.ext (by show (j 2).val / 128 = h.val; omega)
  · omega
  · exact Fin.ext (by show (j 1).val % 128 = i.val; omega)
  · exact Fin.ext (by show (j 2).val % 128 = e.val; omega)

/-- The context result at an index given by its chunk, its row, its head and its channel. -/
theorem resC_eq (uc : ArrC) (lg : ArrG) (nw : ArrW) (j : (⟨3, ![32, 256, 1024]⟩ : Shape).Idx) (b : Fin 32) (h : Fin 8)
    (n : ℕ) (i e : Fin 128) (h0 : (j 0).val = b.val) (h1 : (j 1).val = 128 * n + i.val) (h2 : (j 2).val = 128 * h.val + e.val) :
    resC uc lg nw j = atC uc lg nw b h n i e := by
  have := i.isLt; have := e.isLt
  unfold resC
  congr 1
  · exact Fin.ext h0
  · exact Fin.ext (by show (j 2).val / 128 = h.val; omega)
  · omega
  · exact Fin.ext (by show (j 1).val % 128 = i.val; omega)
  · exact Fin.ext (by show (j 2).val % 128 = e.val; omega)

end Cert.Ret
end
-- ==== Proof.KernelValue.lean ====
/- The kernel's two results, over the extended reals: each is the retention's, at every element. -/
module

public import proofs.«01_k».proof.Proof.Run
public import proofs.«01_k».proof.Proof.KernelAt
public import proofs.«01_k».proof.Proof.Target
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Ret

variable (m : (ℓ : Loc nD τ sig) → Buf (Elt Ideal) ℓ) (ρ : Dev nD → PrngReg)

/-- A latent chunk's entry is its operand's. -/
theorem blkL_at (x : Vec Ideal S1x1x2048x128 .bf16) (n : ℕ) (i d : Fin 128) :
    bm (blkL x n) i d = x (ix4 0 0 ⟨128 * (n % 16) + i.val, by omega⟩ d) := by
  unfold bm blkL
  exact View.ld_unit_apply_of x _ _ _ _ _ fun a => by fin_cases a <;> simp
/-- A context chunk's entry is its operand's. -/
theorem blkC_at (x : Vec Ideal S1x1x256x128 .bf16) (n : ℕ) (i d : Fin 128) :
    bm (blkC x n) i d = x (ix4 0 0 ⟨128 * (n % 2) + i.val, by omega⟩ d) := by
  unfold bm blkC
  exact View.ld_unit_apply_of x _ _ _ _ _ fun a => by fin_cases a <;> simp

/-- A result's chunks, read back at a row and a channel: `N` chunks of 128 rows, stored in any order. -/
theorem canon_chunks (N R : ℕ) (hR : R = 128 * N) (L : List ℕ) (hL : ∀ n, n ∈ L ↔ n < N)
    (inb : ∀ n a, (![0, 128 * (n % N), 0] : Fin 3 → ℕ) a + S1x128x128.size a ≤ (⟨3, ![1, R, 128]⟩ : Shape).size a)
    (w : ℕ → Vec Ideal S1x128x128 .bf16) (y : (⟨3, ![1, R, 128]⟩ : Shape).Idx) :
    View.canon (Val := Elt Ideal) (L.map fun n =>
      ⟨Rect.unit (s := (⟨3, ![1, R, 128]⟩ : Shape)) ![0, 128 * (n % N), 0] S1x128x128.size (inb n), w n⟩ : List (View.Piece (Elt Ideal) (⟨3, ![1, R, 128]⟩ : Shape) .bf16)) y
      = w ((y 1).val / 128) (ix3 0 ⟨(y 1).val % 128, Nat.mod_lt _ (by decide)⟩ ⟨(y 2).val, (y 2).isLt⟩) := by
  refine View.canon_apply_of_pieces (Val := Elt Ideal) (e := .bf16) (fun y : (⟨3, ![1, R, 128]⟩ : Shape).Idx =>
    w ((y 1).val / 128) (ix3 0 ⟨(y 1).val % 128, Nat.mod_lt _ (by decide)⟩ ⟨(y 2).val, (y 2).isLt⟩)) _ ?_ y ?_
  · intro p hp x
    obtain ⟨n, hn, rfl⟩ := List.mem_map.mp hp
    have hnN : n % N = n := Nat.mod_eq_of_lt ((hL n).mp hn)
    have x0 : (x 0).val < 1 := (x 0).isLt
    have x1 : (x 1).val < 128 := (x 1).isLt
    have x2 : (x 2).val < 128 := (x 2).isLt
    have e1 : ((Rect.unit (s := (⟨3, ![1, R, 128]⟩ : Shape)) ![0, 128 * (n % N), 0] S1x128x128.size (inb n)).emb x 1).val = 128 * (n % N) + (x 1).val :=
      Rect.idx_unit_val _ _ _ _ _
    have e2 : ((Rect.unit (s := (⟨3, ![1, R, 128]⟩ : Shape)) ![0, 128 * (n % N), 0] S1x128x128.size (inb n)).emb x 2).val = 0 + (x 2).val :=
      Rect.idx_unit_val _ _ _ _ _
    show w n x = w _ _
    have hd : (128 * (n % N) + (x 1).val) / 128 = n := by omega
    have hm : (128 * (n % N) + (x 1).val) % 128 = (x 1).val := by omega
    rw [e1, hd]
    refine congrArg (w n) ?_
    funext a; apply Fin.ext
    fin_cases a
    · show (x 0).val = 0; omega
    · show (x 1).val = (128 * (n % N) + (x 1).val) % 128; rw [hm]
    · show (x 2).val = ((Rect.unit (s := (⟨3, ![1, R, 128]⟩ : Shape)) ![0, 128 * (n % N), 0] S1x128x128.size (inb n)).emb x 2).val
      rw [e2]; omega
  · have y1 : (y 1).val < R := (y 1).isLt
    have y0 : (y 0).val < 1 := (y 0).isLt
    have y2 : (y 2).val < 128 := (y 2).isLt
    refine ⟨_, List.mem_map.mpr ⟨(y 1).val / 128, ?_, rfl⟩, ?_⟩
    · exact (hL _).mpr (by omega)
    · have hN : (y 1).val / 128 % N = (y 1).val / 128 := Nat.mod_eq_of_lt (by omega)
      rw [Rect.mem_set_unit]
      intro a; fin_cases a
      · show 0 ≤ (y 0).val ∧ (y 0).val < 0 + 1; omega
      · show 128 * ((y 1).val / 128 % N) ≤ (y 1).val ∧ (y 1).val < 128 * ((y 1).val / 128 % N) + 128; rw [hN]; omega
      · show 0 ≤ (y 2).val ∧ (y 2).val < 0 + 128; omega

/-- The latent block at an element, of the blocks the body loads. -/
theorem outL_at (i : grid0.Coords) (x0 x1 x2 x3 x4 x5 x6 x7 x8 x9)
    (hf : lfv (F := Ideal) i x0 < ⊤) (hb : lbv (F := Ideal) i x0 < ⊤) (y : S1x2048x128.Idx) (n : ℕ) (r e : Fin 128)
    (hn : n = (y 1).val / 128) (hr : r.val = (y 1).val % 128) (he : e.val = (y 2).val) :
    View.canon (outL (F := Ideal) i x0 x1 x2 x3 x4 x5 x6 x7 x8 x9) y
      = gated (x9 (ix2 0 e)) (bm (blkL x4 n) r e)
          (dir2 (lfv i x0) (lbv i x0) (bm (blkL x1 n)) (bm (blkL x2 n)) (bm (blkL x3 n))
            (fwdLat (lfv i x0) (fun n => bm (blkL x2 n)) (fun n => bm (blkL x3 n)) (fun n => bm (blkC x6 n)) (fun n => bm (blkC x7 n)) n)
            (bwdLat (lbv i x0) (fun n => bm (blkL x2 n)) (fun n => bm (blkL x3 n)) (fun n => bm (blkC x6 n)) (fun n => bm (blkC x7 n)) (15 - n))
            r) e := by
  have y1 : (y 1).val < 2048 := (y 1).isLt
  have h := canon_chunks 16 2048 rfl [15, 14, 13, 12, 11, 10, 9, 8, 7, 6, 5, 4, 3, 2, 1, 0] (by simp; omega) inbOL
    (fun n => chunkOut (lfv i x0) (lbv i x0) x9 (blkL x1 n) (blkL x2 n) (blkL x3 n) (blkL x4 n)
      (fwdL (lfv i x0) (blkL x2) (blkL x3) (blkC x6) (blkC x7) n)
      (slot (lbv i x0) (blkL x2) (blkL x3) (blkC x6) (blkC x7) ((n + 2) % 18))) y
  refine h.trans ?_
  have er : (⟨(y 1).val % 128, Nat.mod_lt _ (by decide)⟩ : Fin 128) = r := Fin.ext hr.symm
  have ee : (⟨(y 2).val, (y 2).isLt⟩ : Fin 128) = e := Fin.ext he.symm
  have hs : slot (lbv i x0) (blkL x2) (blkL x3) (blkC x6) (blkC x7) ((n + 2) % 18)
      = kept (bwdL (lbv i x0) (blkL x2) (blkL x3) (blkC x6) (blkC x7) (15 - n)) := by
    unfold slot
    rw [if_neg (by omega), show 17 - (n + 2) % 18 = 15 - n by omega]
  rw [er, ee, ← hn]
  beta_reduce
  rw [hs, chunkOut_at hf hb, fwdL_at, fwdC_at, bwdL_at, bwdC_at]
  rfl

/-- The context block at an element. -/
theorem outC_at (i : grid0.Coords) (x0 x1 x2 x3 x4 x5 x6 x7 x8 x9)
    (hf : lfv (F := Ideal) i x0 < ⊤) (hb : lbv (F := Ideal) i x0 < ⊤) (y : S1x256x128.Idx) (n : ℕ) (r e : Fin 128)
    (hn : n = (y 1).val / 128) (hr : r.val = (y 1).val % 128) (he : e.val = (y 2).val) :
    View.canon (outC (F := Ideal) i x0 x1 x2 x3 x4 x5 x6 x7 x8 x9) y
      = gated (x9 (ix2 0 e)) (bm (blkC x8 n) r e)
          (dir2 (lfv i x0) (lbv i x0) (bm (blkC x5 n)) (bm (blkC x6 n)) (bm (blkC x7 n))
            (fwdCtx (lfv i x0) (fun n => bm (blkC x6 n)) (fun n => bm (blkC x7 n)) n)
            (bwdCtx (lbv i x0) (fun n => bm (blkC x6 n)) (fun n => bm (blkC x7 n)) (1 - n))
            r) e := by
  have y1 : (y 1).val < 256 := (y 1).isLt
  have h := canon_chunks 2 256 rfl [1, 0] (by simp; omega) inbOC
    (fun n => chunkOut (lfv i x0) (lbv i x0) x9 (blkC x5 n) (blkC x6 n) (blkC x7 n) (blkC x8 n)
      (fwdC (lfv i x0) (blkC x6) (blkC x7) n)
      (slot (lbv i x0) (blkL x2) (blkL x3) (blkC x6) (blkC x7) (n % 18))) y
  refine h.trans ?_
  have er : (⟨(y 1).val % 128, Nat.mod_lt _ (by decide)⟩ : Fin 128) = r := Fin.ext hr.symm
  have ee : (⟨(y 2).val, (y 2).isLt⟩ : Fin 128) = e := Fin.ext he.symm
  have hs : slot (lbv i x0) (blkL x2) (blkL x3) (blkC x6) (blkC x7) (n % 18)
      = kept (bwdC (lbv i x0) (blkC x6) (blkC x7) (1 - n)) := by
    unfold slot
    rw [if_pos (by omega), show 1 - n % 18 = 1 - n by omega]
  rw [er, ee, ← hn]
  beta_reduce
  rw [hs, chunkOut_at hf hb, fwdC_at, bwdC_at]
  rfl

end Cert.KernelIdeal.Hand
end
-- ==== Proof.KernelArr.lean ====
/- The kernel's result arrays after the launch: each is the retention's result of the arguments as launched, at log decays
   below `⊤`. -/
module

public import proofs.«01_k».proof.Proof.KernelValue

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Ret

variable (m : (ℓ : Loc nD τ sig) → Buf (Elt Ideal) ℓ) (ρ : Dev nD → PrngReg)

/-- The arguments as launched. -/
abbrev aU (c : Dev nD) : ArrX := m ((c : Thread nD τ).loc main_arg0)
@[inherit_doc aU] abbrev aUC (c : Dev nD) : ArrC := m ((c : Thread nD τ).loc main_arg1)
@[inherit_doc aU] abbrev aG (c : Dev nD) : ArrG := m ((c : Thread nD τ).loc main_arg2)
@[inherit_doc aU] abbrev aW (c : Dev nD) : ArrW := m ((c : Thread nD τ).loc main_arg3)

/-- The point's batch and head. -/
def pb (t : Fin cfg0.N) : Fin 32 := grid0.coords t 0
@[inherit_doc pb] def ph (t : Fin cfg0.N) : Fin 8 := grid0.coords t 1

/-- Where each window's block is at a point. -/
theorem e0 : ∀ t : Fin cfg0.N, win0_0.index t = ![0, 0] := (by decide +kernel : ∀ t : Fin grid0.N, _)
@[inherit_doc e0] theorem e1 : ∀ t : Fin cfg0.N, win0_1.index t = ![0, (pb t).val, 0, (ph t).val] := (by decide +kernel : ∀ t : Fin grid0.N, _)
@[inherit_doc e0] theorem e2 : ∀ t : Fin cfg0.N, win0_2.index t = ![1, (pb t).val, 0, (ph t).val] := (by decide +kernel : ∀ t : Fin grid0.N, _)
@[inherit_doc e0] theorem e3 : ∀ t : Fin cfg0.N, win0_3.index t = ![2, (pb t).val, 0, (ph t).val] := (by decide +kernel : ∀ t : Fin grid0.N, _)
@[inherit_doc e0] theorem e4 : ∀ t : Fin cfg0.N, win0_4.index t = ![3, (pb t).val, 0, (ph t).val] := (by decide +kernel : ∀ t : Fin grid0.N, _)
@[inherit_doc e0] theorem e5 : ∀ t : Fin cfg0.N, win0_5.index t = ![0, (pb t).val, 0, (ph t).val] := (by decide +kernel : ∀ t : Fin grid0.N, _)
@[inherit_doc e0] theorem e6 : ∀ t : Fin cfg0.N, win0_6.index t = ![1, (pb t).val, 0, (ph t).val] := (by decide +kernel : ∀ t : Fin grid0.N, _)
@[inherit_doc e0] theorem e7 : ∀ t : Fin cfg0.N, win0_7.index t = ![2, (pb t).val, 0, (ph t).val] := (by decide +kernel : ∀ t : Fin grid0.N, _)
@[inherit_doc e0] theorem e8 : ∀ t : Fin cfg0.N, win0_8.index t = ![3, (pb t).val, 0, (ph t).val] := (by decide +kernel : ∀ t : Fin grid0.N, _)
@[inherit_doc e0] theorem e9 : ∀ t : Fin cfg0.N, win0_9.index t = ![0, (ph t).val] := (by decide +kernel : ∀ t : Fin grid0.N, _)
@[inherit_doc e0] theorem e10 : ∀ t : Fin cfg0.N, win0_10.index t = ![(pb t).val, 0, (ph t).val] := (by decide +kernel : ∀ t : Fin grid0.N, _)
@[inherit_doc e0] theorem e11 : ∀ t : Fin cfg0.N, win0_11.index t = ![(pb t).val, 0, (ph t).val] := (by decide +kernel : ∀ t : Fin grid0.N, _)

/-- The log decays the body reads are the head's. -/
theorem lfv_iblk (c : Dev nD) (t : Fin cfg0.N) : lfv (grid0.coords t) (iblk m c 0 t) = aG m c (ix2 0 (ph t)) := by
  unfold lfv
  blk_simp [iblk]
  refine congrArg (aG m c) ?_
  blk_ext [e0 t]
  rfl
@[inherit_doc lfv_iblk]
theorem lbv_iblk (c : Dev nD) (t : Fin cfg0.N) : lbv (grid0.coords t) (iblk m c 0 t) = aG m c (ix2 1 (ph t)) := by
  unfold lbv
  blk_simp [iblk]
  refine congrArg (aG m c) ?_
  blk_ext [e0 t]
  rfl

/-- The chunks the body loads are the arguments'. -/
theorem rows1 (c : Dev nD) (t : Fin cfg0.N) : (fun n => bm (blkL (iblk m c 1 t) n)) = rowsX (aU m c) 0 (pb t) (ph t) := by
  funext n i d
  rw [blkL_at]
  unfold rowsX
  blk_simp [iblk]
  refine congrArg (aU m c) ?_
  blk_ext [e1 t]
@[inherit_doc rows1]
theorem rows2 (c : Dev nD) (t : Fin cfg0.N) : (fun n => bm (blkL (iblk m c 2 t) n)) = rowsX (aU m c) 1 (pb t) (ph t) := by
  funext n i d
  rw [blkL_at]
  unfold rowsX
  blk_simp [iblk]
  refine congrArg (aU m c) ?_
  blk_ext [e2 t]
@[inherit_doc rows1]
theorem rows3 (c : Dev nD) (t : Fin cfg0.N) : (fun n => bm (blkL (iblk m c 3 t) n)) = rowsX (aU m c) 2 (pb t) (ph t) := by
  funext n i d
  rw [blkL_at]
  unfold rowsX
  blk_simp [iblk]
  refine congrArg (aU m c) ?_
  blk_ext [e3 t]
@[inherit_doc rows1]
theorem rows4 (c : Dev nD) (t : Fin cfg0.N) : (fun n => bm (blkL (iblk m c 4 t) n)) = rowsX (aU m c) 3 (pb t) (ph t) := by
  funext n i d
  rw [blkL_at]
  unfold rowsX
  blk_simp [iblk]
  refine congrArg (aU m c) ?_
  blk_ext [e4 t]
@[inherit_doc rows1]
theorem rows5 (c : Dev nD) (t : Fin cfg0.N) : (fun n => bm (blkC (iblk m c 5 t) n)) = rowsC (aUC m c) 0 (pb t) (ph t) := by
  funext n i d
  rw [blkC_at]
  unfold rowsC
  blk_simp [iblk]
  refine congrArg (aUC m c) ?_
  blk_ext [e5 t]
@[inherit_doc rows1]
theorem rows6 (c : Dev nD) (t : Fin cfg0.N) : (fun n => bm (blkC (iblk m c 6 t) n)) = rowsC (aUC m c) 1 (pb t) (ph t) := by
  funext n i d
  rw [blkC_at]
  unfold rowsC
  blk_simp [iblk]
  refine congrArg (aUC m c) ?_
  blk_ext [e6 t]
@[inherit_doc rows1]
theorem rows7 (c : Dev nD) (t : Fin cfg0.N) : (fun n => bm (blkC (iblk m c 7 t) n)) = rowsC (aUC m c) 2 (pb t) (ph t) := by
  funext n i d
  rw [blkC_at]
  unfold rowsC
  blk_simp [iblk]
  refine congrArg (aUC m c) ?_
  blk_ext [e7 t]
@[inherit_doc rows1]
theorem rows8 (c : Dev nD) (t : Fin cfg0.N) : (fun n => bm (blkC (iblk m c 8 t) n)) = rowsC (aUC m c) 3 (pb t) (ph t) := by
  funext n i d
  rw [blkC_at]
  unfold rowsC
  blk_simp [iblk]
  refine congrArg (aUC m c) ?_
  blk_ext [e8 t]
/-- The head's weights are the argument's. -/
theorem weight (c : Dev nD) (t : Fin cfg0.N) (e : Fin 128) : iblk m c 9 t (ix2 0 e) = aW m c (ix2 0 (chan (ph t) e)) := by
  blk_simp [iblk]
  refine congrArg (aW m c) ?_
  unfold chan
  blk_ext [e9 t]

/-- The latent result after the launch. -/
theorem arr10 (c : Dev nD) (hg : ∀ j, aG m c j < ⊤) :
    (dats (F := Ideal) m 0 c).arrAt 10 cfg0.N = resX (aU m c) (aUC m c) (aG m c) (aW m c) := by
  refine (dats (F := Ideal) m 0 c).arrAt_eq_of_covers 10 (resX (aU m c) (aUC m c) (aG m c) (aW m c)) (by decide +kernel) fun t hf y => ?_
  blk_simp
  rw [aft10]
  unfold left10
  have y0 : (y 0).val < 1 := (y 0).isLt
  have y1 : (y 1).val < 2048 := (y 1).isLt
  have y2 : (y 2).val < 128 := (y 2).isLt
  rw [outL_at _ _ _ _ _ _ _ _ _ _ _ (by rw [lfv_iblk]; exact hg _) (by rw [lbv_iblk]; exact hg _) _
    ((y 1).val / 128) ⟨(y 1).val % 128, by omega⟩ ⟨(y 2).val, y2⟩ rfl rfl rfl,
    resX_eq _ _ _ _ _ (pb t) (ph t) ((y 1).val / 128) ⟨(y 1).val % 128, by omega⟩ ⟨(y 2).val, y2⟩
      (by blk_simp [e10 t])
      (by blk_simp [e10 t]; show _ = 128 * ((y 1).val / 128) + (y 1).val % 128; omega)
      (by blk_simp [e10 t]; show _ = 128 * (ph t).val + (y 2).val; omega)]
  unfold atX
  rw [lfv_iblk, lbv_iblk, weight, rows2, rows3, rows6, rows7]
  simp only [← rows1, ← rows2, ← rows3, ← rows4]

/-- The context result after the launch. -/
theorem arr11 (c : Dev nD) (hg : ∀ j, aG m c j < ⊤) :
    (dats (F := Ideal) m 0 c).arrAt 11 cfg0.N = resC (aUC m c) (aG m c) (aW m c) := by
  refine (dats (F := Ideal) m 0 c).arrAt_eq_of_covers 11 (resC (aUC m c) (aG m c) (aW m c)) (by decide +kernel) fun t hf y => ?_
  blk_simp
  rw [aft11]
  unfold left11
  have y0 : (y 0).val < 1 := (y 0).isLt
  have y1 : (y 1).val < 256 := (y 1).isLt
  have y2 : (y 2).val < 128 := (y 2).isLt
  rw [outC_at _ _ _ _ _ _ _ _ _ _ _ (by rw [lfv_iblk]; exact hg _) (by rw [lbv_iblk]; exact hg _) _
    ((y 1).val / 128) ⟨(y 1).val % 128, by omega⟩ ⟨(y 2).val, y2⟩ rfl rfl rfl,
    resC_eq _ _ _ _ (pb t) (ph t) ((y 1).val / 128) ⟨(y 1).val % 128, by omega⟩ ⟨(y 2).val, y2⟩
      (by blk_simp [e11 t])
      (by blk_simp [e11 t]; show _ = 128 * ((y 1).val / 128) + (y 1).val % 128; omega)
      (by blk_simp [e11 t]; show _ = 128 * (ph t).val + (y 2).val; omega)]
  unfold atC
  rw [lfv_iblk, lbv_iblk, weight, rows6, rows7]
  simp only [← rows5, ← rows6, ← rows7, ← rows8]

end Cert.KernelIdeal.Hand
end
-- ==== Proof.RefFns.lean ====
/- The reference's words: the decays, the states, the outputs of one direction, the head's normalisation, each as one
   function of the arrays it is applied to. -/
module

public import proofs.«01_k».proof.Proof.Gen.ReferenceIdeal.Read
public import Idealize.ShloMosaic.PureOps.Ideal

@[expose] public section

set_option maxRecDepth 16384

noncomputable section

namespace Cert.ReferenceIdeal.Hand

open Cert.ReferenceIdeal Cert.ReferenceIdeal.Gen
open Idealize.ShloMosaic Idealize.ShloMosaic.TcCoe

/-- `N` chunks of a head, as the reference lays them out. -/
abbrev SN (N : ℕ) : Shape := ⟨5, ![32, 8, N, 128, 128]⟩
/-- An array of chunks. -/
abbrev Chunks (N : ℕ) := FVec Ideal (SN N) .f32
/-- An array of states, one for each head. -/
abbrev States := FVec Ideal S32x8x128x128 .f32
/-- The log decays of one direction, one for each head. -/
abbrev Rates := FVec Ideal S8 .f32

/-- The shape facts of the operations on `N` chunks. -/
structure ChunkFacts (N : ℕ) : Prop where
  /-- A column scale read along the chunks. -/
  col : S1x8x1x128x1.BroadcastsInDim (SN N) (![0, 1, 2, 3, 4] : Fin 5 → Fin (SN N).rank)
  /-- A mask read along the chunks. -/
  msk : S1x8x1x128x128.BroadcastsInDim (SN N) (![0, 1, 2, 3, 4] : Fin 5 → Fin (SN N).rank)
  /-- One chunk of the array. -/
  sl : ∀ t : Fin N, (SN N).Slices ![0, 0, t.val, 0, 0] S32x8x1x128x128
  /-- The pieces laid side by side along the chunks. -/
  cat : ∀ f : Fin N → (S32x8x1x128x128.Idx → Ideal .f32), Shape.Concatenates ((List.ofFn fun n =>
    (⟨S32x8x1x128x128, f n⟩ : (s : Shape) × (s.Idx → Ideal .f32))).map (·.1)) (SN N) 2
  /-- Transposed product, chunk by chunk. -/
  tn : DotDims.WF (SN N) (SN N) (SN N) [3] [3] [4] [4] [0, 1, 2] [0, 1, 2]
  /-- Product with a transposed factor, chunk by chunk. -/
  nt : DotDims.WF (SN N) (SN N) (SN N) [4] [4] [3] [3] [0, 1, 2] [0, 1, 2]
  /-- Product, chunk by chunk. -/
  nn : DotDims.WF (SN N) (SN N) (SN N) [4] [3] [3] [4] [0, 1, 2] [0, 1, 2]

/-- The positions within a chunk. -/
def posH : FVec Ideal S128 .f32 := sitofp .f32 (iotaInDim S128 32 0)

/-- `exp (rate · (a scale along a chunk))`. -/
def scaleH (lg : Rates) (p : FVec Ideal S128 .f32) : FVec Ideal S8x128 .f32 :=
  Host.exp (mulf (broadcastInDim S8x128 ![0, 1] bcast_S8x1_S8x128_0_1 (broadcastInDim S8x1 ![0] bcast_S8_S8x1_0 lg))
    (broadcastInDim S8x128 ![0, 1] bcast_S1x128_S8x128_0_1 (broadcastInDim S1x128 ![1] bcast_S128_S1x128_1 p)))

/-- The weight of a key within its chunk. -/
def zetaH (lg : Rates) : FVec Ideal S8x128 .f32 :=
  scaleH lg (subf (broadcastInDim S128 ![] bcast_S_S128 (constant S_ .f32 0x42FE0000#32)) posH)

/-- The weight of the state at a query. -/
def xiH (lg : Rates) : FVec Ideal S8x128 .f32 :=
  scaleH lg (addf posH (broadcastInDim S128 ![] bcast_S_S128 (constant S_ .f32 0x3F800000#32)))

/-- The decay of a state over one chunk. -/
def decH (lg : Rates) : States :=
  broadcastInDim S32x8x128x128 ![0, 1, 2, 3] bcast_S1x8x1x1_S32x8x128x128_0_1_2_3
    (broadcastInDim S1x8x1x1 ![1, 2, 3] bcast_S8x1x1_S1x8x1x1_1_2_3 (broadcastInDim S8x1x1 ![0] bcast_S8_S8x1x1_0
      (Host.exp (mulf lg (broadcastInDim S8 ![] bcast_S_S8 (constant S_ .f32 0x43000000#32))))))

/-- The difference of two positions within a chunk. -/
def diffH : FVec Ideal S128x128 .f32 :=
  subf (broadcastInDim S128x128 ![0, 1] bcast_S128x1_S128x128_0_1 (broadcastInDim S128x1 ![0] bcast_S128_S128x1_0 posH))
    (broadcastInDim S128x128 ![0, 1] bcast_S1x128_S128x128_0_1 (broadcastInDim S1x128 ![1] bcast_S128_S1x128_1 posH))

/-- Zero, over the pairs of positions. -/
def zeroPairs : FVec Ideal S128x128 .f32 := broadcastInDim S128x128 ![] bcast_S_S128x128 (constant S_ .f32 0x00000000#32)

/-- The causal decay between two positions. -/
def maskH (lg : Rates) : FVec Ideal S8x128x128 .f32 :=
  select (broadcastInDim S8x128x128 ![1, 2] bcast_S128x128_S8x128x128_1_2 (cmpf .oge diffH zeroPairs))
    (Host.exp (mulf (broadcastInDim S8x128x128 ![0, 1, 2] bcast_S8x1x1_S8x128x128_0_1_2 (broadcastInDim S8x1x1 ![0] bcast_S8_S8x1x1_0 lg))
      (broadcastInDim S8x128x128 ![0, 1, 2] bcast_S1x128x128_S8x128x128_0_1_2
        (broadcastInDim S1x128x128 ![1, 2] bcast_S128x128_S1x128x128_1_2 (maximumf diffH zeroPairs)))))
    (broadcastInDim S8x128x128 ![] bcast_S_S8x128x128 (constant (F := Ideal) S_ .f32 0x00000000#32))

/-- Transposed product of two arrays of chunks. -/
def mulTN {N : ℕ} (hf : ChunkFacts N) (a b : Chunks N) : Chunks N :=
  Host.dotGeneral (so := SN N) ⟨[3], [3], [4], [4], [0, 1, 2], [0, 1, 2], hf.tn⟩ none a b
/-- Product with the transposed second array. -/
def mulNT {N : ℕ} (hf : ChunkFacts N) (a b : Chunks N) : Chunks N :=
  Host.dotGeneral (so := SN N) ⟨[4], [4], [3], [3], [0, 1, 2], [0, 1, 2], hf.nt⟩ none a b
/-- Product of two arrays of chunks. -/
def mulNN {N : ℕ} (hf : ChunkFacts N) (a b : Chunks N) : Chunks N :=
  Host.dotGeneral (so := SN N) ⟨[4], [3], [3], [4], [0, 1, 2], [0, 1, 2], hf.nn⟩ none a b

/-- What each chunk adds to the state. -/
def kvH {N : ℕ} (hf : ChunkFacts N) (lg : Rates) (k v : Chunks N) : Chunks N :=
  mulTN hf (mulf k (broadcastInDim (SN N) ![0, 1, 2, 3, 4] hf.col
    (broadcastInDim S1x8x1x128x1 ![1, 3] bcast_S8x128_S1x8x1x128x1_1_3 (zetaH lg)))) v

/-- A state after one more chunk. -/
def stepH {N : ℕ} (hf : ChunkFacts N) (d : States) (kv : Chunks N) (t : Fin N) (s : States) : States :=
  addf (mulf d s) (shapeCast _ (extractStridedSlice S32x8x1x128x128 ![0, 0, t.val, 0, 0] kv (hf.sl t))
    shapeCasts_S32x8x1x128x128_S32x8x128x128)

/-- The states, from the first one. -/
def statesH {N : ℕ} (hf : ChunkFacts N) (d : States) (kv : Chunks N) (s0 : States) : ℕ → States
  | 0 => s0
  | t + 1 => if h : t < N then stepH hf d kv ⟨t, h⟩ (statesH hf d kv s0 t) else s0

/-- A state as one piece of the array of states. -/
def pieceH (s : States) : FVec Ideal S32x8x1x128x128 .f32 :=
  broadcastInDim S32x8x1x128x128 ![0, 1, 3, 4] bcast_S32x8x128x128_S32x8x1x128x128_0_1_3_4 s

/-- The outputs of one direction, chunk by chunk. -/
def outsH {N : ℕ} (hf : ChunkFacts N) (lg : Rates) (q k v s : Chunks N) : Chunks N :=
  addf (mulNN hf (mulf (mulNT hf q k) (broadcastInDim (SN N) ![0, 1, 2, 3, 4] hf.msk
      (broadcastInDim S1x8x1x128x128 ![1, 2, 3, 4] bcast_S8x1x128x128_S1x8x1x128x128_1_2_3_4
        (broadcastInDim S8x1x128x128 ![0, 2, 3] bcast_S8x128x128_S8x1x128x128_0_2_3 (maskH lg))))) v)
    (mulf (mulNN hf q s) (broadcastInDim (SN N) ![0, 1, 2, 3, 4] hf.col
      (broadcastInDim S1x8x1x128x1 ![1, 2, 3, 4] bcast_S8x1x128x1_S1x8x1x128x1_1_2_3_4
        (broadcastInDim S8x1x128x1 ![0, 2] bcast_S8x128_S8x1x128x1_0_2 (xiH lg)))))

/-- The array of states the queries of `N` chunks meet. -/
def stackH {N : ℕ} (hf : ChunkFacts N) (d : States) (kv : Chunks N) (s0 : States) : Chunks N :=
  concatenate (SN N) 2 (List.ofFn fun n : Fin N => (⟨S32x8x1x128x128, pieceH (statesH hf d kv s0 n)⟩ :
    (s : Shape) × (s.Idx → Ideal .f32))) (hf.cat fun n => pieceH (statesH hf d kv s0 n))

/-- One direction over `N` chunks, from a first state. -/
def dirH {N : ℕ} (hf : ChunkFacts N) (lg : Rates) (q k v : Chunks N) (s0 : States) : Chunks N :=
  outsH hf lg q k v (stackH hf (decH lg) (kvH hf lg k v) s0)

/-- The state one direction leaves after `N` chunks. -/
def lastH {N : ℕ} (hf : ChunkFacts N) (lg : Rates) (k v : Chunks N) (s0 : States) : States :=
  statesH hf (decH lg) (kvH hf lg k v) s0 N

/-- The state before any chunk. -/
def zeroH : States := broadcastInDim S32x8x128x128 ![] bcast_S_S32x8x128x128 (constant S_ .f32 0x00000000#32)

theorem facts2 : ChunkFacts 2 := ⟨bcast_S1x8x1x128x1_S32x8x2x128x128_0_1_2_3_4, bcast_S1x8x1x128x128_S32x8x2x128x128_0_1_2_3_4,
  by decide, fun _ => concatenates_S32x8x1x128x128_S32x8x1x128x128_S32x8x2x128x128_d2, by decide, by decide, by decide⟩
theorem facts16 : ChunkFacts 16 := ⟨bcast_S1x8x1x128x1_S32x8x16x128x128_0_1_2_3_4, bcast_S1x8x1x128x128_S32x8x16x128x128_0_1_2_3_4,
  by decide, fun _ => concatenates_S32x8x1x128x128_S32x8x1x128x128_S32x8x1x128x128_S32x8x1x128x128_S32x8x1x128x128_S32x8x1x128x128_S32x8x1x128x128_S32x8x1x128x128_S32x8x1x128x128_S32x8x1x128x128_S32x8x1x128x128_S32x8x1x128x128_S32x8x1x128x128_S32x8x1x128x128_S32x8x1x128x128_S32x8x1x128x128_S32x8x16x128x128_d2, by decide, by decide, by decide⟩

/-- One slab of the latent projections, as heads. -/
def headL (x : FVec Ideal S11x32x2048x1024 .bf16) (s : ℕ) (hs : S11x32x2048x1024.Slices ![s, 0, 0, 0] S1x32x2048x1024) :
    FVec Ideal S32x8x2048x128 .f32 :=
  transpose S32x8x2048x128 [0, 2, 1, 3] (shapeCast _ (extf .f32 (shapeCast _ (extractStridedSlice S1x32x2048x1024 ![s, 0, 0, 0] x hs)
    shapeCasts_S1x32x2048x1024_S32x2048x1024) bitsLt_bf16_f32) shapeCasts_S32x2048x1024_S32x2048x8x128)
    transposes_S32x2048x8x128_S32x8x2048x128_0_2_1_3
/-- One slab of the context projections, as heads. -/
def headC (x : FVec Ideal S11x32x256x1024 .bf16) (s : ℕ) (hs : S11x32x256x1024.Slices ![s, 0, 0, 0] S1x32x256x1024) :
    FVec Ideal S32x8x256x128 .f32 :=
  transpose S32x8x256x128 [0, 2, 1, 3] (shapeCast _ (extf .f32 (shapeCast _ (extractStridedSlice S1x32x256x1024 ![s, 0, 0, 0] x hs)
    shapeCasts_S1x32x256x1024_S32x256x1024) bitsLt_bf16_f32) shapeCasts_S32x256x1024_S32x256x8x128)
    transposes_S32x256x8x128_S32x8x256x128_0_2_1_3

/-- The latent rows cut into chunks. -/
def chunkL (y : FVec Ideal S32x8x2048x128 .f32) : Chunks 16 := shapeCast _ y shapeCasts_S32x8x2048x128_S32x8x16x128x128
/-- The context rows cut into chunks. -/
def chunkC (y : FVec Ideal S32x8x256x128 .f32) : Chunks 2 := shapeCast _ y shapeCasts_S32x8x256x128_S32x8x2x128x128
/-- The latent chunks as rows. -/
def rowsL (y : Chunks 16) : FVec Ideal S32x8x2048x128 .f32 := shapeCast _ y shapeCasts_S32x8x16x128x128_S32x8x2048x128
/-- The context chunks as rows. -/
def rowsC (y : Chunks 2) : FVec Ideal S32x8x256x128 .f32 := shapeCast _ y shapeCasts_S32x8x2x128x128_S32x8x256x128
/-- The latent rows from the last to the first. -/
def flipL (y : FVec Ideal S32x8x2048x128 .f32) : FVec Ideal S32x8x2048x128 .f32 := Host.reverse [2] y
/-- The context rows from the last to the first. -/
def flipC (y : FVec Ideal S32x8x256x128 .f32) : FVec Ideal S32x8x256x128 .f32 := Host.reverse [2] y

/-- The rates of the forward direction. -/
def rateF (g : FVec Ideal S2x8 .f32) : Rates := shapeCast _ (extractStridedSlice S1x8 ![0, 0] g slices_S2x8_S1x8_0_0) shapeCasts_S1x8_S8
/-- The rates of the backward direction. -/
def rateB (g : FVec Ideal S2x8 .f32) : Rates := shapeCast _ (extractStridedSlice S1x8 ![1, 0] g slices_S2x8_S1x8_1_0) shapeCasts_S1x8_S8

/-- The two directions over the latent rows, before the normalisation. -/
def sumL (lf lb : Rates) (q k v : FVec Ideal S32x8x2048x128 .f32) (kc vc : FVec Ideal S32x8x256x128 .f32) :
    FVec Ideal S32x8x2048x128 .f32 :=
  addf (rowsL (dirH facts16 lf (chunkL q) (chunkL k) (chunkL v) (lastH facts2 lf (chunkC kc) (chunkC vc) zeroH)))
    (flipL (rowsL (dirH facts16 lb (chunkL (flipL q)) (chunkL (flipL k)) (chunkL (flipL v))
      (lastH facts2 lb (chunkC (flipC kc)) (chunkC (flipC vc)) zeroH))))
/-- The two directions over the context rows, before the normalisation. -/
def sumC (lf lb : Rates) (q k v : FVec Ideal S32x8x256x128 .f32) : FVec Ideal S32x8x256x128 .f32 :=
  addf (rowsC (dirH facts2 lf (chunkC q) (chunkC k) (chunkC v) zeroH))
    (flipC (rowsC (dirH facts2 lb (chunkC (flipC q)) (chunkC (flipC k)) (chunkC (flipC v)) zeroH)))

/-- The channel means of the latent rows, along the channels. -/
def meanL (y : FVec Ideal S32x8x2048x128 .f32) : FVec Ideal S32x8x2048x1 .f32 :=
  Host.divf (broadcastInDim S32x8x2048x1 ![0, 1, 2] bcast_S32x8x2048_S32x8x2048x1_0_1_2
      (Host.reduceAdd y (constant S_ .f32 0x00000000#32) reducesTo_S32x8x2048x128_S32x8x2048_d3 h_S_))
    (broadcastInDim S32x8x2048x1 ![] bcast_S_S32x8x2048x1 (constant S_ .f32 0x43000000#32))
/-- The latent rows less their means. -/
def centL (y : FVec Ideal S32x8x2048x128 .f32) : FVec Ideal S32x8x2048x128 .f32 :=
  subf y (broadcastInDim S32x8x2048x128 ![0, 1, 2, 3] bcast_S32x8x2048x1_S32x8x2048x128_0_1_2_3 (meanL y))
/-- The latent rows normalised, scaled and gated by the slab `z`. -/
def resL (y : FVec Ideal S32x8x2048x128 .f32) (w : FVec Ideal S1x1024 .f32) (z : FVec Ideal S32x2048x1024 .f32) :
    FVec Ideal S32x2048x1024 .bf16 :=
  truncf .bf16 (mulf (mulf (shapeCast _ (transpose S32x2048x8x128 [0, 2, 1, 3] (mulf (centL y)
      (broadcastInDim S32x8x2048x128 ![0, 1, 2, 3] bcast_S32x8x2048x1_S32x8x2048x128_0_1_2_3 (Host.rsqrt (addf
        (meanL (mulf (centL y) (centL y))) (broadcastInDim S32x8x2048x1 ![] bcast_S_S32x8x2048x1 (constant S_ .f32 0x358637BD#32))))))
      transposes_S32x8x2048x128_S32x2048x8x128_0_2_1_3) shapeCasts_S32x2048x8x128_S32x2048x1024)
    (broadcastInDim S32x2048x1024 ![0, 1, 2] bcast_S1x1x1024_S32x2048x1024_0_1_2 (broadcastInDim S1x1x1024 ![2] bcast_S1024_S1x1x1024_2
      (shapeCast _ w shapeCasts_S1x1024_S1024))))
    (mulf z (Host.divf (broadcastInDim S32x2048x1024 ![] bcast_S_S32x2048x1024 (constant S_ .f32 0x3F800000#32))
      (addf (broadcastInDim S32x2048x1024 ![] bcast_S_S32x2048x1024 (constant S_ .f32 0x3F800000#32)) (Host.exp (Host.negf z))))))
    bitsLt_bf16_f32
/-- The latent gate. -/
def gateL (x : FVec Ideal S11x32x2048x1024 .bf16) : FVec Ideal S32x2048x1024 .f32 :=
  extf .f32 (shapeCast _ (extractStridedSlice S1x32x2048x1024 ![3, 0, 0, 0] x slices_S11x32x2048x1024_S1x32x2048x1024_3_0_0_0)
    shapeCasts_S1x32x2048x1024_S32x2048x1024) bitsLt_bf16_f32

/-- The channel means of the context rows, along the channels. -/
def meanC (y : FVec Ideal S32x8x256x128 .f32) : FVec Ideal S32x8x256x1 .f32 :=
  Host.divf (broadcastInDim S32x8x256x1 ![0, 1, 2] bcast_S32x8x256_S32x8x256x1_0_1_2
      (Host.reduceAdd y (constant S_ .f32 0x00000000#32) reducesTo_S32x8x256x128_S32x8x256_d3 h_S_))
    (broadcastInDim S32x8x256x1 ![] bcast_S_S32x8x256x1 (constant S_ .f32 0x43000000#32))
/-- The context rows less their means. -/
def centC (y : FVec Ideal S32x8x256x128 .f32) : FVec Ideal S32x8x256x128 .f32 :=
  subf y (broadcastInDim S32x8x256x128 ![0, 1, 2, 3] bcast_S32x8x256x1_S32x8x256x128_0_1_2_3 (meanC y))
/-- The context rows normalised, scaled and gated by the slab `z`. -/
def resC (y : FVec Ideal S32x8x256x128 .f32) (w : FVec Ideal S1x1024 .f32) (z : FVec Ideal S32x256x1024 .f32) :
    FVec Ideal S32x256x1024 .bf16 :=
  truncf .bf16 (mulf (mulf (shapeCast _ (transpose S32x256x8x128 [0, 2, 1, 3] (mulf (centC y)
      (broadcastInDim S32x8x256x128 ![0, 1, 2, 3] bcast_S32x8x256x1_S32x8x256x128_0_1_2_3 (Host.rsqrt (addf
        (meanC (mulf (centC y) (centC y))) (broadcastInDim S32x8x256x1 ![] bcast_S_S32x8x256x1 (constant S_ .f32 0x358637BD#32))))))
      transposes_S32x8x256x128_S32x256x8x128_0_2_1_3) shapeCasts_S32x256x8x128_S32x256x1024)
    (broadcastInDim S32x256x1024 ![0, 1, 2] bcast_S1x1x1024_S32x256x1024_0_1_2 (broadcastInDim S1x1x1024 ![2] bcast_S1024_S1x1x1024_2
      (shapeCast _ w shapeCasts_S1x1024_S1024))))
    (mulf z (Host.divf (broadcastInDim S32x256x1024 ![] bcast_S_S32x256x1024 (constant S_ .f32 0x3F800000#32))
      (addf (broadcastInDim S32x256x1024 ![] bcast_S_S32x256x1024 (constant S_ .f32 0x3F800000#32)) (Host.exp (Host.negf z))))))
    bitsLt_bf16_f32
/-- The context gate. -/
def gateC (x : FVec Ideal S11x32x256x1024 .bf16) : FVec Ideal S32x256x1024 .f32 :=
  extf .f32 (shapeCast _ (extractStridedSlice S1x32x256x1024 ![3, 0, 0, 0] x slices_S11x32x256x1024_S1x32x256x1024_3_0_0_0)
    shapeCasts_S1x32x256x1024_S32x256x1024) bitsLt_bf16_f32

open Cert.ReferenceIdeal.Read

variable (x0 : (⟨S11x32x2048x1024, .bf16⟩ : BufTy).Contents (Elt Ideal)) (x1 : (⟨S11x32x256x1024, .bf16⟩ : BufTy).Contents (Elt Ideal))
  (x2 : (⟨S2x8, .f32⟩ : BufTy).Contents (Elt Ideal))

/-- The latent rows before the normalisation. -/
theorem v553_eq : val_main_v553 (F := Ideal) x0 x1 x2 = sumL (rateF x2) (rateB x2)
    (headL x0 0 slices_S11x32x2048x1024_S1x32x2048x1024_0_0_0_0) (headL x0 1 slices_S11x32x2048x1024_S1x32x2048x1024_1_0_0_0)
    (headL x0 2 slices_S11x32x2048x1024_S1x32x2048x1024_2_0_0_0)
    (headC x1 1 slices_S11x32x256x1024_S1x32x256x1024_1_0_0_0) (headC x1 2 slices_S11x32x256x1024_S1x32x256x1024_2_0_0_0) := by
  unfold val_main_v553 val_main_v248 val_main_v508 val_main_v247 val_main_v507 val_main_v506
  rfl

/-- The context rows before the normalisation. -/
theorem v554_eq : val_main_v554 (F := Ideal) x1 x2 = sumC (rateF x2) (rateB x2)
    (headC x1 0 slices_S11x32x256x1024_S1x32x256x1024_0_0_0_0) (headC x1 1 slices_S11x32x256x1024_S1x32x256x1024_1_0_0_0)
    (headC x1 2 slices_S11x32x256x1024_S1x32x256x1024_2_0_0_0) := rfl

variable (x3 : (⟨S1x1024, .f32⟩ : BufTy).Contents (Elt Ideal))

/-- The latent result. -/
theorem v603_eq : val_main_v603 (F := Ideal) x0 x1 x2 x3 = resL (val_main_v553 (F := Ideal) x0 x1 x2) x3 (gateL x0) := rfl

/-- The context result. -/
theorem v604_eq : val_main_v604 (F := Ideal) x1 x2 x3 = resC (val_main_v554 (F := Ideal) x1 x2) x3 (gateC x1) := rfl

end Cert.ReferenceIdeal.Hand

end
-- ==== Proof.RefAt.lean ====
/- The reference's words read at an element, over the extended reals. -/
module

public import proofs.«01_k».proof.Proof.RefFns
public import proofs.«01_k».proof.Proof.KernelAt

@[expose] public section

set_option maxRecDepth 16384

noncomputable section

namespace Cert.ReferenceIdeal.Hand

open Cert.ReferenceIdeal Cert.ReferenceIdeal.Gen
open Idealize.ShloMosaic Idealize.ShloMosaic.TcCoe
open Cert.Ret

theorem posH_at (j : Fin 128) : posH (ix1 j) = P j := by
  rw [← Cert.KernelIdeal.Hand.sitofp_pos]
  unfold posH; pointwise
theorem scaleH_at (lg : Rates) (p : FVec Ideal S128 .f32) (h : Fin 8) (j : Fin 128) :
    scaleH lg p (ix2 h j) = Ideal.exp (lg (ix1 h) * p (ix1 j)) := by
  unfold scaleH; pointwise
theorem zetaH_at (lg : Rates) (h : Fin 8) (j : Fin 128) : zetaH lg (ix2 h j) = zeta (lg (ix1 h)) j := by
  unfold zetaH; rw [scaleH_at]; pointwise; rw [posH_at, Cert.KernelIdeal.Hand.lit127]; rfl
theorem xiH_at (lg : Rates) (h : Fin 8) (j : Fin 128) : xiH lg (ix2 h j) = xi (lg (ix1 h)) j := by
  unfold xiH; rw [scaleH_at]; pointwise; rw [posH_at]; rfl
theorem decH_at (lg : Rates) (b : Fin 32) (h : Fin 8) (d e : Fin 128) : decH lg (ix4 b h d e) = dec (lg (ix1 h)) := by
  unfold decH; pointwise; rw [Cert.KernelIdeal.Hand.lit128]; rfl
theorem maskH_at (lg : Rates) (h : Fin 8) (i j : Fin 128) : maskH lg (ix3 h i j) = dm (lg (ix1 h)) (P i - P j) := by
  unfold maskH diffH zeroPairs; pointwise; rw [posH_at, posH_at]; rfl
section
variable {N : ℕ} (hf : ChunkFacts N)
theorem mulTN_at (x y : Chunks N) (b : Fin 32) (h : Fin 8) (n : Fin N) (d e : Fin 128) :
    mulTN hf x y (ix5 b h n d e) = ∑ k : Fin 128, x (ix5 b h n k d) * y (ix5 b h n k e) := by
  unfold mulTN; pointwise
  refine Finset.sum_congr rfl fun k _ => ?_
  congr 2 <;> (funext a; apply Fin.ext; match a with | 0 => rfl | 1 => rfl | 2 => rfl | 3 => rfl | 4 => rfl)
theorem mulNT_at (x y : Chunks N) (b : Fin 32) (h : Fin 8) (n : Fin N) (d e : Fin 128) :
    mulNT hf x y (ix5 b h n d e) = ∑ k : Fin 128, x (ix5 b h n d k) * y (ix5 b h n e k) := by
  unfold mulNT; pointwise
  refine Finset.sum_congr rfl fun k _ => ?_
  congr 2 <;> (funext a; apply Fin.ext; match a with | 0 => rfl | 1 => rfl | 2 => rfl | 3 => rfl | 4 => rfl)
theorem mulNN_at (x y : Chunks N) (b : Fin 32) (h : Fin 8) (n : Fin N) (d e : Fin 128) :
    mulNN hf x y (ix5 b h n d e) = ∑ k : Fin 128, x (ix5 b h n d k) * y (ix5 b h n k e) := by
  unfold mulNN; pointwise
  refine Finset.sum_congr rfl fun k _ => ?_
  congr 2 <;> (funext a; apply Fin.ext; match a with | 0 => rfl | 1 => rfl | 2 => rfl | 3 => rfl | 4 => rfl)
theorem kvH_at (lg : Rates) (k v : Chunks N) (b : Fin 32) (h : Fin 8) (n : Fin N) (d e : Fin 128) :
    kvH hf lg k v (ix5 b h n d e) = ∑ j : Fin 128, (k (ix5 b h n j d) * zeta (lg (ix1 h)) j) * v (ix5 b h n j e) := by
  unfold kvH; rw [mulTN_at]; refine Finset.sum_congr rfl fun j _ => ?_
  pointwise; rw [zetaH_at]
theorem stepH_at (D : States) (kv : Chunks N) (t : Fin N) (s : States) (b : Fin 32) (h : Fin 8) (d e : Fin 128) :
    stepH hf D kv t s (ix4 b h d e) = D (ix4 b h d e) * s (ix4 b h d e) + kv (ix5 b h t d e) := by
  unfold stepH; pointwise
  congr 2
  funext a; apply Fin.ext; match a with | 0 => exact Nat.zero_add _ | 1 => exact Nat.zero_add _ | 2 => rfl | 3 => exact Nat.zero_add _ | 4 => exact Nat.zero_add _
theorem stackH_at (D : States) (kv : Chunks N) (s0 : States) (b : Fin 32) (h : Fin 8) (n : Fin N) (d e : Fin 128) :
    stackH hf D kv s0 (ix5 b h n d e) = statesH hf D kv s0 n (ix4 b h d e) := by
  unfold stackH
  rw [concatenate_ofFn_unit_apply (t := SN N) 2 (fun n : Fin N => pieceH (statesH hf D kv s0 n)) _ rfl rfl (ix5 b h n d e) n rfl (ix5 b h 0 d e)
    (fun a ha => by match a with | 0 => rfl | 1 => rfl | 2 => exact absurd rfl ha | 3 => rfl | 4 => rfl)]
  unfold pieceH; pointwise
theorem outsH_at (lg : Rates) (q k v s : Chunks N) (b : Fin 32) (h : Fin 8) (n : Fin N) (i e : Fin 128) :
    outsH hf lg q k v s (ix5 b h n i e) = one (fun i j => dm (lg (ix1 h)) (P i - P j)) (xi (lg (ix1 h)))
      (fun i d => q (ix5 b h n i d)) (fun i d => k (ix5 b h n i d)) (fun i d => v (ix5 b h n i d)) (fun i d => s (ix5 b h n i d)) i e := by
  unfold outsH; pointwise
  rw [mulNN_at, mulNN_at, xiH_at]
  simp only [one]
  congr 1
  refine Finset.sum_congr rfl fun j _ => ?_
  pointwise
  rw [mulNT_at, maskH_at]
/-- The chunks of a head as matrices, counted round. -/
def cm [NeZero N] (y : Chunks N) (b : Fin 32) (h : Fin 8) (n : ℕ) : Mat := fun i d => y (ix5 b h (Fin.ofNat N n) i d)

theorem statesH_at [NeZero N] (lg : Rates) (k v : Chunks N) (s0 : States) (b : Fin 32) (h : Fin 8) (t : ℕ) (ht : t ≤ N) (d e : Fin 128) :
    statesH hf (decH lg) (kvH hf lg k v) s0 t (ix4 b h d e) =
      st (dec (lg (ix1 h))) (zeta (lg (ix1 h))) (cm k b h) (cm v b h) id (fun d e => s0 (ix4 b h d e)) t d e := by
  induction t generalizing d e with
  | zero => rfl
  | succ t ih =>
    have hl : t < N := ht
    rw [statesH, dif_pos hl, stepH_at, ih (by omega), decH_at, kvH_at]
    have : (Fin.ofNat N t) = ⟨t, hl⟩ := Fin.ext (Nat.mod_eq_of_lt hl)
    simp only [st, cm, id, this]

theorem dirH_at [NeZero N] (lg : Rates) (q k v : Chunks N) (s0 : States) (b : Fin 32) (h : Fin 8) (n : Fin N) (i e : Fin 128) :
    dirH hf lg q k v s0 (ix5 b h n i e) = one (fun i j => dm (lg (ix1 h)) (P i - P j)) (xi (lg (ix1 h)))
      (cm q b h n) (cm k b h n) (cm v b h n)
      (st (dec (lg (ix1 h))) (zeta (lg (ix1 h))) (cm k b h) (cm v b h) id (fun d e => s0 (ix4 b h d e)) n) i e := by
  have hn : Fin.ofNat N n.val = n := Fin.ext (Nat.mod_eq_of_lt n.isLt)
  unfold dirH; rw [outsH_at]
  simp only [stackH_at, statesH_at hf lg k v s0 b h n n.isLt.le]
  have e : ∀ y : Chunks N, (fun i d => y (ix5 b h n i d)) = cm y b h n.val := fun y => by unfold cm; rw [hn]
  rw [e, e, e]
end

theorem zeroH_at (b : Fin 32) (h : Fin 8) (d e : Fin 128) : zeroH (ix4 b h d e) = 0 := by
  unfold zeroH; pointwise
theorem headL_at (x : FVec Ideal S11x32x2048x1024 .bf16) (s : Fin 11) (hs : S11x32x2048x1024.Slices ![s.val, 0, 0, 0] S1x32x2048x1024)
    (b : Fin 32) (h : Fin 8) (r : Fin 2048) (d : Fin 128) :
    headL x s.val hs (ix4 b h r d) = x (ix4 s b r ⟨128 * h.val + d.val, by omega⟩) := by
  unfold headL; pointwise
  simp only [Nat.mul_comm]
theorem chunkL_at (y : FVec Ideal S32x8x2048x128 .f32) (b : Fin 32) (h : Fin 8) (n : Fin 16) (i d : Fin 128) :
    chunkL y (ix5 b h n i d) = y (ix4 b h ⟨128 * n.val + i.val, by omega⟩ d) := by
  unfold chunkL; pointwise
  simp only [Nat.mul_comm]
theorem flipL_at (y : FVec Ideal S32x8x2048x128 .f32) (b : Fin 32) (h : Fin 8) (r : Fin 2048) (d : Fin 128) :
    flipL y (ix4 b h r d) = y (ix4 b h r.rev d) := by
  unfold flipL; pointwise; rfl
theorem rowsL_at (y : Chunks 16) (b : Fin 32) (h : Fin 8) (n : Fin 16) (i d : Fin 128) :
    rowsL y (ix4 b h ⟨128 * n.val + i.val, by omega⟩ d) = y (ix5 b h n i d) := by
  unfold rowsL; pointwise
theorem headC_at (x : FVec Ideal S11x32x256x1024 .bf16) (s : Fin 11) (hs : S11x32x256x1024.Slices ![s.val, 0, 0, 0] S1x32x256x1024)
    (b : Fin 32) (h : Fin 8) (r : Fin 256) (d : Fin 128) :
    headC x s.val hs (ix4 b h r d) = x (ix4 s b r ⟨128 * h.val + d.val, by omega⟩) := by
  unfold headC; pointwise
  simp only [Nat.mul_comm]
theorem chunkC_at (y : FVec Ideal S32x8x256x128 .f32) (b : Fin 32) (h : Fin 8) (n : Fin 2) (i d : Fin 128) :
    chunkC y (ix5 b h n i d) = y (ix4 b h ⟨128 * n.val + i.val, by omega⟩ d) := by
  unfold chunkC; pointwise
  simp only [Nat.mul_comm]
theorem flipC_at (y : FVec Ideal S32x8x256x128 .f32) (b : Fin 32) (h : Fin 8) (r : Fin 256) (d : Fin 128) :
    flipC y (ix4 b h r d) = y (ix4 b h r.rev d) := by
  unfold flipC; pointwise; rfl
theorem rowsC_at (y : Chunks 2) (b : Fin 32) (h : Fin 8) (n : Fin 2) (i d : Fin 128) :
    rowsC y (ix4 b h ⟨128 * n.val + i.val, by omega⟩ d) = y (ix5 b h n i d) := by
  unfold rowsC; pointwise
theorem rateF_at (g : FVec Ideal S2x8 .f32) (h : Fin 8) : rateF g (ix1 h) = g (ix2 0 h) := by
  unfold rateF; pointwise
theorem rateB_at (g : FVec Ideal S2x8 .f32) (h : Fin 8) : rateB g (ix1 h) = g (ix2 1 h) := by
  unfold rateB; pointwise
end Cert.ReferenceIdeal.Hand

end
-- ==== Proof.RefSum.lean ====
/- The reference's two directions read at an element: the chunks from first to last, and from last to first. -/
module

public import proofs.«01_k».proof.Proof.RefAt
public import proofs.«01_k».proof.Proof.Target

@[expose] public section

set_option maxRecDepth 16384

noncomputable section

namespace Cert.ReferenceIdeal.Hand

open Cert.ReferenceIdeal Cert.ReferenceIdeal.Gen
open Idealize.ShloMosaic Idealize.ShloMosaic.TcCoe
open Cert.Ret

/-- The chunks of a flipped array are the chunks from the last, flipped. -/
theorem cm_flipL (y : FVec Ideal S32x8x2048x128 .f32) (b : Fin 32) (h : Fin 8) (n : ℕ) (hn : n < 16) :
    cm (chunkL (flipL y)) b h n = revRows (cm (chunkL y) b h (15 - n)) := by
  funext i d
  simp only [cm, revRows, chunkL_at, flipL_at]
  congr 2
  refine Fin.ext ?_
  show 2048 - (128 * (n % 16) + i.val + 1) = 128 * ((15 - n) % 16) + (128 - (i.val + 1))
  omega
@[inherit_doc cm_flipL]
theorem cm_flipC (y : FVec Ideal S32x8x256x128 .f32) (b : Fin 32) (h : Fin 8) (n : ℕ) (hn : n < 2) :
    cm (chunkC (flipC y)) b h n = revRows (cm (chunkC y) b h (1 - n)) := by
  funext i d
  simp only [cm, revRows, chunkC_at, flipC_at]
  congr 2
  refine Fin.ext ?_
  show 256 - (128 * (n % 2) + i.val + 1) = 128 * ((1 - n) % 2) + (128 - (i.val + 1))
  omega

/-- A slab's chunks are its rows. -/
theorem cm_headL (x : FVec Ideal S11x32x2048x1024 .bf16) (s : Fin 11) (t : ℕ) (e : s.val = t)
    (hs : S11x32x2048x1024.Slices ![t, 0, 0, 0] S1x32x2048x1024)
    (b : Fin 32) (h : Fin 8) : cm (chunkL (headL x t hs)) b h = rowsX x s b h := by
  funext n i d
  subst e; simp only [cm, chunkL_at, headL_at]; rfl
@[inherit_doc cm_headL]
theorem cm_headC (x : FVec Ideal S11x32x256x1024 .bf16) (s : Fin 11) (t : ℕ) (e : s.val = t)
    (hs : S11x32x256x1024.Slices ![t, 0, 0, 0] S1x32x256x1024)
    (b : Fin 32) (h : Fin 8) : cm (chunkC (headC x t hs)) b h = Cert.Ret.rowsC x s b h := by
  funext n i d
  subst e; simp only [cm, chunkC_at, headC_at]; rfl

/-- The state the context leaves, forwards. -/
theorem lastF_at (lg : Rates) (k v : FVec Ideal S32x8x256x128 .f32) (b : Fin 32) (h : Fin 8) :
    (fun d e => lastH facts2 lg (chunkC k) (chunkC v) zeroH (ix4 b h d e)) =
      fwdCtx (lg (ix1 h)) (cm (chunkC k) b h) (cm (chunkC v) b h) 2 := by
  funext d e
  unfold lastH fwdCtx
  rw [statesH_at facts2 lg _ _ _ b h 2 le_rfl]
  simp only [zeroH_at]; rfl
/-- The state the context leaves, backwards. -/
theorem lastB_at (lg : Rates) (k v : FVec Ideal S32x8x256x128 .f32) (b : Fin 32) (h : Fin 8) :
    (fun d e => lastH facts2 lg (chunkC (flipC k)) (chunkC (flipC v)) zeroH (ix4 b h d e)) =
      bwdCtx (lg (ix1 h)) (cm (chunkC k) b h) (cm (chunkC v) b h) 2 := by
  rw [lastF_at]
  exact st_congr _ _ _ _ _ _ _ _ _ (fun n hn => cm_flipC k b h n hn) (fun n hn => cm_flipC v b h n hn)

/-- The two directions over the latent rows. -/
theorem sumL_at (lf lb : Rates) (q k v : FVec Ideal S32x8x2048x128 .f32) (kc vc : FVec Ideal S32x8x256x128 .f32)
    (b : Fin 32) (h : Fin 8) (n : Fin 16) (i e : Fin 128) :
    sumL lf lb q k v kc vc (ix4 b h ⟨128 * n.val + i.val, by omega⟩ e) =
      dir2 (lf (ix1 h)) (lb (ix1 h)) (cm (chunkL q) b h n) (cm (chunkL k) b h n) (cm (chunkL v) b h n)
        (fwdLat (lf (ix1 h)) (cm (chunkL k) b h) (cm (chunkL v) b h) (cm (chunkC kc) b h) (cm (chunkC vc) b h) n)
        (bwdLat (lb (ix1 h)) (cm (chunkL k) b h) (cm (chunkL v) b h) (cm (chunkC kc) b h) (cm (chunkC vc) b h) (15 - n)) i e := by
  have hr : (⟨128 * n.val + i.val, by omega⟩ : Fin 2048).rev = ⟨128 * n.rev.val + i.rev.val, by omega⟩ :=
    Fin.ext (by show 2048 - (128 * n.val + i.val + 1) = 128 * (16 - (n.val + 1)) + (128 - (i.val + 1)); omega)
  have hv : n.rev.val = 15 - n.val := by show 16 - (n.val + 1) = _; omega
  have hw : 15 - (15 - n.val) = n.val := by omega
  unfold sumL dir2
  show _ + _ = _
  rw [rowsL_at, flipL_at, hr, rowsL_at, dirH_at, dirH_at, lastF_at, lastB_at, hv]
  rw [cm_flipL q b h _ (by omega), cm_flipL k b h _ (by omega), cm_flipL v b h _ (by omega), hw]
  rw [st_congr _ _ (cm (chunkL (flipL k)) b h) (cm (chunkL (flipL v)) b h) (fun n => revRows (cm (chunkL k) b h (15 - n)))
    (fun n => revRows (cm (chunkL v) b h (15 - n))) id _ (15 - n.val) (fun t ht => cm_flipL k b h t (by omega)) (fun t ht => cm_flipL v b h t (by omega))]
  rfl

/-- The two directions over the context rows. -/
theorem sumC_at (lf lb : Rates) (q k v : FVec Ideal S32x8x256x128 .f32) (b : Fin 32) (h : Fin 8) (n : Fin 2) (i e : Fin 128) :
    sumC lf lb q k v (ix4 b h ⟨128 * n.val + i.val, by omega⟩ e) =
      dir2 (lf (ix1 h)) (lb (ix1 h)) (cm (chunkC q) b h n) (cm (chunkC k) b h n) (cm (chunkC v) b h n)
        (fwdCtx (lf (ix1 h)) (cm (chunkC k) b h) (cm (chunkC v) b h) n)
        (bwdCtx (lb (ix1 h)) (cm (chunkC k) b h) (cm (chunkC v) b h) (1 - n)) i e := by
  have hr : (⟨128 * n.val + i.val, by omega⟩ : Fin 256).rev = ⟨128 * n.rev.val + i.rev.val, by omega⟩ :=
    Fin.ext (by show 256 - (128 * n.val + i.val + 1) = 128 * (2 - (n.val + 1)) + (128 - (i.val + 1)); omega)
  have hv : n.rev.val = 1 - n.val := by show 2 - (n.val + 1) = _; omega
  have hw : 1 - (1 - n.val) = n.val := by omega
  have hz : (fun d e => zeroH (ix4 b h d e)) = fun _ _ => 0 := by funext d e; exact zeroH_at b h d e
  unfold sumC dir2
  show _ + _ = _
  rw [rowsC_at, flipC_at, hr, rowsC_at, dirH_at, dirH_at, hz, hv]
  rw [cm_flipC q b h _ (by omega), cm_flipC k b h _ (by omega), cm_flipC v b h _ (by omega), hw]
  rw [st_congr _ _ (cm (chunkC (flipC k)) b h) (cm (chunkC (flipC v)) b h) (fun n => revRows (cm (chunkC k) b h (1 - n)))
    (fun n => revRows (cm (chunkC v) b h (1 - n))) id _ (1 - n.val) (fun t ht => cm_flipC k b h t (by omega)) (fun t ht => cm_flipC v b h t (by omega))]
  rfl

end Cert.ReferenceIdeal.Hand

end
-- ==== Proof.RefVal.lean ====
/- The reference's normalisation and gate read at an element, and its two results. -/
module

public import proofs.«01_k».proof.Proof.RefSum

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Cert.Ret

/-- A latent row's mean over a head's channels. -/
theorem meanL_at (y : FVec Ideal S32x8x2048x128 .f32) (b : Fin 32) (h : Fin 8) (r : Fin 2048) :
    meanL y (ix4 b h r 0) = mean fun e => y (ix4 b h r e) := by
  unfold meanL mean; pointwise; rw [Cert.KernelIdeal.Hand.lit128]
/-- A latent row less its mean. -/
theorem centL_at (y : FVec Ideal S32x8x2048x128 .f32) (b : Fin 32) (h : Fin 8) (r : Fin 2048) (e : Fin 128) :
    centL y (ix4 b h r e) = cent (fun e => y (ix4 b h r e)) e := by
  unfold centL cent; pointwise; rw [meanL_at]
/-- The latent result at a row and a channel of a head. -/
theorem resL_at (y : FVec Ideal S32x8x2048x128 .f32) (w : FVec Ideal S1x1024 .f32) (z : FVec Ideal S32x2048x1024 .f32)
    (b : Fin 32) (h : Fin 8) (r : Fin 2048) (e : Fin 128) :
    resL y w z (ix3 b r (chan h e)) = gated (w (ix2 0 (chan h e))) (z (ix3 b r (chan h e))) (fun e => y (ix4 b h r e)) e := by
  have hd : (⟨(chan h e).val / 128, by have := (chan h e).isLt; omega⟩ : Fin 8) = h := Fin.ext (by show (128 * h.val + e.val) / 128 = h.val; omega)
  have he : (⟨(chan h e).val % 128, by omega⟩ : Fin 128) = e := Fin.ext (by show (128 * h.val + e.val) % 128 = e.val; omega)
  have hm : ∀ e, mulf (centL y) (centL y) (ix4 b h r e) = cent (fun e => y (ix4 b h r e)) e * cent (fun e => y (ix4 b h r e)) e := fun e => by
    pointwise; rw [centL_at]
  unfold resL; pointwise
  simp only [centL_at, meanL_at, hd, he, hm]
  rfl
/-- The latent gate at a row and a channel. -/
theorem gateL_at (x : FVec Ideal S11x32x2048x1024 .bf16) (b : Fin 32) (r : Fin 2048) (c : Fin 1024) :
    gateL x (ix3 b r c) = x (ix4 3 b r c) := by
  unfold gateL; pointwise

/-- A context row's mean over a head's channels. -/
theorem meanC_at (y : FVec Ideal S32x8x256x128 .f32) (b : Fin 32) (h : Fin 8) (r : Fin 256) :
    meanC y (ix4 b h r 0) = mean fun e => y (ix4 b h r e) := by
  unfold meanC mean; pointwise; rw [Cert.KernelIdeal.Hand.lit128]
/-- A context row less its mean. -/
theorem centC_at (y : FVec Ideal S32x8x256x128 .f32) (b : Fin 32) (h : Fin 8) (r : Fin 256) (e : Fin 128) :
    centC y (ix4 b h r e) = cent (fun e => y (ix4 b h r e)) e := by
  unfold centC cent; pointwise; rw [meanC_at]
/-- The context result at a row and a channel of a head. -/
theorem resC_at (y : FVec Ideal S32x8x256x128 .f32) (w : FVec Ideal S1x1024 .f32) (z : FVec Ideal S32x256x1024 .f32)
    (b : Fin 32) (h : Fin 8) (r : Fin 256) (e : Fin 128) :
    resC y w z (ix3 b r (chan h e)) = gated (w (ix2 0 (chan h e))) (z (ix3 b r (chan h e))) (fun e => y (ix4 b h r e)) e := by
  have hd : (⟨(chan h e).val / 128, by have := (chan h e).isLt; omega⟩ : Fin 8) = h := Fin.ext (by show (128 * h.val + e.val) / 128 = h.val; omega)
  have he : (⟨(chan h e).val % 128, by omega⟩ : Fin 128) = e := Fin.ext (by show (128 * h.val + e.val) % 128 = e.val; omega)
  have hm : ∀ e, mulf (centC y) (centC y) (ix4 b h r e) = cent (fun e => y (ix4 b h r e)) e * cent (fun e => y (ix4 b h r e)) e := fun e => by
    pointwise; rw [centC_at]
  unfold resC; pointwise
  simp only [centC_at, meanC_at, hd, he, hm]
  rfl
/-- The context gate at a row and a channel. -/
theorem gateC_at (x : FVec Ideal S11x32x256x1024 .bf16) (b : Fin 32) (r : Fin 256) (c : Fin 1024) :
    gateC x (ix3 b r c) = x (ix4 3 b r c) := by
  unfold gateC; pointwise

variable (x0 : (⟨S11x32x2048x1024, .bf16⟩ : BufTy).Contents (Elt Ideal)) (x1 : (⟨S11x32x256x1024, .bf16⟩ : BufTy).Contents (Elt Ideal))
  (x2 : (⟨S2x8, .f32⟩ : BufTy).Contents (Elt Ideal)) (x3 : (⟨S1x1024, .f32⟩ : BufTy).Contents (Elt Ideal))

/-- The reference's latent result. -/
theorem valX : val_main_v603 (F := Ideal) x0 x1 x2 x3 = resX x0 x1 x2 x3 := by
  funext j
  obtain ⟨b, r, c, rfl⟩ : ∃ b r c, j = ix3 b r c := ⟨j 0, j 1, j 2, by funext a; match a with | 0 => rfl | 1 => rfl | 2 => rfl⟩
  obtain ⟨n, i, rfl⟩ : ∃ (n : Fin 16) (i : Fin 128), r = ⟨128 * n.val + i.val, by omega⟩ :=
    ⟨⟨r.val / 128, by omega⟩, ⟨r.val % 128, by omega⟩, Fin.ext (by show r.val = 128 * (r.val / 128) + r.val % 128; omega)⟩
  obtain ⟨h, e, rfl⟩ : ∃ h e, c = chan h e :=
    ⟨⟨c.val / 128, by omega⟩, ⟨c.val % 128, by omega⟩, Fin.ext (by show c.val = 128 * (c.val / 128) + c.val % 128; omega)⟩
  rw [v603_eq, v553_eq, resL_at, gateL_at, resX_eq _ _ _ _ _ b h n.val i e rfl rfl rfl]
  simp only [sumL_at, rateF_at, rateB_at]
  rw [cm_headL x0 0 0 rfl, cm_headL x0 1 1 rfl, cm_headL x0 2 2 rfl, cm_headC x1 1 1 rfl, cm_headC x1 2 2 rfl]
  unfold atX
  congr 1
  simp only [rowsX]
  congr 2
  exact Fin.ext (by show 128 * n.val + i.val = 128 * (n.val % 16) + i.val; omega)

/-- The reference's context result. -/
theorem valC : val_main_v604 (F := Ideal) x1 x2 x3 = Cert.Ret.resC x1 x2 x3 := by
  funext j
  obtain ⟨b, r, c, rfl⟩ : ∃ b r c, j = ix3 b r c := ⟨j 0, j 1, j 2, by funext a; match a with | 0 => rfl | 1 => rfl | 2 => rfl⟩
  obtain ⟨n, i, rfl⟩ : ∃ (n : Fin 2) (i : Fin 128), r = ⟨128 * n.val + i.val, by omega⟩ :=
    ⟨⟨r.val / 128, by omega⟩, ⟨r.val % 128, by omega⟩, Fin.ext (by show r.val = 128 * (r.val / 128) + r.val % 128; omega)⟩
  obtain ⟨h, e, rfl⟩ : ∃ h e, c = chan h e :=
    ⟨⟨c.val / 128, by omega⟩, ⟨c.val % 128, by omega⟩, Fin.ext (by show c.val = 128 * (c.val / 128) + c.val % 128; omega)⟩
  rw [v604_eq, v554_eq, resC_at, gateC_at, resC_eq _ _ _ _ b h n.val i e rfl rfl rfl]
  simp only [sumC_at, rateF_at, rateB_at]
  rw [cm_headC x1 0 0 rfl, cm_headC x1 1 1 rfl, cm_headC x1 2 2 rfl]
  unfold atC
  congr 1
  simp only [Cert.Ret.rowsC]
  congr 2
  exact Fin.ext (by show 128 * n.val + i.val = 128 * (n.val % 2) + i.val; omega)

end Cert.ReferenceIdeal.Hand

end
-- ==== Proof.Ends.lean ====
/- The two runs' ends: the kernel's two results and the reference's two results, and what the precondition says of the
   log decays. -/
module

public import proofs.«01_k».proof.Proof.KernelArr
public import proofs.«01_k».proof.Proof.RefVal
public import proofs.«01_k».proof.Proof.Gen.Pre_decay_below_inf
public import Idealize.ShloMosaic.Lib.ReduceAll
public import Idealize.ShloMosaic.Lib.Quiescent

@[expose] public section

noncomputable section

open Idealize.ShloMosaic Idealize.ShloMosaic.TcCoe Idealize.SL.Sem
open Cert.Ret

namespace Cert.KernelIdeal.Hand

open Cert.KernelIdeal Cert.KernelIdeal.Gen

variable (m : (ℓ : Loc nD τ sig) → Buf (Elt Ideal) ℓ) (ρ : Dev nD → PrngReg)

/-- The kernel's run: its two results are the retention's, its arguments end unchanged. -/
theorem ends (hg : ∀ c j, aG m c j < ⊤) :
    θ_run defs (onTc (τ := τ) (main (F := Ideal))) ⟨m, fun _ => 0, ρ⟩ (fun r => ∀ c : Dev nD,
      r.2.mem ((c.tc : Thread nD τ).loc main_v0_0) = resX (aU m c) (aUC m c) (aG m c) (aW m c)
      ∧ r.2.mem ((c.tc : Thread nD τ).loc main_v0_1) = resC (aUC m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.1 c).1 10).trans (arr10 m c (hg c)), ((h.1.1 c).1 11).trans (arr11 m c (hg c)), h.2.1 c⟩)
    (θ_run_and (launched m ρ) (frame m ρ))

end Cert.KernelIdeal.Hand

namespace Cert.ReferenceIdeal.Hand

open Cert.ReferenceIdeal Cert.ReferenceIdeal.Gen Cert.ReferenceIdeal.Read

variable (m : (ℓ : Loc nD τ sig) → Buf (Elt Ideal) ℓ) (ρ : Dev nD → PrngReg)

/-- The reference's run: its two results are the retention's, its arguments end unchanged. -/
theorem ends : θ_run defs (onTc (τ := τ) (main (F := Ideal))) ⟨m, fun _ => 0, ρ⟩ (fun r => ∀ c : Dev nD,
      r.2.mem ((c.tc : Thread nD τ).loc main_v603) = resX (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v604) = Cert.Ret.resC (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans ((val_main_v603_eq (StableHlo.launchContents m c)).trans (valX _ _ _ _)),
    (h c).2.1.trans ((val_main_v604_eq (StableHlo.launchContents m c)).trans (valC _ _ _)), (h c).2.2⟩) (Value.run m ρ)

/-- The reference's frame: its arguments end unchanged, and it has no semaphore. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems rfl r.2⟩) (ends m ρ)

end Cert.ReferenceIdeal.Hand

namespace Cert.Pre_decay_below_inf

/-- The precondition says that every log decay is below `⊤`. -/
theorem below (a0 : FVec Ideal S11x32x2048x1024 .bf16) (a1 : FVec Ideal S11x32x256x1024 .bf16) (a2 : FVec Ideal S2x8 .f32)
    (a3 : FVec Ideal S1x1024 .f32) (h : fn (F := Ideal) a0 a1 a2 a3 = fun _ => 1#1) (j : S2x8.Idx) : (a2 j : EReal) < ⊤ := by
  have e : BitVec.ofBool (decide (a2 j < Ideal.ofBits .f32 0x7F800000#32)) = 1#1 :=
    Host.reduce_andi_eq_one _ _ _ _ (fun a => a.elim0) (congrFun h _) j (funext fun a => a.elim0)
  have t : Ideal.ofBits .f32 0x7F800000#32 = ⊤ := by simp [Ideal.ofBits, Ideal.ieee]
  rw [t] at e
  by_contra hn
  rw [decide_eq_false hn] at e
  exact absurd e (by decide)

end Cert.Pre_decay_below_inf

end
-- ==== Proof.KernelFrame.lean ====
module
public import proofs.«01_k».proof.Proof.Ends
public import proofs.«01_k».proof.Proof.Gen.Kernel
public import proofs.«01_k».proof.Defs
@[expose] public section
/-! `Kernel` and `KernelIdeal` are the same text; here the two are shown equal, so that the one run
written for `KernelIdeal` over any float values gives the frame of `Kernel`. -/
set_option maxRecDepth 1000000
set_option maxHeartbeats 0
open Idealize.ShloMosaic
namespace Cert.Kernel.Hand
instance : Cert.Kernel.Facts := Cert.Kernel.Gen.facts
instance : Cert.KernelIdeal.Facts := Cert.KernelIdeal.Gen.facts

/-- The two bodies are the same program. -/
theorem body_eq : @Cert.Kernel.cc0_retention_ctx Bits _ _ = @Cert.KernelIdeal.cc0_retention_ctx Bits _ _ := rfl

/-- The two tables of kernel bodies are the same. -/
theorem defs₀_eq : @Cert.Kernel.defs₀ Bits _ _ = @Cert.KernelIdeal.defs₀ Bits _ _ := by
  unfold Cert.Kernel.defs₀ Cert.KernelIdeal.defs₀
  refine congrArg (Defs.onTc (Λ := Cert.KernelIdeal.Λ₀)) ?_
  refine funext fun l => funext fun a => ?_
  match l, a with
  | 0, (t, s) =>
    dsimp only
    rw [body_eq]
    rfl

/-- The two pipelined launches are the same. -/
theorem defs_eq : @Cert.Kernel.defs Bits _ _ = @Cert.KernelIdeal.defs Bits _ _ := by
  unfold Cert.Kernel.defs Cert.KernelIdeal.defs
  exact congrArg (Pipeline.defs (Cert.KernelIdeal.pcfgs (F := Bits))) defs₀_eq

/-- The kernel as printed finishes, leaves its four inputs as they were and no semaphore raised. -/
theorem frame_kernel : Cert.quiescent_Kernel := fun m ρ _ => by
  have h := Cert.KernelIdeal.Hand.frame (F := Bits) m ρ
  rw [← defs_eq] at h
  exact h

end Cert.Kernel.Hand
-- ==== Proof.MergeSpec.lean ====
/- The last layer's merge, over the extended reals: what an element of its result is, from the arguments. -/
module

public import Idealize.ShloMosaic.PureOps.Ideal
public import Idealize.ShloMosaic.Lib.Pointwise.Tactic

@[expose] public section

noncomputable section

namespace Cert.Merge

open Idealize.ShloMosaic

/-- A row of one branch's projection back to the model's width. -/
def proj (y : Fin 1024 → EReal) (w : Fin 1024 → Fin 1024 → EReal) (e : Fin 1024) : EReal := ∑ k : Fin 1024, y k * w k e

/-- The two branches' projections under their gates' sigmoids, added. -/
def gated (yr ym gr gm : Fin 1024 → EReal) (wr wm : Fin 1024 → Fin 1024 → EReal) (e : Fin 1024) : EReal :=
  Ideal.logistic (gr e) * proj yr wr e + Ideal.logistic (gm e) * proj ym wm e

/-- The stream after the gated residual. -/
def added (x g : Fin 1024 → EReal) (yr ym gr gm : Fin 1024 → EReal) (wr wm wo : Fin 1024 → Fin 1024 → EReal) (d : Fin 1024) : EReal :=
  x d + g d * proj (gated yr ym gr gm wr wm) wo d

/-- A row's root mean square norm under its weights. -/
def normed (x w : Fin 1024 → EReal) (d : Fin 1024) : EReal :=
  x d * Ideal.rsqrt (Ideal.div (∑ e : Fin 1024, x e * x e) (Ideal.ofBits .f32 0x44800000#32) + Ideal.ofBits .f32 0x358637BD#32) * w d

/-- Token rows, slabs of token rows, a row per batch element, a weight matrix, a weight row. -/
abbrev Tok (e : FTy) := FVec Ideal ⟨3, ![32, 2048, 1024]⟩ e
@[inherit_doc Tok] abbrev Slabs := FVec Ideal ⟨4, ![11, 32, 2048, 1024]⟩ .bf16
@[inherit_doc Tok] abbrev PerBatch := FVec Ideal ⟨2, ![32, 1024]⟩ .f32
@[inherit_doc Tok] abbrev Mat := FVec Ideal ⟨2, ![1024, 1024]⟩ .f32
@[inherit_doc Tok] abbrev Row := FVec Ideal ⟨1, ![1024]⟩ .f32

/-- The result's element at a batch element, a token and a channel. -/
def resAt (yr ym : Tok .bf16) (u : Slabs) (x : Tok .f32) (g : PerBatch) (wr wm wo : Mat) (fw : Row) (b : Fin 32) (l : Fin 2048) (d : Fin 1024) : EReal :=
  normed (added (fun k => x (ix3 b l k)) (fun k => g (ix2 b k)) (fun k => yr (ix3 b l k)) (fun k => ym (ix3 b l k))
    (fun k => u (ix4 9 b l k)) (fun k => u (ix4 10 b l k)) (fun k e => wr (ix2 k e)) (fun k e => wm (ix2 k e)) (fun k e => wo (ix2 k e)))
    (fun e => fw (ix1 e)) d

/-- The result. -/
def res (yr ym : Tok .bf16) (u : Slabs) (x : Tok .f32) (g : PerBatch) (wr wm wo : Mat) (fw : Row) : Tok .f32 :=
  fun j => resAt yr ym u x g wr wm wo fw (j 0) (j 1) (j 2)

end Cert.Merge

end
-- ==== Proof.MergeKernelAt.lean ====
/- The merge kernel's body read at an element, over the extended reals. -/
module

public import proofs.«01_k».proof.Proof.MergeSpec
public import proofs.«01_k».proof.Proof.Gen.Kernel2Ideal.Frame
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe
open Cert.Merge

/-- The output projection of the gated branches. -/
theorem pay4_at (yr : Vec Ideal S1x1024x1024 .bf16) (wr : Vec Ideal S1024x1024 .bf16) (ym : Vec Ideal S1x1024x1024 .bf16) (wm : Vec Ideal S1024x1024 .bf16)
    (gr gm : Vec Ideal S1x1x1024x1024 .bf16) (wo : Vec Ideal S1024x1024 .bf16) (i d : Fin 1024) :
    k0_pay4 (F := Ideal) yr wr ym wm gr gm wo (ix2 i d) =
      proj (gated (fun k => yr (ix3 0 i k)) (fun k => ym (ix3 0 i k)) (fun k => gr (ix4 0 0 i k)) (fun k => gm (ix4 0 0 i k))
        (fun k e => wr (ix2 k e)) (fun k e => wm (ix2 k e))) (fun k e => wo (ix2 k e)) d := by
  unfold k0_pay4
  pointwise
  rfl

/-- The residual and the final norm. -/
theorem pay1_at (x : Vec Ideal S1024x1024 .f32) (g : Vec Ideal S1x1024 .f32) (y : Vec Ideal S1024x1024 .f32) (w : Vec Ideal S1x1024 .f32) (i d : Fin 1024) :
    k0_pay1 (F := Ideal) x g y w (ix3 0 i d) =
      normed (fun e => x (ix2 i e) + g (ix2 0 e) * y (ix2 i e)) (fun e => w (ix2 0 e)) d := by
  unfold k0_pay1
  pointwise
  unfold normed
  rfl

theorem pay2_at (x : Vec Ideal S1x1024x1024 .f32) (i d : Fin 1024) : k0_pay2 (F := Ideal) x (ix2 i d) = x (ix3 0 i d) := by
  unfold k0_pay2; pointwise
theorem pay3_at (x : Vec Ideal S1x1x1024 .f32) (d : Fin 1024) : k0_pay3 (F := Ideal) x (ix2 0 d) = x (ix3 0 0 d) := by
  unfold k0_pay3; pointwise

end Cert.Kernel2Ideal.Hand
end
-- ==== Proof.MergeKernelArr.lean ====
/- The merge kernel's result array after the launch is the merge of the arguments as launched. -/
module

public import proofs.«01_k».proof.Proof.MergeKernelAt
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem
open Cert.Merge

variable (m : (ℓ : Loc nD τ sig) → Buf (Elt Ideal) ℓ) (ρ : Dev nD → PrngReg)

/-- The result of the arguments as launched. -/
def goal (c : Dev nD) : Tok .f32 :=
  res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The point's batch element and its half of the tokens. -/
def pb (t : Fin cfg0.N) : Fin 32 := grid0.coords t 0
@[inherit_doc pb] def ph (t : Fin cfg0.N) : Fin 2 := grid0.coords t 1

/-- Where each window's block is at a point. -/
theorem e0 : ∀ t : Fin cfg0.N, win0_0.index t = ![(pb t).val, (ph t).val, 0] := (by decide +kernel : ∀ t : Fin grid0.N, _)
@[inherit_doc e0] theorem e1 : ∀ t : Fin cfg0.N, win0_1.index t = ![(pb t).val, (ph t).val, 0] := (by decide +kernel : ∀ t : Fin grid0.N, _)
@[inherit_doc e0] theorem e2 : ∀ t : Fin cfg0.N, win0_2.index t = ![9, (pb t).val, (ph t).val, 0] := (by decide +kernel : ∀ t : Fin grid0.N, _)
@[inherit_doc e0] theorem e3 : ∀ t : Fin cfg0.N, win0_3.index t = ![10, (pb t).val, (ph t).val, 0] := (by decide +kernel : ∀ t : Fin grid0.N, _)
@[inherit_doc e0] theorem e4 : ∀ t : Fin cfg0.N, win0_4.index t = ![(pb t).val, (ph t).val, 0] := (by decide +kernel : ∀ t : Fin grid0.N, _)
@[inherit_doc e0] theorem e5 : ∀ t : Fin cfg0.N, win0_5.index t = ![(pb t).val, 0, 0] := (by decide +kernel : ∀ t : Fin grid0.N, _)
@[inherit_doc e0] theorem e6 : ∀ t : Fin cfg0.N, win0_6.index t = ![0, 0] := (by decide +kernel : ∀ t : Fin grid0.N, _)
@[inherit_doc e0] theorem e7 : ∀ t : Fin cfg0.N, win0_7.index t = ![0, 0] := (by decide +kernel : ∀ t : Fin grid0.N, _)
@[inherit_doc e0] theorem e8 : ∀ t : Fin cfg0.N, win0_8.index t = ![0, 0] := (by decide +kernel : ∀ t : Fin grid0.N, _)
@[inherit_doc e0] theorem e9 : ∀ t : Fin cfg0.N, win0_9.index t = ![0, 0] := (by decide +kernel : ∀ t : Fin grid0.N, _)
@[inherit_doc e0] theorem e10 : ∀ t : Fin cfg0.N, win0_10.index t = ![(pb t).val, (ph t).val, 0] := (by decide +kernel : ∀ t : Fin grid0.N, _)

/-- The token a row of the point's blocks is. -/
def tok (t : Fin cfg0.N) (i : Fin 1024) : Fin 2048 := ⟨1024 * (ph t).val + i.val, by have := (ph t).isLt; omega⟩

/-- The point's blocks hold the arguments' rows of its tokens, and the weights whole. -/
theorem blk0 (c : Dev nD) (t : Fin cfg0.N) (i k : Fin 1024) : iblk m c 0 t (ix3 0 i k) = m ((c : Thread nD τ).loc main_arg0) (ix3 (pb t) (tok t i) k) := by
  unfold tok; blk_ext! [iblk, V_main_arg0, e0 t]
@[inherit_doc blk0]
theorem blk1 (c : Dev nD) (t : Fin cfg0.N) (i k : Fin 1024) : iblk m c 1 t (ix3 0 i k) = m ((c : Thread nD τ).loc main_arg1) (ix3 (pb t) (tok t i) k) := by
  unfold tok; blk_ext! [iblk, V_main_arg1, e1 t]
@[inherit_doc blk0]
theorem blk2 (c : Dev nD) (t : Fin cfg0.N) (i k : Fin 1024) : iblk m c 2 t (ix4 0 0 i k) = m ((c : Thread nD τ).loc main_arg2) (ix4 9 (pb t) (tok t i) k) := by
  unfold tok; blk_ext! [iblk, V_main_arg2, e2 t]
@[inherit_doc blk0]
theorem blk3 (c : Dev nD) (t : Fin cfg0.N) (i k : Fin 1024) : iblk m c 3 t (ix4 0 0 i k) = m ((c : Thread nD τ).loc main_arg2) (ix4 10 (pb t) (tok t i) k) := by
  unfold tok; blk_ext! [iblk, V_main_arg2, e3 t]
@[inherit_doc blk0]
theorem blk4 (c : Dev nD) (t : Fin cfg0.N) (i k : Fin 1024) : iblk m c 4 t (ix3 0 i k) = m ((c : Thread nD τ).loc main_arg3) (ix3 (pb t) (tok t i) k) := by
  unfold tok; blk_ext! [iblk, V_main_arg3, e4 t]
@[inherit_doc blk0]
theorem blk5 (c : Dev nD) (t : Fin cfg0.N) (k : Fin 1024) : iblk m c 5 t (ix3 0 0 k) = m ((c : Thread nD τ).loc main_arg4) (ix2 (pb t) k) := by
  blk_ext! [iblk, e5 t]
@[inherit_doc blk0]
theorem blk6 (c : Dev nD) (t : Fin cfg0.N) (k e : Fin 1024) : iblk m c 6 t (ix2 k e) = m ((c : Thread nD τ).loc main_arg5) (ix2 k e) := by
  blk_ext! [iblk, e6 t]
@[inherit_doc blk0]
theorem blk7 (c : Dev nD) (t : Fin cfg0.N) (k e : Fin 1024) : iblk m c 7 t (ix2 k e) = m ((c : Thread nD τ).loc main_arg6) (ix2 k e) := by
  blk_ext! [iblk, e7 t]
@[inherit_doc blk0]
theorem blk8 (c : Dev nD) (t : Fin cfg0.N) (k e : Fin 1024) : iblk m c 8 t (ix2 k e) = m ((c : Thread nD τ).loc main_arg7) (ix2 k e) := by
  blk_ext! [iblk, e8 t]
@[inherit_doc blk0]
theorem blk9 (c : Dev nD) (t : Fin cfg0.N) (k : Fin 1024) : iblk m c 9 t (ix2 0 k) = m ((c : Thread nD τ).loc main_arg8) (ix1 k) := by
  blk_ext! [iblk, e9 t]

/-- The result after the launch. -/
theorem arr10 (c : Dev nD) : (dats (F := Ideal) m 0 c).arrAt 10 cfg0.N = goal m c := by
  refine (dats (F := Ideal) m 0 c).arrAt_eq_of_covers 10 (goal m c) (by decide +kernel) fun t hf y => ?_
  blk_simp
  rw [after0_10]; frame_out
  have y0 : (y 0).val < 1 := (y 0).isLt
  have y1 : (y 1).val < 1024 := (y 1).isLt
  have y2 : (y 2).val < 1024 := (y 2).isLt
  have ey : y = ix3 0 ⟨(y 1).val, y1⟩ ⟨(y 2).val, y2⟩ := by
    funext a; apply Fin.ext; match a with | 0 => show (y 0).val = 0; omega | 1 => rfl | 2 => rfl
  have eg : (win0_10.blk t).view.emb y = ix3 (pb t) (tok t ⟨(y 1).val, y1⟩) ⟨(y 2).val, y2⟩ := by
    unfold tok; blk_ext [e10 t]
  rw [eg]
  conv_lhs => rw [ey]
  rw [pay1_at]
  simp only [pay2_at, pay3_at, pay4_at, blk0, blk1, blk2, blk3, blk4, blk5, blk6, blk7, blk8, blk9]
  rfl

end Cert.Kernel2Ideal.Hand
end
-- ==== Proof.MergeRefAt.lean ====
/- The reference's merge read at an element, over the extended reals. -/
module

public import proofs.«01_k».proof.Proof.MergeSpec
public import proofs.«01_k».proof.Proof.Gen.Reference2Ideal.Read
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select

@[expose] public section

set_option maxRecDepth 16384

noncomputable section

namespace Cert.Reference2Ideal.Hand

open Cert.Reference2Ideal Cert.Reference2Ideal.Gen Cert.Reference2Ideal.Read
open Idealize.ShloMosaic Idealize.ShloMosaic.TcCoe
open Cert.Merge

variable (yr ym : Tok .bf16) (u : Slabs) (x : Tok .f32) (g : PerBatch) (wr wm wo : Mat) (fw : Row) (b : Fin 32) (l : Fin 2048) (d : Fin 1024)

/-- The retention branch's gate. -/
theorem v15_at : val_main_v15 (F := Ideal) u (ix3 b l d) = Ideal.logistic (u (ix4 9 b l d)) := by
  unfold val_main_v15 val_main_v13 val_main_v14 val_main_v12 val_main_v11 val_main_v10 val_main_v2 val_main_v1 val_main_v0 val_main_cst val_main_cst_0
  pointwise
  rfl
/-- The mLSTM branch's gate. -/
theorem v22_at : val_main_v22 (F := Ideal) u (ix3 b l d) = Ideal.logistic (u (ix4 10 b l d)) := by
  unfold val_main_v22 val_main_v20 val_main_v21 val_main_v19 val_main_v18 val_main_v17 val_main_v5 val_main_v4 val_main_v3 val_main_cst_1 val_main_cst_2
  pointwise
  rfl
/-- The projections. -/
theorem v7_at : val_main_v7 (F := Ideal) yr wr (ix3 b l d) = proj (fun k => yr (ix3 b l k)) (fun k e => wr (ix2 k e)) d := by
  unfold val_main_v7 val_main_v6
  pointwise
  rfl
@[inherit_doc v7_at]
theorem v9_at : val_main_v9 (F := Ideal) ym wm (ix3 b l d) = proj (fun k => ym (ix3 b l k)) (fun k e => wm (ix2 k e)) d := by
  unfold val_main_v9 val_main_v8
  pointwise
  rfl
/-- The two branches added. -/
theorem v24_at : val_main_v24 (F := Ideal) yr ym u wr wm (ix3 b l d) =
    gated (fun k => yr (ix3 b l k)) (fun k => ym (ix3 b l k)) (fun k => u (ix4 9 b l k)) (fun k => u (ix4 10 b l k))
      (fun k e => wr (ix2 k e)) (fun k e => wm (ix2 k e)) d := by
  unfold val_main_v24 val_main_v23 val_main_v16
  pointwise
  rw [v15_at, v22_at, v7_at, v9_at]
  rfl
/-- The stream after the gated residual. -/
theorem v29_at : val_main_v29 (F := Ideal) yr ym u x g wr wm wo (ix3 b l d) =
    added (fun k => x (ix3 b l k)) (fun k => g (ix2 b k)) (fun k => yr (ix3 b l k)) (fun k => ym (ix3 b l k)) (fun k => u (ix4 9 b l k))
      (fun k => u (ix4 10 b l k)) (fun k e => wr (ix2 k e)) (fun k e => wm (ix2 k e)) (fun k e => wo (ix2 k e)) d := by
  unfold val_main_v29 val_main_v28 val_main_v27 val_main_v25 val_main_v26
  pointwise
  simp only [v24_at]
  rfl
/-- The result. -/
theorem v42_eq : val_main_v42 (F := Ideal) yr ym u x g wr wm wo fw = res yr ym u x g wr wm wo fw := by
  funext j
  obtain ⟨b, l, d, rfl⟩ : ∃ b l d, j = ix3 b l d := ⟨j 0, j 1, j 2, by
    funext a; apply Fin.ext; match a with | 0 => rfl | 1 => rfl | 2 => rfl⟩
  unfold val_main_v42 val_main_v41 val_main_v40 val_main_v39 val_main_v38 val_main_v37 val_main_v36 val_main_v35 val_main_v34 val_main_v33 val_main_v32 val_main_v31
    val_main_v30 val_main_cst_3 val_main_cst_4 val_main_cst_5
  pointwise
  simp only [v29_at]
  rfl

end Cert.Reference2Ideal.Hand

end
-- ==== Proof.MergeEnds.lean ====
/- The merge's two runs' ends: the kernel's result and the reference's. -/
module

public import proofs.«01_k».proof.Proof.MergeKernelArr
public import proofs.«01_k».proof.Proof.MergeRefAt
public import proofs.«01_k».proof.Proof.Gen.Reference2Ideal.Run
public import Idealize.ShloMosaic.Lib.Quiescent

@[expose] public section

noncomputable section

open Idealize.ShloMosaic Idealize.ShloMosaic.TcCoe Idealize.SL.Sem
open Cert.Merge

namespace Cert.Kernel2Ideal.Hand

open Cert.Kernel2Ideal Cert.Kernel2Ideal.Gen

variable (m : (ℓ : Loc nD τ sig) → Buf (Elt Ideal) ℓ) (ρ : Dev nD → PrngReg)

/-- The kernel's run: its result is the merge of its arguments, which end unchanged. -/
theorem ends : θ_run defs (onTc (τ := τ) (main (F := Ideal))) ⟨m, fun _ => 0, ρ⟩ (fun r => ∀ c : Dev nD,
      r.2.mem ((c.tc : Thread nD τ).loc main_v5) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 10).trans (arr10 m c), h.2 c⟩) (θ_run_and (run_main m ρ) (unchanged m ρ))

end Cert.Kernel2Ideal.Hand

namespace Cert.Reference2Ideal.Hand

open Cert.Reference2Ideal Cert.Reference2Ideal.Gen Cert.Reference2Ideal.Read

variable (m : (ℓ : Loc nD τ sig) → Buf (Elt Ideal) ℓ) (ρ : Dev nD → PrngReg)

/-- The reference's run: its result is the merge of its arguments, which end unchanged. -/
theorem ends : θ_run defs (onTc (τ := τ) (main (F := Ideal))) ⟨m, fun _ => 0, ρ⟩ (fun r => ∀ c : Dev nD,
      r.2.mem ((c.tc : Thread nD τ).loc main_v42) = res (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans ((val_main_v42_eq m c).trans (v42_eq _ _ _ _ _ _ _ _ _)), (h c).2⟩)
    (Value.run m ρ)

/-- The reference's frame: its arguments end unchanged, and it has no semaphore. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => (h c).2, sem_eq_zero_of_no_sems rfl r.2⟩) (ends m ρ)

end Cert.Reference2Ideal.Hand

end
-- ==== Proof.MidSpec.lean ====
/- An inner layer's merge, over the extended reals: the last layer's without the final norm. -/
module

public import proofs.«01_k».proof.Proof.MergeSpec

@[expose] public section

noncomputable section

namespace Cert.Merge

open Idealize.ShloMosaic

/-- The stream's element after the gated residual, at a batch element, a token and a channel. -/
def midAt (yr ym : Tok .bf16) (u : Slabs) (x : Tok .f32) (g : PerBatch) (wr wm wo : Mat) (b : Fin 32) (l : Fin 2048) (d : Fin 1024) : EReal :=
  added (fun k => x (ix3 b l k)) (fun k => g (ix2 b k)) (fun k => yr (ix3 b l k)) (fun k => ym (ix3 b l k)) (fun k => u (ix4 9 b l k))
    (fun k => u (ix4 10 b l k)) (fun k e => wr (ix2 k e)) (fun k e => wm (ix2 k e)) (fun k e => wo (ix2 k e)) d

/-- The stream after the layer. -/
def mid (yr ym : Tok .bf16) (u : Slabs) (x : Tok .f32) (g : PerBatch) (wr wm wo : Mat) : Tok .f32 :=
  fun j => midAt yr ym u x g wr wm wo (j 0) (j 1) (j 2)

end Cert.Merge

end
-- ==== Proof.MidKernelArr.lean ====
/- The inner merge kernel's result array after the launch is the inner merge of the arguments as launched. -/
module

public import proofs.«01_k».proof.Proof.MidSpec
public import proofs.«01_k».proof.Proof.MergeKernelAt
public import proofs.«01_k».proof.Proof.Gen.Kernel4Ideal.Frame
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem
open Cert.Merge

variable (m : (ℓ : Loc nD τ sig) → Buf (Elt Ideal) ℓ) (ρ : Dev nD → PrngReg)

/-- The body's output projection is the last merge's. -/
theorem pay4_same : k0_pay4 (F := Ideal) = Cert.Kernel2Ideal.Gen.k0_pay4 (F := Ideal) := rfl
/-- The residual. -/
theorem pay1_at (x : Vec Ideal S1024x1024 .f32) (g : Vec Ideal S1x1024 .f32) (y : Vec Ideal S1024x1024 .f32) (i d : Fin 1024) :
    k0_pay1 (F := Ideal) x g y (ix3 0 i d) = x (ix2 i d) + g (ix2 0 d) * y (ix2 i d) := by
  unfold k0_pay1
  pointwise
theorem pay2_at (x : Vec Ideal S1x1024x1024 .f32) (i d : Fin 1024) : k0_pay2 (F := Ideal) x (ix2 i d) = x (ix3 0 i d) := by
  unfold k0_pay2; pointwise
theorem pay3_at (x : Vec Ideal S1x1x1024 .f32) (d : Fin 1024) : k0_pay3 (F := Ideal) x (ix2 0 d) = x (ix3 0 0 d) := by
  unfold k0_pay3; pointwise

/-- The inner merge of the arguments as launched. -/
def goal (c : Dev nD) : Tok .f32 :=
  mid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The point's batch element and its half of the tokens. -/
def pb (t : Fin cfg0.N) : Fin 32 := grid0.coords t 0
@[inherit_doc pb] def ph (t : Fin cfg0.N) : Fin 2 := grid0.coords t 1

/-- Where each window's block is at a point. -/
theorem e0 : ∀ t : Fin cfg0.N, win0_0.index t = ![(pb t).val, (ph t).val, 0] := (by decide +kernel : ∀ t : Fin grid0.N, _)
@[inherit_doc e0] theorem e1 : ∀ t : Fin cfg0.N, win0_1.index t = ![(pb t).val, (ph t).val, 0] := (by decide +kernel : ∀ t : Fin grid0.N, _)
@[inherit_doc e0] theorem e2 : ∀ t : Fin cfg0.N, win0_2.index t = ![9, (pb t).val, (ph t).val, 0] := (by decide +kernel : ∀ t : Fin grid0.N, _)
@[inherit_doc e0] theorem e3 : ∀ t : Fin cfg0.N, win0_3.index t = ![10, (pb t).val, (ph t).val, 0] := (by decide +kernel : ∀ t : Fin grid0.N, _)
@[inherit_doc e0] theorem e4 : ∀ t : Fin cfg0.N, win0_4.index t = ![(pb t).val, (ph t).val, 0] := (by decide +kernel : ∀ t : Fin grid0.N, _)
@[inherit_doc e0] theorem e5 : ∀ t : Fin cfg0.N, win0_5.index t = ![(pb t).val, 0, 0] := (by decide +kernel : ∀ t : Fin grid0.N, _)
@[inherit_doc e0] theorem e6 : ∀ t : Fin cfg0.N, win0_6.index t = ![0, 0] := (by decide +kernel : ∀ t : Fin grid0.N, _)
@[inherit_doc e0] theorem e7 : ∀ t : Fin cfg0.N, win0_7.index t = ![0, 0] := (by decide +kernel : ∀ t : Fin grid0.N, _)
@[inherit_doc e0] theorem e8 : ∀ t : Fin cfg0.N, win0_8.index t = ![0, 0] := (by decide +kernel : ∀ t : Fin grid0.N, _)
@[inherit_doc e0] theorem e9 : ∀ t : Fin cfg0.N, win0_9.index t = ![(pb t).val, (ph t).val, 0] := (by decide +kernel : ∀ t : Fin grid0.N, _)

/-- The token a row of the point's blocks is. -/
def tok (t : Fin cfg0.N) (i : Fin 1024) : Fin 2048 := ⟨1024 * (ph t).val + i.val, by have := (ph t).isLt; omega⟩

/-- The point's blocks hold the arguments' rows of its tokens, and the weights whole. -/
theorem blk0 (c : Dev nD) (t : Fin cfg0.N) (i k : Fin 1024) : iblk m c 0 t (ix3 0 i k) = m ((c : Thread nD τ).loc main_arg0) (ix3 (pb t) (tok t i) k) := by
  unfold tok; blk_ext! [iblk, V_main_arg0, e0 t]
@[inherit_doc blk0]
theorem blk1 (c : Dev nD) (t : Fin cfg0.N) (i k : Fin 1024) : iblk m c 1 t (ix3 0 i k) = m ((c : Thread nD τ).loc main_arg1) (ix3 (pb t) (tok t i) k) := by
  unfold tok; blk_ext! [iblk, V_main_arg1, e1 t]
@[inherit_doc blk0]
theorem blk2 (c : Dev nD) (t : Fin cfg0.N) (i k : Fin 1024) : iblk m c 2 t (ix4 0 0 i k) = m ((c : Thread nD τ).loc main_arg2) (ix4 9 (pb t) (tok t i) k) := by
  unfold tok; blk_ext! [iblk, V_main_arg2, e2 t]
@[inherit_doc blk0]
theorem blk3 (c : Dev nD) (t : Fin cfg0.N) (i k : Fin 1024) : iblk m c 3 t (ix4 0 0 i k) = m ((c : Thread nD τ).loc main_arg2) (ix4 10 (pb t) (tok t i) k) := by
  unfold tok; blk_ext! [iblk, V_main_arg2, e3 t]
@[inherit_doc blk0]
theorem blk4 (c : Dev nD) (t : Fin cfg0.N) (i k : Fin 1024) : iblk m c 4 t (ix3 0 i k) = m ((c : Thread nD τ).loc main_arg3) (ix3 (pb t) (tok t i) k) := by
  unfold tok; blk_ext! [iblk, V_main_arg3, e4 t]
@[inherit_doc blk0]
theorem blk5 (c : Dev nD) (t : Fin cfg0.N) (k : Fin 1024) : iblk m c 5 t (ix3 0 0 k) = m ((c : Thread nD τ).loc main_arg4) (ix2 (pb t) k) := by
  blk_ext! [iblk, e5 t]
@[inherit_doc blk0]
theorem blk6 (c : Dev nD) (t : Fin cfg0.N) (k e : Fin 1024) : iblk m c 6 t (ix2 k e) = m ((c : Thread nD τ).loc main_arg5) (ix2 k e) := by
  blk_ext! [iblk, e6 t]
@[inherit_doc blk0]
theorem blk7 (c : Dev nD) (t : Fin cfg0.N) (k e : Fin 1024) : iblk m c 7 t (ix2 k e) = m ((c : Thread nD τ).loc main_arg6) (ix2 k e) := by
  blk_ext! [iblk, e7 t]
@[inherit_doc blk0]
theorem blk8 (c : Dev nD) (t : Fin cfg0.N) (k e : Fin 1024) : iblk m c 8 t (ix2 k e) = m ((c : Thread nD τ).loc main_arg7) (ix2 k e) := by
  blk_ext! [iblk, e8 t]

/-- The result after the launch. -/
theorem arr9 (c : Dev nD) : (dats (F := Ideal) m 0 c).arrAt 9 cfg0.N = goal m c := by
  refine (dats (F := Ideal) m 0 c).arrAt_eq_of_covers 9 (goal m c) (by decide +kernel) fun t hf y => ?_
  blk_simp
  rw [after0_9]; frame_out
  have y0 : (y 0).val < 1 := (y 0).isLt
  have y1 : (y 1).val < 1024 := (y 1).isLt
  have y2 : (y 2).val < 1024 := (y 2).isLt
  have ey : y = ix3 0 ⟨(y 1).val, y1⟩ ⟨(y 2).val, y2⟩ := by
    funext a; apply Fin.ext; match a with | 0 => show (y 0).val = 0; omega | 1 => rfl | 2 => rfl
  have eg : (win0_9.blk t).view.emb y = ix3 (pb t) (tok t ⟨(y 1).val, y1⟩) ⟨(y 2).val, y2⟩ := by
    unfold tok; blk_ext [e9 t]
  rw [eg]
  conv_lhs => rw [ey]
  rw [pay1_at]
  simp only [pay2_at, pay3_at, pay4_same, Cert.Kernel2Ideal.Hand.pay4_at, blk0, blk1, blk2, blk3, blk4, blk5, blk6, blk7, blk8]
  rfl

end Cert.Kernel4Ideal.Hand
end
-- ==== Proof.MidRefAt.lean ====
/- The reference's inner merge read at an element, over the extended reals: its operations are the last merge's up to the final norm. -/
module

public import proofs.«01_k».proof.Proof.MidSpec
public import proofs.«01_k».proof.Proof.MergeRefAt
public import proofs.«01_k».proof.Proof.Gen.Reference4Ideal.Read

@[expose] public section

noncomputable section

namespace Cert.Reference4Ideal.Hand

open Cert.Reference4Ideal Cert.Reference4Ideal.Gen Cert.Reference4Ideal.Read
open Idealize.ShloMosaic Idealize.ShloMosaic.TcCoe
open Cert.Merge

variable (yr ym : Tok .bf16) (u : Slabs) (x : Tok .f32) (g : PerBatch) (wr wm wo : Mat)

/-- The stream after the gated residual is the last merge's before its norm. -/
theorem v29_same : val_main_v29 (F := Ideal) yr ym u x g wr wm wo = Cert.Reference2Ideal.Read.val_main_v29 (F := Ideal) yr ym u x g wr wm wo := rfl

/-- The result. -/
theorem v29_eq : val_main_v29 (F := Ideal) yr ym u x g wr wm wo = mid yr ym u x g wr wm wo := by
  funext j
  obtain ⟨b, l, d, rfl⟩ : ∃ b l d, j = ix3 b l d := ⟨j 0, j 1, j 2, by
    funext a; apply Fin.ext; match a with | 0 => rfl | 1 => rfl | 2 => rfl⟩
  rw [v29_same]
  exact Cert.Reference2Ideal.Hand.v29_at yr ym u x g wr wm wo b l d

end Cert.Reference4Ideal.Hand

end
-- ==== Proof.MidEnds.lean ====
/- The inner merge's two runs' ends: the kernel's result and the reference's. -/
module

public import proofs.«01_k».proof.Proof.MidKernelArr
public import proofs.«01_k».proof.Proof.MidRefAt
public import proofs.«01_k».proof.Proof.Gen.Reference4Ideal.Run
public import Idealize.ShloMosaic.Lib.Quiescent

@[expose] public section

noncomputable section

open Idealize.ShloMosaic Idealize.ShloMosaic.TcCoe Idealize.SL.Sem
open Cert.Merge

namespace Cert.Kernel4Ideal.Hand

open Cert.Kernel4Ideal Cert.Kernel4Ideal.Gen

variable (m : (ℓ : Loc nD τ sig) → Buf (Elt Ideal) ℓ) (ρ : Dev nD → PrngReg)

/-- The kernel's run: its result is the inner merge of its arguments, which end unchanged. -/
theorem ends : θ_run defs (onTc (τ := τ) (main (F := Ideal))) ⟨m, fun _ => 0, ρ⟩ (fun r => ∀ c : Dev nD,
      r.2.mem ((c.tc : Thread nD τ).loc main_v4) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 9).trans (arr9 m c), h.2 c⟩) (θ_run_and (run_main m ρ) (unchanged m ρ))

end Cert.Kernel4Ideal.Hand

namespace Cert.Reference4Ideal.Hand

open Cert.Reference4Ideal Cert.Reference4Ideal.Gen Cert.Reference4Ideal.Read

variable (m : (ℓ : Loc nD τ sig) → Buf (Elt Ideal) ℓ) (ρ : Dev nD → PrngReg)

/-- The reference's run: its result is the inner merge of its arguments, which end unchanged. -/
theorem ends : θ_run defs (onTc (τ := τ) (main (F := Ideal))) ⟨m, fun _ => 0, ρ⟩ (fun r => ∀ c : Dev nD,
      r.2.mem ((c.tc : Thread nD τ).loc main_v29) = mid (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans ((val_main_v29_eq _ _ _ _ _ _ _ _).trans (v29_eq _ _ _ _ _ _ _ _)), (h c).2⟩)
    (Value.run m ρ)

/-- The reference's frame: its arguments end unchanged, and it has no semaphore. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => (h c).2, sem_eq_zero_of_no_sems rfl r.2⟩) (ends m ρ)

end Cert.Reference4Ideal.Hand

end
-- ==== Proof.ModSpec.lean ====
/- The layers' modulation, over the extended reals: what an element of its results is, from the arguments. -/
module

public import Idealize.ShloMosaic.PureOps.Ideal
public import Idealize.ShloMosaic.Lib.Pointwise.Tactic

@[expose] public section

noncomputable section

namespace Cert.Mod

open Idealize.ShloMosaic

/-- The SiLU. -/
def silu (z : EReal) : EReal := z * Ideal.logistic z

/-- A conditioning row's modulation: the row under SiLU, through a layer's weights and bias. -/
def modRow (c : Fin 1024 → EReal) (w : Fin 1024 → Fin 3072 → EReal) (b : Fin 3072 → EReal) (e : Fin 3072) : EReal :=
  (∑ k : Fin 1024, silu (c k) * w k e) + b e

/-- The batch's conditioning rows, the context's row, the layers' weights, the layers' biases. -/
abbrev Conds := FVec Ideal ⟨2, ![32, 1024]⟩ .f32
@[inherit_doc Conds] abbrev Cond := FVec Ideal ⟨1, ![1024]⟩ .f32
@[inherit_doc Conds] abbrev Wts := FVec Ideal ⟨3, ![2, 1024, 3072]⟩ .f32
@[inherit_doc Conds] abbrev Biases := FVec Ideal ⟨2, ![2, 3072]⟩ .f32

/-- A row's modulation by a layer. -/
def layerRow (c : Fin 1024 → EReal) (w : Wts) (b : Biases) (l : Fin 2) (e : Fin 3072) : EReal :=
  modRow c (fun k e => w (ix3 l k e)) (fun e => b (ix2 l e)) e

/-- Each layer's modulation of each batch element. -/
def modX (c : Conds) (w : Wts) (b : Biases) : FVec Ideal ⟨3, ![2, 32, 3072]⟩ .f32 :=
  fun j => layerRow (fun k => c (ix2 (j 1) k)) w b (j 0) (j 2)

/-- Each layer's modulation of the context. -/
def modC (c : Cond) (w : Wts) (b : Biases) : FVec Ideal ⟨2, ![2, 3072]⟩ .f32 :=
  fun j => layerRow (fun k => c (ix1 k)) w b (j 0) (j 1)

end Cert.Mod

end
-- ==== Proof.ModHost.lean ====
/- What the host prepares for the modulation kernel, read at an element, over the extended reals: the rows' array is zeros with the batch's rows set at the front
   and the context's row set behind them. -/
module

public import proofs.«01_k».proof.Proof.ModSpec
public import proofs.«01_k».proof.Proof.Gen.Kernel5Ideal.Frame
public import Idealize.ShloMosaic.Lib.Routing.OpsSet
public import Idealize.ShloMosaic.Lib.Pointwise.Tactic
public import Idealize.ShloMosaic.Lib.Pipeline.ValueKit
public import Idealize.ShloMosaic.Lib.Claim

@[expose] public section

set_option maxRecDepth 16384

noncomputable section

namespace Cert.Kernel5Ideal.Hand

open Cert.Kernel5Ideal Cert.Kernel5Ideal.Gen
open Idealize.ShloMosaic Idealize.ShloMosaic.TcCoe
open Cert.Mod

variable (m : (ℓ : Loc nD τ sig) → Buf (Elt Ideal) ℓ)

/-- The two settings' dimension numbers: the batch's rows from the row an index word names, and one row at the row it names. -/
abbrev many := scatter_S40x1024_S1_S32x1024_01_n_0_0
@[inherit_doc many] abbrev one := scatter_S40x1024_S1_S1024_0_0_0_0

/-- An update row of the first setting lands that many rows behind the index word's, column by column. -/
theorem many_lands (idx : IVec S1 32) (z : ℤ) (h : ∀ i, (idx i).toInt = z) (n : Fin 32) (k : Fin 1024) (r : Fin 40) (d : Fin 1024) :
    many.resultIdx? (ix2 n k) idx = some (ix2 r d) ↔ z + n.val = r.val ∧ k.val = d.val := by
  have w0 : many.window (ix2 n k) 0 = n.val := rfl
  have w1 : many.window (ix2 n k) 1 = k.val := rfl
  have s0 : many.start (ix2 n k) idx 0 = z := by
    unfold ScatterDims.start; rw [dif_pos (by decide)]; exact h _
  have s1 : many.start (ix2 n k) idx 1 = 0 := by
    unfold ScatterDims.start; rw [dif_neg (by decide)]
  refine (Routing.resultIdx?_ix2 many _ idx r d).trans ?_
  rw [w0, w1, s0, s1]
  omega

/-- The second setting's update lands at the index word's row, column by column. -/
theorem one_lands (idx : IVec S1 32) (z : ℤ) (h : ∀ i, (idx i).toInt = z) (k : Fin 1024) (r : Fin 40) (d : Fin 1024) :
    one.resultIdx? (ix1 k) idx = some (ix2 r d) ↔ z = r.val ∧ k.val = d.val := by
  have w0 : one.window (ix1 k) 0 = 0 := rfl
  have w1 : one.window (ix1 k) 1 = k.val := rfl
  have s0 : one.start (ix1 k) idx 0 = z := by
    unfold ScatterDims.start; rw [dif_pos (by decide)]; exact h _
  have s1 : one.start (ix1 k) idx 1 = 0 := by
    unfold ScatterDims.start; rw [dif_neg (by decide)]
  refine (Routing.resultIdx?_ix2 one _ idx r d).trans ?_
  rw [w0, w1, s0, s1]
  omega

/-- The rows' array, as the host computes it. -/
theorem V4 (c : Dev nD) : V m c main_v4 = Host.scatter one (fun _ b => b)
    (Host.scatter many (fun _ b => b) (broadcastInDim S40x1024 ![] bcast_S_S40x1024 (constant (F := Ideal) S_ .f32 0x00000000#32))
      (broadcastInDim S1 ![] bcast_S_S1 (constantI S_ 32 0#32)) (m ((c : Thread nD τ).loc main_arg0)))
    (broadcastInDim S1 ![] bcast_S_S1 (constantI S_ 32 32#32)) (m ((c : Thread nD τ).loc main_arg1)) := by
  unfold V V0 hostOps0
  simp only [List.flatten_cons, List.flatten_nil, List.append_nil]
  after_results_simp

/-- Its first 32 rows are the batch's. -/
theorem V4_batch (c : Dev nD) (n : Fin 32) (k : Fin 1024) :
    V m c main_v4 (ix2 ⟨n.val, by omega⟩ k) = m ((c : Thread nD τ).loc main_arg0) (ix2 n k) := by
  rw [V4]
  refine (Routing.scatter_set_miss one _ _ _ _ fun j hj => ?_).trans
    (Routing.scatter_set_hit many _ _ _ _ _ (fun j hj => ?_) (ix2 n k) ((many_lands _ 0 (fun _ => rfl) n k _ _).2 ⟨by simp, rfl⟩))
  · obtain ⟨k', rfl⟩ : ∃ k', j = ix1 k' := ⟨j 0, by funext a; apply Fin.ext; match a with | 0 => rfl⟩
    have := ((one_lands _ 32 (fun _ => rfl) k' _ _).1 hj).1
    simp only at this
    omega
  · obtain ⟨n', k', rfl⟩ : ∃ n' k', j = ix2 n' k' := ⟨j 0, j 1, by funext a; apply Fin.ext; match a with | 0 => rfl | 1 => rfl⟩
    obtain ⟨h0, h1⟩ := (many_lands _ 0 (fun _ => rfl) n' k' _ _).1 hj
    simp only at h0
    rw [show n' = n from Fin.ext (by omega), show k' = k from Fin.ext h1]

/-- Row 32 is the context's. -/
theorem V4_ctx (c : Dev nD) (k : Fin 1024) : V m c main_v4 (ix2 32 k) = m ((c : Thread nD τ).loc main_arg1) (ix1 k) := by
  rw [V4]
  refine Routing.scatter_set_hit one _ _ _ _ _ (fun j hj => ?_) (ix1 k) ((one_lands _ 32 (fun _ => rfl) k _ _).2 ⟨rfl, rfl⟩)
  obtain ⟨k', rfl⟩ : ∃ k', j = ix1 k' := ⟨j 0, by funext a; apply Fin.ext; match a with | 0 => rfl⟩
  rw [show k' = k from Fin.ext ((one_lands _ 32 (fun _ => rfl) k' _ _).1 hj).2]

end Cert.Kernel5Ideal.Hand
end
-- ==== Proof.ModKernelArr.lean ====
/- The modulation kernel's array after the launch, and the program's two results cut from it: the modulation of the arguments as launched. -/
module

public import proofs.«01_k».proof.Proof.ModHost
public import Idealize.ShloMosaic.Lib.Pointwise.Contract
public import Idealize.ShloMosaic.Lib.Pointwise.Reduce
public import Idealize.ShloMosaic.Lib.Pointwise.Reshape
public import Idealize.ShloMosaic.Lib.Pointwise.Select

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem
open Cert.Mod

variable (m : (ℓ : Loc nD τ sig) → Buf (Elt Ideal) ℓ)

/-- The results of the arguments as launched. -/
def goalX (c : Dev nD) : FVec Ideal S2x32x3072 .f32 :=
  modX (m ((c : Thread nD τ).loc main_arg0)) (m ((c : Thread nD τ).loc main_arg2)) (m ((c : Thread nD τ).loc main_arg3))
@[inherit_doc goalX] def goalC (c : Dev nD) : FVec Ideal S2x3072 .f32 :=
  modC (m ((c : Thread nD τ).loc main_arg1)) (m ((c : Thread nD τ).loc main_arg2)) (m ((c : Thread nD τ).loc main_arg3))

/-- The array the launch writes: the modulation of each of the host's 40 rows by each layer. -/
def rows (c : Dev nD) : FVec Ideal S2x40x3072 .f32 := fun j =>
  layerRow (fun k => V m c main_v4 (ix2 (j 1) k)) (m ((c : Thread nD τ).loc main_arg2)) (m ((c : Thread nD τ).loc main_arg3)) (j 0) (j 2)

/-- The body's stored block at an element. -/
theorem pay1_at (c : Vec Ideal S40x1024 .f32) (w : Vec Ideal S1x1024x3072 .bf16) (b : Vec Ideal S1x1x3072 .f32) (r : Fin 40) (e : Fin 3072) :
    k0_pay1 (F := Ideal) c w b (ix3 0 r e) = modRow (fun k => c (ix2 r k)) (fun k e => w (ix3 0 k e)) (fun e => b (ix3 0 0 e)) e := by
  unfold k0_pay1
  pointwise
  rfl

/-- The point's layer. -/
def ly (t : Fin cfg0.N) : Fin 2 := grid0.coords t 0

/-- Where each window's block is at a point. -/
theorem e0 : ∀ t : Fin cfg0.N, win0_0.index t = ![0, 0] := (by decide +kernel : ∀ t : Fin grid0.N, _)
@[inherit_doc e0] theorem e1 : ∀ t : Fin cfg0.N, win0_1.index t = ![(ly t).val, 0, 0] := (by decide +kernel : ∀ t : Fin grid0.N, _)
@[inherit_doc e0] theorem e2 : ∀ t : Fin cfg0.N, win0_2.index t = ![(ly t).val, 0, 0] := (by decide +kernel : ∀ t : Fin grid0.N, _)
@[inherit_doc e0] theorem e3 : ∀ t : Fin cfg0.N, win0_3.index t = ![(ly t).val, 0, 0] := (by decide +kernel : ∀ t : Fin grid0.N, _)

/-- The point's blocks hold the host's rows whole and its layer's weights and bias. -/
theorem blk0 (c : Dev nD) (t : Fin cfg0.N) (r : Fin 40) (k : Fin 1024) : iblk m c 0 t (ix2 r k) = V m c main_v4 (ix2 r k) := by
  blk_simp [iblk]; refine congrArg (V m c main_v4) ?_; blk_ext [e0 t]
@[inherit_doc blk0]
theorem blk1 (c : Dev nD) (t : Fin cfg0.N) (k : Fin 1024) (e : Fin 3072) : iblk m c 1 t (ix3 0 k e) = m ((c : Thread nD τ).loc main_arg2) (ix3 (ly t) k e) := by
  blk_ext! [iblk, e1 t]
/-- The biases' array, as the host reshapes it. -/
theorem V6 (c : Dev nD) (l : Fin 2) (e : Fin 3072) : V m c main_v6 (ix3 l 0 e) = m ((c : Thread nD τ).loc main_arg3) (ix2 l e) := by
  refine Eq.trans (b := shapeCast S2x1x3072 (m ((c : Thread nD τ).loc main_arg3)) shapeCasts_S2x3072_S2x1x3072 (ix3 l 0 e)) ?_ (by pointwise)
  rw [show V m c main_v6 = shapeCast S2x1x3072 (m ((c : Thread nD τ).loc main_arg3)) shapeCasts_S2x3072_S2x1x3072 by
    unfold V V0 hostOps0
    simp only [List.flatten_cons, List.flatten_nil, List.append_nil]
    after_results_simp
    rfl]
@[inherit_doc blk0]
theorem blk2 (c : Dev nD) (t : Fin cfg0.N) (e : Fin 3072) : iblk m c 2 t (ix3 0 0 e) = m ((c : Thread nD τ).loc main_arg3) (ix2 (ly t) e) := by
  refine Eq.trans ?_ (V6 m c (ly t) e)
  blk_simp [iblk]; refine congrArg (V m c main_v6) ?_; blk_ext [e2 t]

/-- The array after the launch. -/
theorem arr3 (c : Dev nD) : (dats (F := Ideal) m 0 c).arrAt 3 cfg0.N = rows m c := by
  refine (dats (F := Ideal) m 0 c).arrAt_eq_of_covers 3 (rows m c) (by decide +kernel) fun t hf y => ?_
  blk_simp
  rw [after0_3]; frame_out
  have y0 : (y 0).val < 1 := (y 0).isLt
  have y1 : (y 1).val < 40 := (y 1).isLt
  have y2 : (y 2).val < 3072 := (y 2).isLt
  have ey : y = ix3 0 ⟨(y 1).val, y1⟩ ⟨(y 2).val, y2⟩ := by
    funext a; apply Fin.ext; match a with | 0 => show (y 0).val = 0; omega | 1 => rfl | 2 => rfl
  have eg : (win0_3.blk t).view.emb y = ix3 (ly t) ⟨(y 1).val, y1⟩ ⟨(y 2).val, y2⟩ := by
    blk_ext [e3 t]
  rw [eg]
  conv_lhs => rw [ey]
  rw [pay1_at]
  simp only [blk0, blk1, blk2]
  rfl

/-- An array's first 32 rows of each layer, and its row 32. -/
def front (z : FVec Ideal S2x40x3072 .f32) : FVec Ideal S2x32x3072 .f32 :=
  extractStridedSlice S2x32x3072 ![0, 0, 0] z slices_S2x40x3072_S2x32x3072_0_0_0
@[inherit_doc front] def behind (z : FVec Ideal S2x40x3072 .f32) : FVec Ideal S2x3072 .f32 :=
  shapeCast S2x3072 (extractStridedSlice S2x1x3072 ![0, 32, 0] z slices_S2x40x3072_S2x1x3072_0_32_0) shapeCasts_S2x1x3072_S2x3072
@[inherit_doc front]
theorem front_at (z : FVec Ideal S2x40x3072 .f32) (l : Fin 2) (n : Fin 32) (e : Fin 3072) : front z (ix3 l n e) = z (ix3 l ⟨n.val, by omega⟩ e) := by
  unfold front
  pointwise
@[inherit_doc front]
theorem behind_at (z : FVec Ideal S2x40x3072 .f32) (l : Fin 2) (e : Fin 3072) : behind z (ix2 l e) = z (ix3 l 32 e) := by
  unfold behind
  pointwise

/-- The rows cut from the array are the results. -/
theorem front_rows (c : Dev nD) : front (rows m c) = goalX m c := by
  funext j
  obtain ⟨l, n, e, rfl⟩ : ∃ l n e, j = ix3 l n e := ⟨j 0, j 1, j 2, by
    funext a; apply Fin.ext; match a with | 0 => rfl | 1 => rfl | 2 => rfl⟩
  rw [front_at]
  exact congrArg (fun f => layerRow f _ _ l e) (funext fun k => V4_batch m c n k)
@[inherit_doc front_rows]
theorem behind_rows (c : Dev nD) : behind (rows m c) = goalC m c := by
  funext j
  obtain ⟨l, e, rfl⟩ : ∃ l e, j = ix2 l e := ⟨j 0, j 1, by
    funext a; apply Fin.ext; match a with | 0 => rfl | 1 => rfl⟩
  rw [behind_at]
  exact congrArg (fun f => layerRow f _ _ l e) (funext fun k => V4_ctx m c k)

/-- The array as the host operations behind the launch find it. -/
theorem found (c : Dev nD) : Pipeline.withArrays spec0 c (V0 m c) (fun w => (dats (F := Ideal) m 0 c).arrAt w cfg0.N) (Proc.devRef .tc main_v7) = rows m c :=
  (Pipeline.withArrays_arr spec0 (by decide) c (V0 m c) (fun w => (dats (F := Ideal) m 0 c).arrAt w cfg0.N) 3).trans (arr3 m c)

/-- The two results after the run. -/
theorem tail8 (c : Dev nD) : Pipeline.afterTail₀ cfgs (dats (F := Ideal) m) 0 (V0 m) [hostOps1] c main_v8 = goalX m c := by
  refine Eq.trans (b := front (Pipeline.withArrays spec0 c (V0 m c) (fun w => (dats (F := Ideal) m 0 c).arrAt w cfg0.N) (Proc.devRef .tc main_v7))) ?_
    ((congrArg front (found m c)).trans (front_rows m c))
  rfl
@[inherit_doc tail8]
theorem tail10 (c : Dev nD) : Pipeline.afterTail₀ cfgs (dats (F := Ideal) m) 0 (V0 m) [hostOps1] c main_v10 = goalC m c := by
  refine Eq.trans (b := behind (Pipeline.withArrays spec0 c (V0 m c) (fun w => (dats (F := Ideal) m 0 c).arrAt w cfg0.N) (Proc.devRef .tc main_v7))) ?_
    ((congrArg behind (found m c)).trans (behind_rows m c))
  rfl

end Cert.Kernel5Ideal.Hand
end
-- ==== Proof.ModRefAt.lean ====
/- The reference's modulation read at an element, over the extended reals. -/
module

public import proofs.«01_k».proof.Proof.ModSpec
public import proofs.«01_k».proof.Proof.Gen.Reference5Ideal.Read
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select

@[expose] public section

set_option maxRecDepth 16384

noncomputable section

namespace Cert.Reference5Ideal.Hand

open Cert.Reference5Ideal Cert.Reference5Ideal.Gen Cert.Reference5Ideal.Read
open Idealize.ShloMosaic Idealize.ShloMosaic.TcCoe
open Cert.Mod

variable (cs : Conds) (cc : Cond) (w : Wts) (b : Biases) (n : Fin 32) (k : Fin 1024) (e : Fin 3072)

/-- The conditioning rows under SiLU: the batch's and the context's, which both layers compute alike. -/
theorem v0_at : val_main_v0 (F := Ideal) cs (ix2 n k) = silu (cs (ix2 n k)) := by
  unfold val_main_v0 val_main_call0_v5 val_main_call0_v4 val_main_call0_v3 val_main_call0_v2 val_main_call0_v1 val_main_call0_v0 val_main_call0_cst val_main_call0_cst_0
  pointwise
  rfl
@[inherit_doc v0_at] theorem v16_at : val_main_v16 (F := Ideal) cs (ix2 n k) = silu (cs (ix2 n k)) := v0_at cs n k
@[inherit_doc v0_at]
theorem v9_at : val_main_v9 (F := Ideal) cc (ix1 k) = silu (cc (ix1 k)) := by
  unfold val_main_v9 val_main_call1_v5 val_main_call1_v4 val_main_call1_v3 val_main_call1_v2 val_main_call1_v1 val_main_call1_v0 val_main_call1_cst val_main_call1_cst_0
  pointwise
  rfl
@[inherit_doc v0_at] theorem v25_at : val_main_v25 (F := Ideal) cc (ix1 k) = silu (cc (ix1 k)) := v9_at cc k

/-- The batch's modulation by each layer. -/
theorem v8_at : val_main_v8 (F := Ideal) cs w b (ix2 n e) = layerRow (fun k => cs (ix2 n k)) w b 0 e := by
  unfold val_main_v8 val_main_v7 val_main_v6 val_main_v5 val_main_v4 val_main_v3 val_main_v2 val_main_v1
  pointwise
  simp only [v0_at]
  rfl
@[inherit_doc v8_at]
theorem v24_at : val_main_v24 (F := Ideal) cs w b (ix2 n e) = layerRow (fun k => cs (ix2 n k)) w b 1 e := by
  unfold val_main_v24 val_main_v23 val_main_v22 val_main_v21 val_main_v20 val_main_v19 val_main_v18 val_main_v17
  pointwise
  simp only [v16_at]
  rfl
/-- The context's modulation by each layer. -/
theorem v15_at : val_main_v15 (F := Ideal) cc w b (ix1 e) = layerRow (fun k => cc (ix1 k)) w b 0 e := by
  unfold val_main_v15 val_main_v14 val_main_v13 val_main_v12 val_main_v11 val_main_v10
  pointwise
  simp only [v9_at]
  rfl
@[inherit_doc v15_at]
theorem v31_at : val_main_v31 (F := Ideal) cc w b (ix1 e) = layerRow (fun k => cc (ix1 k)) w b 1 e := by
  unfold val_main_v31 val_main_v30 val_main_v29 val_main_v28 val_main_v27 val_main_v26
  pointwise
  simp only [v25_at]
  rfl

/-- The first result: the two layers' rows stacked. -/
theorem v34_eq : val_main_v34 (F := Ideal) cs w b = modX cs w b := by
  funext j
  obtain ⟨l, n, e, rfl⟩ : ∃ l n e, j = ix3 l n e := ⟨j 0, j 1, j 2, by
    funext a; apply Fin.ext; match a with | 0 => rfl | 1 => rfl | 2 => rfl⟩
  unfold val_main_v34 val_main_v33 val_main_v32
  match l with
  | 0 => pointwise; exact v8_at cs w b n e
  | 1 => pointwise; exact v24_at cs w b n e
/-- The second result. -/
theorem v37_eq : val_main_v37 (F := Ideal) cc w b = modC cc w b := by
  funext j
  obtain ⟨l, e, rfl⟩ : ∃ l e, j = ix2 l e := ⟨j 0, j 1, by
    funext a; apply Fin.ext; match a with | 0 => rfl | 1 => rfl⟩
  unfold val_main_v37 val_main_v36 val_main_v35
  match l with
  | 0 => pointwise; exact v15_at cc w b e
  | 1 => pointwise; exact v31_at cc w b e

end Cert.Reference5Ideal.Hand

end
-- ==== Proof.ModEnds.lean ====
/- The modulation's two runs' ends: the kernel's two results and the reference's. -/
module

public import proofs.«01_k».proof.Proof.ModKernelArr
public import proofs.«01_k».proof.Proof.ModRefAt
public import proofs.«01_k».proof.Proof.Gen.Reference5Ideal.Run
public import Idealize.ShloMosaic.Lib.Quiescent

@[expose] public section

noncomputable section

open Idealize.ShloMosaic Idealize.ShloMosaic.TcCoe Idealize.SL.Sem
open Cert.Mod

namespace Cert.Kernel5Ideal.Hand

open Cert.Kernel5Ideal Cert.Kernel5Ideal.Gen

variable (m : (ℓ : Loc nD τ sig) → Buf (Elt Ideal) ℓ) (ρ : Dev nD → PrngReg)

/-- The kernel's run: its two results are the modulation of its arguments, which end unchanged. -/
theorem ends : θ_run defs (onTc (τ := τ) (main (F := Ideal))) ⟨m, fun _ => 0, ρ⟩ (fun r => ∀ c : Dev nD,
      r.2.mem ((c.tc : Thread nD τ).loc main_v8) = goalX m c
      ∧ r.2.mem ((c.tc : Thread nD τ).loc main_v10) = goalC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v8 (Pipeline.mem_restRefs_of main_v8 (by decide) (by decide))).trans (tail8 m c),
    ((h.1 c).2 main_v10 (Pipeline.mem_restRefs_of main_v10 (by decide) (by decide))).trans (tail10 m c), h.2 c⟩)
    (θ_run_and (run_main m ρ) (unchanged m ρ))

end Cert.Kernel5Ideal.Hand

namespace Cert.Reference5Ideal.Hand

open Cert.Reference5Ideal Cert.Reference5Ideal.Gen Cert.Reference5Ideal.Read

variable (m : (ℓ : Loc nD τ sig) → Buf (Elt Ideal) ℓ) (ρ : Dev nD → PrngReg)

/-- The reference's run: its two results are the modulation of its arguments, which end unchanged. -/
theorem ends : θ_run defs (onTc (τ := τ) (main (F := Ideal))) ⟨m, fun _ => 0, ρ⟩ (fun r => ∀ c : Dev nD,
      r.2.mem ((c.tc : Thread nD τ).loc main_v34) = modX (m ((c.tc : Thread nD τ).loc main_arg0))
        (m ((c.tc : Thread nD τ).loc main_arg2)) (m ((c.tc : Thread nD τ).loc main_arg3))
      ∧ r.2.mem ((c.tc : Thread nD τ).loc main_v37) = modC (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans ((val_main_v34_eq _ _ _).trans (v34_eq _ _ _)),
    (h c).2.1.trans ((val_main_v37_eq _ _ _).trans (v37_eq _ _ _)), (h c).2.2⟩) (Value.run m ρ)

/-- The reference's frame: its arguments end unchanged, and it has no semaphore. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2, sem_eq_zero_of_no_sems rfl r.2⟩) (ends m ρ)

end Cert.Reference5Ideal.Hand

end
-- ==== Proof.ProjSpec.lean ====
/- The input projection, over the extended reals: what an element of its results is, from the arguments and the rotation's
   angle tables. -/
module

public import proofs.«01_k».proof.Proof.MergeSpec

@[expose] public section

noncomputable section

namespace Cert.Proj

open Idealize.ShloMosaic

/-- A token's row under the input norm and its batch element's modulation. -/
def row (x nw sc sh : Fin 1024 → EReal) (d : Fin 1024) : EReal :=
  Cert.Merge.normed x nw d * (1 + sc d) + sh d

/-- A row's product with one column of the weights, plus the column's bias. -/
def lin (r w : Fin 1024 → EReal) (b : EReal) : EReal := (∑ k : Fin 1024, r k * w k) + b

/-- The column of the weights which slab `s` has at channel `e`: the gates' 32 columns lie before the last two slabs. -/
def col (s : Fin 11) (e : Fin 1024) : Fin 11296 :=
  if h : s.val < 9 then ⟨1024 * s.val + e.val, by omega⟩ else ⟨1024 * s.val + 32 + e.val, by omega⟩

/-- The gates' columns. -/
def gcol (e : Fin 32) : Fin 11296 := ⟨9216 + e.val, by omega⟩

/-- A row turned, head by head: each head's two halves are the two coordinates of 64 planes. -/
def turn (v : Fin 1024 → EReal) (cs sn : Fin 64 → EReal) (e : Fin 1024) : EReal :=
  if h : e.val % 128 < 64 then
    v e * cs ⟨e.val % 128, h⟩ - v ⟨e.val + 64, by omega⟩ * sn ⟨e.val % 128, h⟩
  else
    v ⟨e.val - 64, by omega⟩ * sn ⟨e.val % 128 - 64, by omega⟩ + v e * cs ⟨e.val % 128 - 64, by omega⟩

/-- A slab's row: the queries are turned and scaled, the keys turned, the others left as projected. -/
def slab (s : Fin 11) (v : Fin 1024 → EReal) (cs sn : Fin 64 → EReal) (e : Fin 1024) : EReal :=
  if s.val = 0 then turn v cs sn e * Ideal.ofBits .f32 0x3DB504F3#32 else if s.val = 1 then turn v cs sn e else v e

/-- Token rows, a weight row, a row per batch element, the weights, their bias, an angle table. -/
abbrev Tok := FVec Ideal ⟨3, ![32, 2048, 1024]⟩ .f32
@[inherit_doc Tok] abbrev Row := FVec Ideal ⟨1, ![1024]⟩ .f32
@[inherit_doc Tok] abbrev PerBatch := FVec Ideal ⟨2, ![32, 1024]⟩ .f32
@[inherit_doc Tok] abbrev Wgt := FVec Ideal ⟨2, ![1024, 11296]⟩ .f32
@[inherit_doc Tok] abbrev Bias := FVec Ideal ⟨1, ![11296]⟩ .f32
@[inherit_doc Tok] abbrev Tab := FVec Ideal ⟨2, ![2048, 64]⟩ .f32

variable (x : Tok) (nw : Row) (sc sh : PerBatch) (w : Wgt) (b : Bias) (cs sn : Tab)

/-- The row of a token. -/
def rowAt (n : Fin 32) (l : Fin 2048) : Fin 1024 → EReal :=
  row (fun k => x (ix3 n l k)) (fun k => nw (ix1 k)) (fun k => sc (ix2 n k)) (fun k => sh (ix2 n k))

/-- The projection of a token's row at a column. -/
def linAt (n : Fin 32) (l : Fin 2048) (j : Fin 11296) : EReal :=
  lin (rowAt x nw sc sh n l) (fun k => w (ix2 k j)) (b (ix1 j))

/-- The slabs' element at a slab, a batch element, a token and a channel. -/
def slabAt (s : Fin 11) (n : Fin 32) (l : Fin 2048) (e : Fin 1024) : EReal :=
  slab s (fun e => linAt x nw sc sh w b n l (col s e)) (fun i => cs (ix2 l i)) (fun i => sn (ix2 l i)) e

/-- The slabs, -/
def slabs : FVec Ideal ⟨4, ![11, 32, 2048, 1024]⟩ .bf16 := fun j => slabAt x nw sc sh w b cs sn (j 0) (j 1) (j 2) (j 3)
/-- and the gates. -/
def gates : FVec Ideal ⟨3, ![32, 2048, 32]⟩ .f32 := fun j => linAt x nw sc sh w b (j 0) (j 1) (gcol (j 2))

end Cert.Proj

end
-- ==== Proof.ProjBody.lean ====
/- One run of the input-projection kernel's body over abstract staging buffers, at each of its three kinds of step. -/
module

public import proofs.«01_k».proof.Proof.Gen.Kernel3Ideal.Skeleton
public import proofs.«01_k».proof.Proof.Gen.Kernel3Ideal.Frame

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kinds of step: a rotated and scaled slab (which also prepares the rows), a rotated one, a plain one. -/
abbrev Kind := Fin 3

theorem inbW (g : ℕ) : ∀ a, (![0, 256 * (g % 4)] : Fin 2 → ℕ) a + (![1024, 256] : Fin 2 → ℕ) a ≤ (![1024, 1024] : Fin 2 → ℕ) a := by
  intro a; have := Nat.mod_lt g (by decide : 0 < 4)
  match a with
  | 0 => exact Nat.le_refl 1024
  | 1 => show 256 * (g % 4) + 256 ≤ 1024; omega
theorem inbB (g : ℕ) : ∀ a, (![0, 256 * (g % 4)] : Fin 2 → ℕ) a + (![1, 256] : Fin 2 → ℕ) a ≤ (![1, 1024] : Fin 2 → ℕ) a := by
  intro a; have := Nat.mod_lt g (by decide : 0 < 4)
  match a with
  | 0 => exact Nat.le_refl 1
  | 1 => show 256 * (g % 4) + 256 ≤ 1024; omega
theorem inbU (n : ℕ) : ∀ a, (![0, 0, 0, 128 * (n % 8)] : Fin 4 → ℕ) a + (![1, 1, 2048, 128] : Fin 4 → ℕ) a ≤ (![1, 1, 2048, 1024] : Fin 4 → ℕ) a := by
  intro a; have := Nat.mod_lt n (by decide : 0 < 8)
  match a with
  | 0 => exact Nat.le_refl 1
  | 1 => exact Nat.le_refl 1
  | 2 => exact Nat.le_refl 2048
  | 3 => show 128 * (n % 8) + 128 ≤ 1024; omega

/-- Columns `256 g …` of a weight slab, as loaded; -/
def rdW {arg : Memref sig .tc .vmem S1024x1024 .bf16} (h : arg.IsWhole) (x : Vec F S1024x1024 .bf16) (g : ℕ) : Vec F S1024x256 .bf16 :=
  arg.view.readAt (Elt F) (Rect.unit (s := S1024x1024) ![0, 256 * (g % 4)] S1024x256.size (inbW g)).toLoadRect (h.unread x)
/-- of its bias; -/
def rdB {arg : Memref sig .tc .vmem S1x1024 .f32} (h : arg.IsWhole) (x : Vec F S1x1024 .f32) (g : ℕ) : Vec F S1x256 .f32 :=
  arg.view.readAt (Elt F) (Rect.unit (s := S1x1024) ![0, 256 * (g % 4)] S1x256.size (inbB g)).toLoadRect (h.unread x)
/-- a rotation table, whole; -/
def rdT {arg : Memref sig .tc .vmem S2048x128 .f32} (h : arg.IsWhole) (x : Vec F S2048x128 .f32) : Vec F S2048x128 .f32 :=
  arg.view.readAt (Elt F) (Rect.unit (s := S2048x128) ![0, 0] S2048x128.size inb_S2048x128_S2048x128_0_0).toLoadRect (h.unread x)
/-- the kept rows, whole. -/
def rdH {arg : Memref sig .tc .vmem S2048x1024 .bf16} (h : arg.IsWhole) (x : Vec F S2048x1024 .bf16) : Vec F S2048x1024 .bf16 :=
  arg.view.readAt (Elt F) (Rect.unit (s := S2048x1024) ![0, 0] S2048x1024.size inb_S2048x1024_S2048x1024_0_0).toLoadRect (h.unread x)
/-- The operands of the rows and of the gate, whole. -/
def rdX {arg : Memref sig .tc .vmem S1x2048x1024 .f32} (h : arg.IsWhole) (x : Vec F S1x2048x1024 .f32) : Vec F S1x2048x1024 .f32 :=
  arg.view.readAt (Elt F) (Rect.unit (s := S1x2048x1024) ![0, 0, 0] S1x2048x1024.size inb_S1x2048x1024_S1x2048x1024_0_0_0).toLoadRect (h.unread x)
def rdN {arg : Memref sig .tc .vmem S1x1024 .f32} (h : arg.IsWhole) (x : Vec F S1x1024 .f32) : Vec F S1x1024 .f32 :=
  arg.view.readAt (Elt F) (Rect.unit (s := S1x1024) ![0, 0] S1x1024.size inb_S1x1024_S1x1024_0_0).toLoadRect (h.unread x)
def rdM {arg : Memref sig .tc .vmem S1x1x1024 .f32} (h : arg.IsWhole) (x : Vec F S1x1x1024 .f32) : Vec F S1x1x1024 .f32 :=
  arg.view.readAt (Elt F) (Rect.unit (s := S1x1x1024) ![0, 0, 0] S1x1x1024.size inb_S1x1x1024_S1x1x1024_0_0_0).toLoadRect (h.unread x)
def rdG {arg : Memref sig .tc .vmem S1024x128 .bf16} (h : arg.IsWhole) (x : Vec F S1024x128 .bf16) : Vec F S1024x128 .bf16 :=
  arg.view.readAt (Elt F) (Rect.unit (s := S1024x128) ![0, 0] S1024x128.size inb_S1024x128_S1024x128_0_0).toLoadRect (h.unread x)
def rdC {arg : Memref sig .tc .vmem S1x128 .f32} (h : arg.IsWhole) (x : Vec F S1x128 .f32) : Vec F S1x128 .f32 :=
  arg.view.readAt (Elt F) (Rect.unit (s := S1x128) ![0, 0] S1x128.size inb_S1x128_S1x128_0_0).toLoadRect (h.unread x)

/-- A section turned by its rotation tables. -/
def rot (cs sn s : FVec F S2048x128 .f32) : FVec F S2048x128 .f32 :=
  addf (mulf s (shapeCast S2048x128 cs shapeCasts_S2048x128_S2048x128))
    (mulf (dynamicRotate 1 64#32 none s rotates_S2048x128_d1) (shapeCast S2048x128 sn shapeCasts_S2048x128_S2048x128))
/-- A section as stored. -/
def put (s : FVec F S2048x128 .f32) : FVec F S1x1x2048x128 .bf16 :=
  shapeCast S1x1x2048x128 (truncf .bf16 s bitsLt_bf16_f32) shapeCasts_S2048x128_S1x1x2048x128

/-- What a step of kind `k` stores of a section. -/
def sec (k : Kind) (cs sn s : FVec F S2048x128 .f32) : FVec F S1x1x2048x128 .bf16 :=
  match k with
  | 0 => put (mulf (rot cs sn s) (broadcast S2048x128 (Scalar.ofBits .f32 0x3DB504F3#32)))
  | 1 => put (rot cs sn s)
  | 2 => put s

/-- The first half of a group of 256 columns, -/
def lo (v : FVec F S2048x256 .f32) : FVec F S2048x128 .f32 := extractStridedSlice S2048x128 ![0, 0] v slices_S2048x256_o0_0_S2048x128
/-- and the second. -/
def hi (v : FVec F S2048x256 .f32) : FVec F S2048x128 .f32 := extractStridedSlice S2048x128 ![0, 128] v slices_S2048x256_o0_128_S2048x128

/-- The piece at section `n` of a slab. -/
abbrev pcU (n : ℕ) (v : FVec F S1x1x2048x128 .bf16) : View.Piece (Elt F) S1x1x2048x1024 .bf16 :=
  ⟨Rect.unit (s := S1x1x2048x1024) ![0, 0, 0, 128 * (n % 8)] S1x1x2048x128.size (inbU n), v⟩

/-- The pieces a step of kind `k` leaves: eight sections of the rows' product with a slab, plus its bias. -/
def pieces (k : Kind) (h : FVec F S2048x1024 .bf16) (W : ℕ → Vec F S1024x256 .bf16) (b : ℕ → Vec F S1x256 .f32) (cs sn : FVec F S2048x128 .f32) :
    List (View.Piece (Elt F) S1x1x2048x1024 .bf16) :=
  [pcU 7 (sec k cs sn (hi (k0_pay10 h (W 3) (b 3)))), pcU 6 (sec k cs sn (lo (k0_pay10 h (W 3) (b 3)))),
   pcU 5 (sec k cs sn (hi (k0_pay10 h (W 2) (b 2)))), pcU 4 (sec k cs sn (lo (k0_pay10 h (W 2) (b 2)))),
   pcU 3 (sec k cs sn (hi (k0_pay10 h (W 1) (b 1)))), pcU 2 (sec k cs sn (lo (k0_pay10 h (W 1) (b 1)))),
   pcU 1 (sec k cs sn (hi (k0_pay10 h (W 0) (b 0)))), pcU 0 (sec k cs sn (lo (k0_pay10 h (W 0) (b 0))))]

/-- A store of the whole scratch, and of the whole gate buffer. -/
abbrev pcH (v : FVec F S2048x1024 .bf16) : View.Piece (Elt F) S2048x1024 .bf16 :=
  ⟨Rect.unit (s := S2048x1024) ![0, 0] S2048x1024.size inb_S2048x1024_S2048x1024_0_0, v⟩
abbrev pcG (v : FVec F S1x2048x128 .f32) : View.Piece (Elt F) S1x2048x128 .f32 :=
  ⟨Rect.unit (s := S1x2048x128) ![0, 0, 0] S1x2048x128.size inb_S1x2048x128_S1x2048x128_0_0_0, v⟩

/-- Which conditions hold at a step of kind `k`. -/
def At (i : grid0.Coords) (k : Kind) : Prop :=
  (k0_cond1 i = 1#1 ↔ k = 0) ∧ (k0_cond2 i = 1#1 ↔ k = 0) ∧ (k0_cond3 i = 1#1 ↔ k = 1) ∧ (k0_cond4 i = 1#1 ↔ k = 2)

set_option maxHeartbeats 4000000 in
/-- A step of kind 0: the rows, the gate product and the first slab, of the operands. -/
theorem run0 (c : Dev nD) (i : grid0.Coords) {arg3 : Memref sig .tc .vmem S1x2048x1024 .f32} (harg3 : arg3.IsWhole) {arg4 : Memref sig .tc .vmem S1x1024 .f32} (harg4 : arg4.IsWhole) {arg5 : Memref sig .tc .vmem S1x1x1024 .f32} (harg5 : arg5.IsWhole) {arg6 : Memref sig .tc .vmem S1x1x1024 .f32} (harg6 : arg6.IsWhole) {arg7 : Memref sig .tc .vmem S1024x1024 .bf16} (harg7 : arg7.IsWhole) {arg8 : Memref sig .tc .vmem S1x1024 .f32} (harg8 : arg8.IsWhole) {arg9 : Memref sig .tc .vmem S1024x128 .bf16} (harg9 : arg9.IsWhole) {arg10 : Memref sig .tc .vmem S1x128 .f32} (harg10 : arg10.IsWhole) {arg11 : Memref sig .tc .vmem S2048x128 .f32} (harg11 : arg11.IsWhole) {arg12 : Memref sig .tc .vmem S2048x128 .f32} (harg12 : arg12.IsWhole) {arg13 : Memref sig .tc .vmem S1x1x2048x1024 .bf16} (harg13 : arg13.IsWhole) {arg14 : Memref sig .tc .vmem S1x2048x128 .f32} (harg14 : arg14.IsWhole) {arg15 : Memref sig .tc .vmem S2048x1024 .bf16} (harg15 : arg15.IsWhole) (x0 : Vec F S1x2048x1024 .f32) (x1 : Vec F S1x1024 .f32) (x2 : Vec F S1x1x1024 .f32) (x3 : Vec F S1x1x1024 .f32) (x4 : Vec F S1024x1024 .bf16) (x5 : Vec F S1x1024 .f32) (x6 : Vec F S1024x128 .bf16) (x7 : Vec F S1x128 .f32) (x8 : Vec F S2048x128 .f32) (x9 : Vec F S2048x128 .f32) (hk : At i 0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9
        ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9
            ∗ owns (c : Thread nD τ) arg13 fullShare (View.canon (pieces 0 (arg15.view.readCov (Val := Elt F) [pcH (k0_pay8 (rdX harg3 x0) (rdN harg4 x1) (rdM harg5 x2) (rdM harg6 x3))] (Rect.unit (s := S2048x1024) ![0, 0] S2048x1024.size inb_S2048x1024_S2048x1024_0_0).toLoadRect) (rdW harg7 x4) (rdB harg8 x5) (rdT harg11 x8) (rdT harg12 x9))) ∗ owns (c : Thread nD τ) arg14 fullShare (View.canon [pcG (k0_pay1 (k0_pay9 (rdX harg3 x0) (rdN harg4 x1) (rdM harg5 x2) (rdM harg6 x3) (rdG harg9 x6) (rdC harg10 x7)))]) ∗ owns (c : Thread nD τ) arg15 fullShare (View.canon [pcH (k0_pay8 (rdX harg3 x0) (rdN harg4 x1) (rdM harg5 x2) (rdM harg6 x3))])) -∗ K ⟨⟩))
      ⊢ wp frame (wpE (defs₀ (F := F)) Variants.none c none) E (cc0_inproj_rope i arg3 harg3 arg4 harg4 arg5 harg5 arg6 harg6 arg7 harg7 arg8 harg8 arg9 harg9 arg10 harg10 arg11 harg11 arg12 harg12 arg13 harg13 arg14 harg14 arg15 harg15) K := by
  obtain ⟨e1, e2, e3, e4⟩ := hk
  simp only [cc0_inproj_rope_eq_skeleton]; unfold cc0_inproj_rope_skel
  simp only [dif_pos (e1.2 (by decide)), dif_pos (e2.2 (by decide)), dif_neg (fun h => absurd (e3.1 h) (by decide)), dif_neg (fun h => absurd (e4.1 h) (by decide))]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; swap; · iexact H10
    ipureintro; refine (View.read_writes_eq_canon (Val := Elt F) _ _ _ ?_).trans (congrArg View.canon ?_)
    · exact View.cover_of_tiled _ S1x1x2048x128.size (by rfl)
    · rfl
  isplitl [H11]
  · iexists _; isplitr; swap; · iexact H11
    ipureintro; refine (View.read_writes_eq_canon (Val := Elt F) _ _ _ ?_).trans (congrArg View.canon ?_)
    · exact View.cover_of_tiled _ S1x2048x128.size (by rfl)
    · rfl
  iexists _; isplitr; swap; · iexact H12
  ipureintro; refine (View.read_writes_eq_canon (Val := Elt F) _ _ _ ?_).trans (congrArg View.canon ?_)
  · exact View.cover_of_tiled _ S2048x1024.size (by rfl)
  · rfl

set_option maxHeartbeats 4000000 in
/-- A later step: its slab, of the kept rows; the gate and the rows stay. -/
theorem run12 (c : Dev nD) (i : grid0.Coords) {arg3 : Memref sig .tc .vmem S1x2048x1024 .f32} (harg3 : arg3.IsWhole) {arg4 : Memref sig .tc .vmem S1x1024 .f32} (harg4 : arg4.IsWhole) {arg5 : Memref sig .tc .vmem S1x1x1024 .f32} (harg5 : arg5.IsWhole) {arg6 : Memref sig .tc .vmem S1x1x1024 .f32} (harg6 : arg6.IsWhole) {arg7 : Memref sig .tc .vmem S1024x1024 .bf16} (harg7 : arg7.IsWhole) {arg8 : Memref sig .tc .vmem S1x1024 .f32} (harg8 : arg8.IsWhole) {arg9 : Memref sig .tc .vmem S1024x128 .bf16} (harg9 : arg9.IsWhole) {arg10 : Memref sig .tc .vmem S1x128 .f32} (harg10 : arg10.IsWhole) {arg11 : Memref sig .tc .vmem S2048x128 .f32} (harg11 : arg11.IsWhole) {arg12 : Memref sig .tc .vmem S2048x128 .f32} (harg12 : arg12.IsWhole) {arg13 : Memref sig .tc .vmem S1x1x2048x1024 .bf16} (harg13 : arg13.IsWhole) {arg14 : Memref sig .tc .vmem S1x2048x128 .f32} (harg14 : arg14.IsWhole) {arg15 : Memref sig .tc .vmem S2048x1024 .bf16} (harg15 : arg15.IsWhole) (k : Kind) (h0 : k ≠ 0) (x0 : Vec F S1x2048x1024 .f32) (x1 : Vec F S1x1024 .f32) (x2 : Vec F S1x1x1024 .f32) (x3 : Vec F S1x1x1024 .f32) (x4 : Vec F S1024x1024 .bf16) (x5 : Vec F S1x1024 .f32) (x6 : Vec F S1024x128 .bf16) (x7 : Vec F S1x128 .f32) (x8 : Vec F S2048x128 .f32) (x9 : Vec F S2048x128 .f32) (x11 : Vec F S1x2048x128 .f32) (x12 : Vec F S2048x1024 .bf16) (hk : At i k) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9
        ∗ (∃ d, owns (c : Thread nD τ) arg13 fullShare d) ∗ owns (c : Thread nD τ) arg14 fullShare x11 ∗ owns (c : Thread nD τ) arg15 fullShare x12
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9
            ∗ owns (c : Thread nD τ) arg13 fullShare (View.canon (pieces k (rdH harg15 x12) (rdW harg7 x4) (rdB harg8 x5) (rdT harg11 x8) (rdT harg12 x9))) ∗ owns (c : Thread nD τ) arg14 fullShare x11 ∗ owns (c : Thread nD τ) arg15 fullShare x12) -∗ K ⟨⟩))
      ⊢ wp frame (wpE (defs₀ (F := F)) Variants.none c none) E (cc0_inproj_rope i arg3 harg3 arg4 harg4 arg5 harg5 arg6 harg6 arg7 harg7 arg8 harg8 arg9 harg9 arg10 harg10 arg11 harg11 arg12 harg12 arg13 harg13 arg14 harg14 arg15 harg15) K := by
  obtain ⟨e1, e2, e3, e4⟩ := hk
  simp only [cc0_inproj_rope_eq_skeleton]; unfold cc0_inproj_rope_skel
  rcases ((by decide : ∀ k : Fin 3, k ≠ 0 → k = 1 ∨ k = 2) k h0) with rfl | rfl
  on_goal 1 => simp only [dif_neg (fun h => absurd (e1.1 h) (by decide)), dif_neg (fun h => absurd (e2.1 h) (by decide)), dif_pos (e3.2 (by decide)), dif_neg (fun h => absurd (e4.1 h) (by decide))]
  on_goal 2 => simp only [dif_neg (fun h => absurd (e1.1 h) (by decide)), dif_neg (fun h => absurd (e2.1 h) (by decide)), dif_neg (fun h => absurd (e3.1 h) (by decide)), dif_pos (e4.2 (by decide))]
  all_goals
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg14.eq_unread hf11; obtain rfl := harg15.eq_unread hf12
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; swap; · iexact H10
      ipureintro; refine (View.read_writes_eq_canon (Val := Elt F) _ _ _ ?_).trans (congrArg View.canon ?_)
      · exact View.cover_of_tiled _ S1x1x2048x128.size (by rfl)
      · rfl
    isplitl [H11]
    · iexists _; isplitr; · ipureintro; exact harg14.read_unread _
      iexact H11
    iexists _; isplitr; · ipureintro; exact harg15.read_unread _
    iexact H12

end Cert.Kernel3Ideal.Hand

end
-- ==== Proof.ProjKernelAt.lean ====
/- The input-projection kernel's body read at an element, over the extended reals. -/
module

public import proofs.«01_k».proof.Proof.ProjSpec
public import proofs.«01_k».proof.Proof.ProjBody
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select
public import Idealize.ShloMosaic.Lib.Pipeline.ValueKit

@[expose] public section

set_option maxRecDepth 16384

noncomputable section

namespace Cert.Kernel3Ideal.Hand

open Cert.Kernel3Ideal Cert.Kernel3Ideal.Gen
open Idealize.ShloMosaic Idealize.ShloMosaic.TcCoe
open Cert.Proj

/-- The kept rows. -/
theorem pay7_at (x : Vec Ideal S1x2048x1024 .f32) (nw : Vec Ideal S1x1024 .f32) (sc sh : Vec Ideal S1x1x1024 .f32) (i : Fin 2048) (d : Fin 1024) :
    k0_pay7 (F := Ideal) x nw sc sh (ix2 i d) =
      row (fun k => x (ix3 0 i k)) (fun k => nw (ix2 0 k)) (fun k => sc (ix3 0 0 k)) (fun k => sh (ix3 0 0 k)) d := by
  unfold k0_pay7
  pointwise
  rfl
@[inherit_doc pay7_at]
theorem pay8_at (x : Vec Ideal S1x2048x1024 .f32) (nw : Vec Ideal S1x1024 .f32) (sc sh : Vec Ideal S1x1x1024 .f32) (i : Fin 2048) (d : Fin 1024) :
    k0_pay8 (F := Ideal) x nw sc sh (ix2 i d) =
      row (fun k => x (ix3 0 i k)) (fun k => nw (ix2 0 k)) (fun k => sc (ix3 0 0 k)) (fun k => sh (ix3 0 0 k)) d := by
  unfold k0_pay8
  pointwise
  exact pay7_at x nw sc sh i d

/-- The gates' product. -/
theorem gate_at (x : Vec Ideal S1x2048x1024 .f32) (nw : Vec Ideal S1x1024 .f32) (sc sh : Vec Ideal S1x1x1024 .f32) (W : Vec Ideal S1024x128 .bf16)
    (b : Vec Ideal S1x128 .f32) (i : Fin 2048) (e : Fin 128) :
    k0_pay1 (k0_pay9 (F := Ideal) x nw sc sh W b) (ix3 0 i e) =
      lin (row (fun k => x (ix3 0 i k)) (fun k => nw (ix2 0 k)) (fun k => sc (ix3 0 0 k)) (fun k => sh (ix3 0 0 k)))
        (fun k => W (ix2 k e)) (b (ix2 0 e)) := by
  unfold k0_pay1 k0_pay9
  pointwise
  simp only [pay7_at]
  rfl

/-- The rows' product with 256 columns of a slab. -/
theorem pay10_at (h : Vec Ideal S2048x1024 .bf16) (W : Vec Ideal S1024x256 .bf16) (b : Vec Ideal S1x256 .f32) (i : Fin 2048) (e : Fin 256) :
    k0_pay10 (F := Ideal) h W b (ix2 i e) = lin (fun k => h (ix2 i k)) (fun k => W (ix2 k e)) (b (ix2 0 e)) := by
  unfold k0_pay10
  pointwise
  rfl

/-- A group's halves. -/
theorem lo_at (v : FVec Ideal S2048x256 .f32) (i : Fin 2048) (d : Fin 128) : lo v (ix2 i d) = v (ix2 i ⟨d.val, by omega⟩) := by
  unfold lo; pointwise
@[inherit_doc lo_at]
theorem hi_at (v : FVec Ideal S2048x256 .f32) (i : Fin 2048) (d : Fin 128) : hi v (ix2 i d) = v (ix2 i ⟨128 + d.val, by omega⟩) := by
  unfold hi; pointwise

/-- A section's row turned by a row of the body's tables: the table `cs` twice, `sn` under a minus sign and then without. -/
theorem rot_at (cs sn s : FVec Ideal S2048x128 .f32) (i : Fin 2048) (d : Fin 128) :
    rot cs sn s (ix2 i d) = s (ix2 i d) * cs (ix2 i d) + s (ix2 i ⟨(d.val + 64) % 128, Nat.mod_lt _ (by decide)⟩) * sn (ix2 i d) := by
  unfold rot
  pointwise
  congr 4

/-- A section as stored has its elements. -/
theorem put_at (s : FVec Ideal S2048x128 .f32) (i : Fin 2048) (d : Fin 128) : put s (ix4 0 0 i d) = s (ix2 i d) := by
  unfold put; pointwise

end Cert.Kernel3Ideal.Hand
end
-- ==== Proof.ProjRun.lean ====
/- The input-projection kernel's launch: the rows kept from a batch's first step to its last, what every grid point leaves
   in the two results' buffers, the body's obligation at every point, and the frame. -/
module

public import proofs.«01_k».proof.Proof.ProjBody
public import proofs.«01_k».proof.Proof.Gen.Kernel3Ideal.Points
public import Idealize.ShloMosaic.Lib.Pipeline.Value
public import Idealize.ShloMosaic.Lib.Pipeline.ValueKit
public import Idealize.ShloMosaic.Lib.Pipeline.TableIdle
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's reads are parts of its operands -/

/-- Columns `256 g …` of a slab, -/
def wcol (x : Vec F S1024x1024 .bf16) (g : ℕ) : Vec F S1024x256 .bf16 :=
  View.ld x (Rect.unit (s := S1024x1024) ![0, 256 * (g % 4)] S1024x256.size (inbW g))
/-- and of its bias. -/
def bcol (x : Vec F S1x1024 .f32) (g : ℕ) : Vec F S1x256 .f32 :=
  View.ld x (Rect.unit (s := S1x1024) ![0, 256 * (g % 4)] S1x256.size (inbB g))

theorem rdW_eq {arg : Memref sig .tc .vmem S1024x1024 .bf16} (h : arg.IsWhole) (x : Vec F S1024x1024 .bf16) : rdW h x = wcol x :=
  funext fun g => by unfold rdW wcol; rw [View.readAt_eq_ld, h.read_unread]
theorem rdB_eq {arg : Memref sig .tc .vmem S1x1024 .f32} (h : arg.IsWhole) (x : Vec F S1x1024 .f32) : rdB h x = bcol x :=
  funext fun g => by unfold rdB bcol; rw [View.readAt_eq_ld, h.read_unread]
theorem rdT_eq {arg : Memref sig .tc .vmem S2048x128 .f32} (h : arg.IsWhole) (x : Vec F S2048x128 .f32) : rdT h x = x := by
  unfold rdT; rw [View.readAt_eq_ld, h.read_unread]; exact View.ld_unit_lit _ _ (by decide)
theorem rdH_eq {arg : Memref sig .tc .vmem S2048x1024 .bf16} (h : arg.IsWhole) (x : Vec F S2048x1024 .bf16) : rdH h x = x := by
  unfold rdH; rw [View.readAt_eq_ld, h.read_unread]; exact View.ld_unit_lit _ _ (by decide)
theorem rdX_eq {arg : Memref sig .tc .vmem S1x2048x1024 .f32} (h : arg.IsWhole) (x : Vec F S1x2048x1024 .f32) : rdX h x = x := by
  unfold rdX; rw [View.readAt_eq_ld, h.read_unread]; exact View.ld_unit_lit _ _ (by decide)
theorem rdN_eq {arg : Memref sig .tc .vmem S1x1024 .f32} (h : arg.IsWhole) (x : Vec F S1x1024 .f32) : rdN h x = x := by
  unfold rdN; rw [View.readAt_eq_ld, h.read_unread]; exact View.ld_unit_lit _ _ (by decide)
theorem rdM_eq {arg : Memref sig .tc .vmem S1x1x1024 .f32} (h : arg.IsWhole) (x : Vec F S1x1x1024 .f32) : rdM h x = x := by
  unfold rdM; rw [View.readAt_eq_ld, h.read_unread]; exact View.ld_unit_lit _ _ (by decide)
theorem rdG_eq {arg : Memref sig .tc .vmem S1024x128 .bf16} (h : arg.IsWhole) (x : Vec F S1024x128 .bf16) : rdG h x = x := by
  unfold rdG; rw [View.readAt_eq_ld, h.read_unread]; exact View.ld_unit_lit _ _ (by decide)
theorem rdC_eq {arg : Memref sig .tc .vmem S1x128 .f32} (h : arg.IsWhole) (x : Vec F S1x128 .f32) : rdC h x = x := by
  unfold rdC; rw [View.readAt_eq_ld, h.read_unread]; exact View.ld_unit_lit _ _ (by decide)

/-! ## The steps -/

/-- A point's place in its batch's eleven steps. -/
theorem step_eq (t : Fin cfg0.N) : (grid0.coords t 2).val = t.val % 11 := by
  revert t; exact (by decide : ∀ t : Fin 352, (grid0.coords t 2).val = t.val % 11)

/-- The kind of step at a point. -/
def kind (t : Fin cfg0.N) : Kind := if t.val % 11 = 0 then 0 else if t.val % 11 = 1 then 1 else 2

theorem kind_zero {t : Fin cfg0.N} (h : t.val % 11 = 0) : kind t = 0 := if_pos h
theorem kind_ne {t : Fin cfg0.N} (h : t.val % 11 ≠ 0) : kind t ≠ 0 := by
  unfold kind; rw [if_neg h]; split <;> decide

/-- The body's conditions say which kind of step a point is. -/
theorem at_kind (t : Fin cfg0.N) : At (grid0.coords t) (kind t) := by
  have hs := step_eq t
  have hl : t.val % 11 < 11 := Nat.mod_lt _ (by decide)
  unfold At kind k0_cond1 k0_cond2 k0_cond3 k0_cond4
  dsimp only
  rw [hs]
  revert hl
  generalize t.val % 11 = j
  revert j
  decide

/-! ## What a point leaves -/

/-- The normalised, modulated rows of point `t`'s batch, -/
def hOf (c : Dev nD) (t : Fin cfg0.N) : Vec F S2048x1024 .bf16 :=
  k0_pay8 (iblk m c 0 t) (iblk m c 1 t) (iblk m c 2 t) (iblk m c 3 t)
/-- their product with the gates' weights, plus the gates' bias, -/
def gOf (c : Dev nD) (t : Fin cfg0.N) : Vec F S1x2048x128 .f32 :=
  k0_pay1 (k0_pay9 (iblk m c 0 t) (iblk m c 1 t) (iblk m c 2 t) (iblk m c 3 t) (iblk m c 6 t) (iblk m c 7 t))
/-- and the slab of the point's step. -/
def uOf (c : Dev nD) (t : Fin cfg0.N) : Vec F S1x1x2048x1024 .bf16 :=
  View.canon (pieces (kind t) (hOf m c t) (wcol (iblk m c 4 t)) (bcol (iblk m c 5 t)) (iblk m c 8 t) (iblk m c 9 t))

/-- The point before, and its being one. -/
abbrev prev (t : Fin cfg0.N) : Fin cfg0.N := ⟨t.val - 1, Nat.lt_of_le_of_lt (Nat.sub_le _ _) t.isLt⟩

/-- The scratch operand: a whole scoped buffer of the kernel's own, beside the windows. -/
abbrev scr : Memref sig .tc .vmem S2048x1024 .bf16 := Memref.whole cc0_scratch0
theorem hscr : scr.IsWhole := Memref.isWhole_whole _

/-- The point whose rows the scratch holds before point `t`. -/
def last (t : Fin (cfg0.N + 1)) : Fin cfg0.N := ⟨t.val - 1, lt_of_le_of_lt (Nat.sub_le_sub_right (Nat.le_of_lt_succ t.isLt) 1) (by decide)⟩

/-- The scratch before point `t`: at the rows of the batch, unless the batch is only about to begin. -/
def held (c : Dev nD) (t : Fin (cfg0.N + 1)) : sProp 𝕄 :=
  if t.val % 11 = 0 then iprop(∃ d, owns (c : Thread nD τ) scr fullShare d) else owns (c : Thread nD τ) scr fullShare (hOf m c (last t))

/-- The pipeline's proof data: the arrays as the launch finds them; after point `t` every input's buffer at its block and
    the results' at what the point leaves; between the points the scratch at the batch's rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => uOf m c t
    | ⟨11, _⟩ => gOf m c t
  Φ t := iprop(held m c t ∗ (∃ r, prngReg c r))
  q _ := fullShare
  owed _ := 0

/-- The proof data's arrays are what the launch finds. -/
theorem A_eq (c : Dev nD) (w : Fin cfg0.W) : (dats m 0 c).A w = V m c (Pipeline.arrRef spec0 w) := by
  dsimp only [dats]

/-- Every input's buffer holds its block at every point, before and after the body. -/
theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = iblk m c 5 t := by dsimp only [dats]
theorem aft6 (c : Dev nD) (t : Fin cfg0.N) : (dats m 0 c).after 6 t = iblk m c 6 t := by dsimp only [dats]
theorem aft7 (c : Dev nD) (t : Fin cfg0.N) : (dats m 0 c).after 7 t = iblk m c 7 t := by dsimp only [dats]
theorem aft8 (c : Dev nD) (t : Fin cfg0.N) : (dats m 0 c).after 8 t = iblk m c 8 t := by dsimp only [dats]
theorem aft9 (c : Dev nD) (t : Fin cfg0.N) : (dats m 0 c).after 9 t = iblk m c 9 t := by dsimp only [dats]
theorem bef0 (c : Dev nD) (t : Fin cfg0.N) (d) : (dats m 0 c).before 0 t d = iblk m c 0 t :=
  before0_0_of m (dats m 0 c) (A_eq m c 0) (aft0 m c) t d
theorem bef1 (c : Dev nD) (t : Fin cfg0.N) (d) : (dats m 0 c).before 1 t d = iblk m c 1 t :=
  before0_1_of m (dats m 0 c) (A_eq m c 1) (aft1 m c) t d
theorem bef2 (c : Dev nD) (t : Fin cfg0.N) (d) : (dats m 0 c).before 2 t d = iblk m c 2 t :=
  before0_2_of m (dats m 0 c) (A_eq m c 2) (aft2 m c) t d
theorem bef3 (c : Dev nD) (t : Fin cfg0.N) (d) : (dats m 0 c).before 3 t d = iblk m c 3 t :=
  before0_3_of m (dats m 0 c) (A_eq m c 3) (aft3 m c) t d
theorem bef4 (c : Dev nD) (t : Fin cfg0.N) (d) : (dats m 0 c).before 4 t d = iblk m c 4 t :=
  before0_4_of m (dats m 0 c) (A_eq m c 4) (aft4 m c) t d
theorem bef5 (c : Dev nD) (t : Fin cfg0.N) (d) : (dats m 0 c).before 5 t d = iblk m c 5 t :=
  before0_5_of m (dats m 0 c) (A_eq m c 5) (aft5 m c) t d
theorem bef6 (c : Dev nD) (t : Fin cfg0.N) (d) : (dats m 0 c).before 6 t d = iblk m c 6 t :=
  before0_6_of m (dats m 0 c) (A_eq m c 6) (aft6 m c) t d
theorem bef7 (c : Dev nD) (t : Fin cfg0.N) (d) : (dats m 0 c).before 7 t d = iblk m c 7 t :=
  before0_7_of m (dats m 0 c) (A_eq m c 7) (aft7 m c) t d
theorem bef8 (c : Dev nD) (t : Fin cfg0.N) (d) : (dats m 0 c).before 8 t d = iblk m c 8 t :=
  before0_8_of m (dats m 0 c) (A_eq m c 8) (aft8 m c) t d
theorem bef9 (c : Dev nD) (t : Fin cfg0.N) (d) : (dats m 0 c).before 9 t d = iblk m c 9 t :=
  before0_9_of m (dats m 0 c) (A_eq m c 9) (aft9 m c) t d
/-- The results' buffers after the body. -/
theorem aft10 (c : Dev nD) (t : Fin cfg0.N) : (dats m 0 c).after 10 t = uOf m c t := by dsimp only [dats]
theorem aft11 (c : Dev nD) (t : Fin cfg0.N) : (dats m 0 c).after 11 t = gOf m c t := by dsimp only [dats]

/-- Within a batch the rows' and the gate's operands stay where they are. -/
theorem fet0 (c : Dev nD) (t : Fin cfg0.N) (d) : (dats m 0 c).fetched 0 t d = iblk m c 0 t := by
  unfold Dat.fetched Dat.blockOf iblk; rw [A_eq]; try rfl
theorem stay0 (c : Dev nD) (t : Fin cfg0.N) (h : t.val % 11 ≠ 0) : iblk m c 0 t = iblk m c 0 (prev t) :=
  (fet0 m c t (iblk m c 0 t)).symm.trans (((dats m 0 c).fetched_congr 0 ((cfg0.win 0).index_eq_of_fetch rfl t
    (Bool.eq_false_iff.mpr fun e => h (by have := (fetch0_0 t).mp e; omega))).2 rfl _).trans (fet0 m c (prev t) _))
theorem fet1 (c : Dev nD) (t : Fin cfg0.N) (d) : (dats m 0 c).fetched 1 t d = iblk m c 1 t := by
  unfold Dat.fetched Dat.blockOf iblk; rw [A_eq]; try rfl
theorem stay1 (c : Dev nD) (t : Fin cfg0.N) (h : t.val % 11 ≠ 0) : iblk m c 1 t = iblk m c 1 (prev t) :=
  (fet1 m c t (iblk m c 1 t)).symm.trans (((dats m 0 c).fetched_congr 1 ((cfg0.win 1).index_eq_of_fetch rfl t
    (Bool.eq_false_iff.mpr fun e => h (by have := (fetch0_1 t).mp e; omega))).2 rfl _).trans (fet1 m c (prev t) _))
theorem fet2 (c : Dev nD) (t : Fin cfg0.N) (d) : (dats m 0 c).fetched 2 t d = iblk m c 2 t := by
  unfold Dat.fetched Dat.blockOf iblk; rw [A_eq]; try rfl
theorem stay2 (c : Dev nD) (t : Fin cfg0.N) (h : t.val % 11 ≠ 0) : iblk m c 2 t = iblk m c 2 (prev t) :=
  (fet2 m c t (iblk m c 2 t)).symm.trans (((dats m 0 c).fetched_congr 2 ((cfg0.win 2).index_eq_of_fetch rfl t
    (Bool.eq_false_iff.mpr fun e => h (by have := (fetch0_2 t).mp e; omega))).2 rfl _).trans (fet2 m c (prev t) _))
theorem fet3 (c : Dev nD) (t : Fin cfg0.N) (d) : (dats m 0 c).fetched 3 t d = iblk m c 3 t := by
  unfold Dat.fetched Dat.blockOf iblk; rw [A_eq]; try rfl
theorem stay3 (c : Dev nD) (t : Fin cfg0.N) (h : t.val % 11 ≠ 0) : iblk m c 3 t = iblk m c 3 (prev t) :=
  (fet3 m c t (iblk m c 3 t)).symm.trans (((dats m 0 c).fetched_congr 3 ((cfg0.win 3).index_eq_of_fetch rfl t
    (Bool.eq_false_iff.mpr fun e => h (by have := (fetch0_3 t).mp e; omega))).2 rfl _).trans (fet3 m c (prev t) _))
theorem fet6 (c : Dev nD) (t : Fin cfg0.N) (d) : (dats m 0 c).fetched 6 t d = iblk m c 6 t := by
  unfold Dat.fetched Dat.blockOf iblk; rw [A_eq]; try rfl
theorem stay6 (c : Dev nD) (t : Fin cfg0.N) (h : t.val % 11 ≠ 0) : iblk m c 6 t = iblk m c 6 (prev t) :=
  (fet6 m c t (iblk m c 6 t)).symm.trans (((dats m 0 c).fetched_congr 6 ((cfg0.win 6).index_eq_of_fetch rfl t
    (Bool.eq_false_iff.mpr fun e => h (by have := (fetch0_6 t).mp e; omega))).2 rfl _).trans (fet6 m c (prev t) _))
theorem fet7 (c : Dev nD) (t : Fin cfg0.N) (d) : (dats m 0 c).fetched 7 t d = iblk m c 7 t := by
  unfold Dat.fetched Dat.blockOf iblk; rw [A_eq]; try rfl
theorem stay7 (c : Dev nD) (t : Fin cfg0.N) (h : t.val % 11 ≠ 0) : iblk m c 7 t = iblk m c 7 (prev t) :=
  (fet7 m c t (iblk m c 7 t)).symm.trans (((dats m 0 c).fetched_congr 7 ((cfg0.win 7).index_eq_of_fetch rfl t
    (Bool.eq_false_iff.mpr fun e => h (by have := (fetch0_7 t).mp e; omega))).2 rfl _).trans (fet7 m c (prev t) _))
theorem hOf_prev (c : Dev nD) (t : Fin cfg0.N) (h : t.val % 11 ≠ 0) : hOf m c (prev t) = hOf m c t := by
  unfold hOf; rw [stay0 m c t h, stay1 m c t h, stay2 m c t h, stay3 m c t h]
theorem gOf_prev (c : Dev nD) (t : Fin cfg0.N) (h : t.val % 11 ≠ 0) : gOf m c (prev t) = gOf m c t := by
  unfold gOf; rw [stay0 m c t h, stay1 m c t h, stay2 m c t h, stay3 m c t h, stay6 m c t h, stay7 m c t h]

/-- The slab's buffer is stored at every point, -/
theorem idle10 (t : Fin cfg0.N) : cfg0.idle 10 (grid0.coords t) = false := by
  have hs := step_eq t
  have hl : t.val % 11 < 11 := Nat.mod_lt _ (by decide)
  show (!(k0_cond2 (grid0.coords t) == 1#1) && !(k0_cond3 (grid0.coords t) == 1#1) && !(k0_cond4 (grid0.coords t) == 1#1)) = false
  unfold k0_cond2 k0_cond3 k0_cond4
  dsimp only
  rw [hs]
  revert hl
  generalize t.val % 11 = j
  revert j
  decide
/-- the gates' only at a batch's first step. -/
theorem idle11 (t : Fin cfg0.N) : cfg0.idle 11 (grid0.coords t) = !(t.val % 11 == 0) := by
  have hs := step_eq t
  have hl : t.val % 11 < 11 := Nat.mod_lt _ (by decide)
  show (!(k0_cond1 (grid0.coords t) == 1#1)) = _
  unfold k0_cond1
  dsimp only
  rw [hs]
  revert hl
  generalize t.val % 11 = j
  revert j
  decide

theorem flush11 (t : Fin cfg0.N) : (cfg0.win 11).flush t = (t.val % 11 == 10) := by
  rw [Bool.eq_iff_iff, flush0_11, beq_iff_eq]

/-- The gates' buffer holds nothing of the batch exactly before its first step. -/
theorem fresh11 (t : Fin cfg0.N) : cfg0.fresh 11 t.val = (t.val % 11 == 0) :=
  Pipeline.Cfg.fresh_tab cfg0 11 (fun n => n % 11 == 0) rfl (fun t => by
    rw [idle11, flush11, Bool.not_and_self, Bool.or_false, Bool.eq_iff_iff, beq_iff_eq, beq_iff_eq]
    omega) t.val (Nat.le_of_lt t.isLt)

/-- The gates' buffer, before a later step of a batch, is at the batch's gates. -/
theorem bef11 (c : Dev nD) (t : Fin cfg0.N) (h : t.val % 11 ≠ 0) (d) : (dats m 0 c).before 11 t d = gOf m c t := by
  rw [(dats m 0 c).before_out_traj 11 rfl (fun _ _ => rfl) (fun t _ hi _ => by
    have h1 : t.val % 11 ≠ 0 := by
      have := idle11 t; rw [hi] at this; simpa using this
    rw [aft11]; exact (gOf_prev m c t h1).symm.trans (aft11 m c (prev t)).symm) t.val t rfl d,
    fresh11, if_neg (by simpa using h)]
  exact (aft11 m c (prev t)).trans (gOf_prev m c t h)

/-- What a point owes of the two results' buffers. -/
theorem leaves10 (c : Dev nD) (t : Fin cfg0.N) :
    owns (c : Thread nD τ) (win0_10.stage (cfg0.slots t 10)) fullShare (uOf m c t) ⊢ (dats m 0 c).leavesExact 10 t := by
  unfold Dat.leavesExact; rw [show cfg0.idle 10 (cfg0.grid.coords t) = false from idle10 t]; rw [aft10]
theorem leaves11 (c : Dev nD) (t : Fin cfg0.N) :
    owns (c : Thread nD τ) (win0_11.stage (cfg0.slots t 11)) fullShare (gOf m c t) ⊢ (dats m 0 c).leavesExact 11 t := by
  by_cases h : t.val % 11 = 0
  · have hi : cfg0.idle 11 (cfg0.grid.coords t) = false := (idle11 t).trans (by simp [h])
    unfold Dat.leavesExact; rw [hi, aft11]
  · have hi : cfg0.idle 11 (cfg0.grid.coords t) = true := (idle11 t).trans (by simp [h])
    cases hf : (cfg0.win 11).flush t
    · rw [Dat.leavesExact_idle _ _ _ hi hf]
      iintro H; iexists (gOf m c t); rw [bef11 m c t h]; iexact H
    · unfold Dat.leavesExact; rw [hi, hf, aft11]

/-- The scratch before a batch's first step, before a later one, and after any. -/
theorem held_first (c : Dev nD) (t : Fin cfg0.N) (h : t.val % 11 = 0) :
    held m c t.castSucc = iprop(∃ d, owns (c : Thread nD τ) scr fullShare d) := if_pos h
theorem held_later (c : Dev nD) (t : Fin cfg0.N) (h : t.val % 11 ≠ 0) :
    held m c t.castSucc = owns (c : Thread nD τ) scr fullShare (hOf m c t) :=
  (if_neg h).trans (by rw [← hOf_prev m c t h]; rfl)
theorem held_next (c : Dev nD) (t : Fin cfg0.N) : owns (c : Thread nD τ) scr fullShare (hOf m c t) ⊢ held m c t.succ := by
  unfold held
  split
  · iintro H; iexists _; iexact H
  · exact .rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ (dats m 0 c).leavesExact 10 t
    ∗ (dats m 0 c).leavesExact 11 t)

set_option maxHeartbeats 1600000 in
/-- The body at any point: the inputs' buffers hold their blocks and, from a batch's second step on, the scratch its rows
    and the gates' buffer its gates, so the runs apply. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [bef0, bef1, bef2, bef3, bef4, bef5, bef6, bef7, bef8, bef9]
  rw [show (dats m 0 c).Φ t.castSucc = iprop(held m c t.castSucc ∗ (∃ r, prngReg c r)) from rfl]
  have hat := at_kind t
  have hpost : iprop(held m c t.succ ∗ (∃ r, prngReg c r) ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (iblk m c 9 t)
    ∗ (dats m 0 c).leavesExact 10 t
    ∗ (dats m 0 c).leavesExact 11 t) ⊢ bodyPost m c t := by
    unfold bodyPost
    rw [aft0, aft1, aft2, aft3, aft4, aft5, aft6, aft7, aft8, aft9,
      show (dats m 0 c).Φ t.succ = iprop(held m c t.succ ∗ (∃ r, prngReg c r)) from rfl,
      show (dats m 0 c).owesAt () t.succ = (dats m 0 c).owesAt () t.castSucc from rfl]
    iintro ⟨HS, Hg, Ho, H⟩
    isplitl [HS Hg]
    · isplitl [HS]; · iexact HS
      iexact Hg
    isplitl [Ho]; · iexact Ho
    iexact H
  by_cases h : t.val % 11 = 0
  · have hk := kind_zero h
    have hrun := run0 c (i := grid0.coords t) (harg3 := hstage0_0 ((cfg0.slots t 0).cast nbuf0_0)) (harg4 := hstage0_1 ((cfg0.slots t 1).cast nbuf0_1)) (harg5 := hstage0_2 ((cfg0.slots t 2).cast nbuf0_2)) (harg6 := hstage0_3 ((cfg0.slots t 3).cast nbuf0_3)) (harg7 := hstage0_4 ((cfg0.slots t 4).cast nbuf0_4)) (harg8 := hstage0_5 ((cfg0.slots t 5).cast nbuf0_5)) (harg9 := hstage0_6 ((cfg0.slots t 6).cast nbuf0_6)) (harg10 := hstage0_7 ((cfg0.slots t 7).cast nbuf0_7)) (harg11 := hstage0_8 ((cfg0.slots t 8).cast nbuf0_8)) (harg12 := hstage0_9 ((cfg0.slots t 9).cast nbuf0_9)) (harg13 := hstage0_10 ((cfg0.slots t 10).cast nbuf0_10)) (harg14 := hstage0_11 ((cfg0.slots t 11).cast nbuf0_11)) (harg15 := hscr) (iblk m c 0 t) (iblk m c 1 t) (iblk m c 2 t) (iblk m c 3 t) (iblk m c 4 t) (iblk m c 5 t) (iblk m c 6 t) (iblk m c 7 t) (iblk m c 8 t) (iblk m c 9 t) (hk ▸ hat) Set.univ (fun _ => bodyPost m c t)
    simp only [rdW_eq, rdB_eq, rdT_eq, rdX_eq, rdN_eq, rdM_eq, rdG_eq, rdC_eq] at hrun
    rw [View.readCov_unit_lit _ _ _ (by decide), View.canon_cons_unit_lit _ _ _ (by decide), View.canon_cons_unit_lit _ _ _ (by decide), ← hk] at hrun
    rw [held_first m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply hrun
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexact HS
    iintro ⟨H0, H1, H2, H3, H4, H5, H6, H7, H8, H9, H10, H11, HS⟩
    iapply hpost
    isplitl [HS]; · iapply (held_next m c t); iexact HS
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves10 m c t); iexact H10
    iapply (leaves11 m c t); iexact H11
  · have hrun := run12 c (i := grid0.coords t) (harg3 := hstage0_0 ((cfg0.slots t 0).cast nbuf0_0)) (harg4 := hstage0_1 ((cfg0.slots t 1).cast nbuf0_1)) (harg5 := hstage0_2 ((cfg0.slots t 2).cast nbuf0_2)) (harg6 := hstage0_3 ((cfg0.slots t 3).cast nbuf0_3)) (harg7 := hstage0_4 ((cfg0.slots t 4).cast nbuf0_4)) (harg8 := hstage0_5 ((cfg0.slots t 5).cast nbuf0_5)) (harg9 := hstage0_6 ((cfg0.slots t 6).cast nbuf0_6)) (harg10 := hstage0_7 ((cfg0.slots t 7).cast nbuf0_7)) (harg11 := hstage0_8 ((cfg0.slots t 8).cast nbuf0_8)) (harg12 := hstage0_9 ((cfg0.slots t 9).cast nbuf0_9)) (harg13 := hstage0_10 ((cfg0.slots t 10).cast nbuf0_10)) (harg14 := hstage0_11 ((cfg0.slots t 11).cast nbuf0_11)) (harg15 := hscr) (kind t) (kind_ne h) (iblk m c 0 t) (iblk m c 1 t) (iblk m c 2 t) (iblk m c 3 t) (iblk m c 4 t) (iblk m c 5 t) (iblk m c 6 t) (iblk m c 7 t) (iblk m c 8 t) (iblk m c 9 t) (gOf m c t) (hOf m c t) hat Set.univ (fun _ => bodyPost m c t)
    simp only [rdW_eq, rdB_eq, rdT_eq, rdH_eq] at hrun
    rw [held_later m c t h]
    simp only [bef11 m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply hrun
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [HS]; · iexact HS
    iintro ⟨H0, H1, H2, H3, H4, H5, H6, H7, H8, H9, H10, H11, HS⟩
    iapply hpost
    isplitl [HS]; · iapply (held_next m c t); iexact HS
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves10 m c t); iexact H10
    iapply (leaves11 m c t); iexact H11

/-- The body table's row at point `t` is the body. -/
theorem row (t : Fin cfg0.N) : defs₀ (F := F) .tc cfg0.body (cfg0.bodyArgs t (cfg0.slots t)) = bodyAt0 t := by
  unfold defs₀; rw [Defs.onTc_tc]

/-- The body's obligation, at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-- The launch's own invariant: the scratch at some contents, and the generator register. -/
theorem inv_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

set_option backward.isDefEq.respectTransparency.types false in
/-- The launch: every fair execution terminates with every array of the pipeline at what its points leave, the buffers
    the last host operations write at what they compute of them, and every semaphore counter at zero. -/
theorem launched : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c w => (dats m 0 c).share_full (fun _ => rfl) w)
    (howed := fun _ _ => rfl) (V₀ := V0 m) (opss := [hostOps1]) (hsub := sfx_sub) (hfresh := sfx_fresh) (hkeep := sfx_keeps)
    (hmain := hmain m Variants.none) (hA := A_eq m)
    (hin := fun c => by rw [inv_eq]; exact .rfl)
    (hout := fun c => by rw [inv_eq]; exact .rfl)
    (hQ' := fun _ h => h)

/-- The arguments end unchanged and every semaphore counter is zero: the frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.Kernel3Ideal.Hand

end
-- ==== Proof.ProjKernelSlab.lean ====
/- The slab a grid point of the input-projection kernel leaves, read at an element: its eight sections put back together. -/
module

public import proofs.«01_k».proof.Proof.ProjKernelAt
public import proofs.«01_k».proof.Proof.ProjRun

@[expose] public section

set_option maxRecDepth 16384

noncomputable section

namespace Cert.Proj

/-- The turn from the tables laid out over a head: the cosines twice, the sines first under a minus sign. -/
theorem turn_eq (v : Fin 1024 → EReal) (cs sn : Fin 64 → EReal) (n : ℕ) (hn : n < 8) (d : Fin 128) :
    v ⟨128 * n + d.val, by omega⟩ * cs ⟨d.val % 64, by omega⟩
        + v ⟨128 * n + (d.val + 64) % 128, by omega⟩ * (if d.val < 64 then - sn ⟨d.val % 64, by omega⟩ else sn ⟨d.val % 64, by omega⟩)
      = turn v cs sn ⟨128 * n + d.val, by omega⟩ := by
  unfold turn
  by_cases h : d.val < 64
  · have i1 : (⟨d.val % 64, by omega⟩ : Fin 64) = ⟨(128 * n + d.val) % 128, by omega⟩ := Fin.ext (by show d.val % 64 = (128 * n + d.val) % 128; omega)
    have i2 : (⟨128 * n + (d.val + 64) % 128, by omega⟩ : Fin 1024) = ⟨128 * n + d.val + 64, by omega⟩ :=
      Fin.ext (by show 128 * n + (d.val + 64) % 128 = 128 * n + d.val + 64; omega)
    rw [if_pos h, dif_pos (show (128 * n + d.val) % 128 < 64 by omega), i1, i2, mul_neg, sub_eq_add_neg]
  · have i1 : (⟨d.val % 64, by omega⟩ : Fin 64) = ⟨(128 * n + d.val) % 128 - 64, by omega⟩ := Fin.ext (by show d.val % 64 = (128 * n + d.val) % 128 - 64; omega)
    have i2 : (⟨128 * n + (d.val + 64) % 128, by omega⟩ : Fin 1024) = ⟨128 * n + d.val - 64, by omega⟩ :=
      Fin.ext (by show 128 * n + (d.val + 64) % 128 = 128 * n + d.val - 64; omega)
    rw [if_neg h, dif_neg (show ¬ (128 * n + d.val) % 128 < 64 by omega), i1, i2, add_comm]

end Cert.Proj

namespace Cert.Kernel3Ideal.Hand

open Cert.Kernel3Ideal Cert.Kernel3Ideal.Gen
open Idealize.ShloMosaic Idealize.ShloMosaic.TcCoe
open Cert.Proj

/-- The columns of a slab a group reads, -/
theorem wcol_at (x : Vec Ideal S1024x1024 .bf16) (g : ℕ) (k : Fin 1024) (e : Fin 256) : wcol x g (ix2 k e) = x (ix2 k ⟨256 * (g % 4) + e.val, by omega⟩) := by
  unfold wcol
  exact View.ld_unit_apply_of x _ _ _ _ _ fun a => by fin_cases a <;> simp
/-- and of its bias. -/
theorem bcol_at (x : Vec Ideal S1x1024 .f32) (g : ℕ) (e : Fin 256) : bcol x g (ix2 0 e) = x (ix2 0 ⟨256 * (g % 4) + e.val, by omega⟩) := by
  unfold bcol
  exact View.ld_unit_apply_of x _ _ _ _ _ fun a => by fin_cases a <;> simp

variable (h : Vec Ideal S2048x1024 .bf16) (X : Vec Ideal S1024x1024 .bf16) (B : Vec Ideal S1x1024 .f32) (cs sn : FVec Ideal S2048x128 .f32) (i : Fin 2048)

/-- Section `n` of the rows' product with a slab, -/
def half (n : ℕ) : FVec Ideal S2048x128 .f32 :=
  if n % 2 = 0 then lo (k0_pay10 h (wcol X (n / 2)) (bcol B (n / 2))) else hi (k0_pay10 h (wcol X (n / 2)) (bcol B (n / 2)))

/-- at an element. -/
theorem half_at (n : ℕ) (hn : n < 8) (d : Fin 128) : half h X B n (ix2 i d) =
    lin (fun k => h (ix2 i k)) (fun k => X (ix2 k ⟨128 * n + d.val, by omega⟩)) (B (ix2 0 ⟨128 * n + d.val, by omega⟩)) := by
  unfold half
  by_cases h2 : n % 2 = 0
  · have e : (⟨256 * (n / 2 % 4) + d.val, by omega⟩ : Fin 1024) = ⟨128 * n + d.val, by omega⟩ :=
      Fin.ext (by show 256 * (n / 2 % 4) + d.val = 128 * n + d.val; omega)
    rw [if_pos h2, lo_at, pay10_at]
    simp only [wcol_at, bcol_at, e]
  · have e : (⟨256 * (n / 2 % 4) + (128 + d.val), by omega⟩ : Fin 1024) = ⟨128 * n + d.val, by omega⟩ :=
      Fin.ext (by show 256 * (n / 2 % 4) + (128 + d.val) = 128 * n + d.val; omega)
    rw [if_neg h2, hi_at, pay10_at]
    simp only [wcol_at, bcol_at, e]

/-- The pieces are the sections', stored from the last to the first. -/
theorem pieces_eq (k : Kind) : pieces (F := Ideal) k h (wcol X) (bcol B) cs sn = [7, 6, 5, 4, 3, 2, 1, 0].map fun n => pcU n (sec k cs sn (half h X B n)) := rfl

/-- The sections, read back at a row and a channel. -/
theorem canon_secs (w : ℕ → FVec Ideal S1x1x2048x128 .bf16) (y : S1x1x2048x1024.Idx) :
    View.canon (Val := Elt Ideal) ([7, 6, 5, 4, 3, 2, 1, 0].map fun n => (pcU n (w n) : View.Piece (Elt Ideal) S1x1x2048x1024 .bf16)) y
      = w ((y 3).val / 128) (ix4 0 0 ⟨(y 2).val, (y 2).isLt⟩ ⟨(y 3).val % 128, Nat.mod_lt _ (by decide)⟩) := by
  refine View.canon_apply_of_pieces (Val := Elt Ideal) (e := .bf16) (fun y : S1x1x2048x1024.Idx =>
    w ((y 3).val / 128) (ix4 0 0 ⟨(y 2).val, (y 2).isLt⟩ ⟨(y 3).val % 128, Nat.mod_lt _ (by decide)⟩)) _ ?_ y ?_
  · intro p hp x
    obtain ⟨n, hn, rfl⟩ := List.mem_map.mp hp
    have hn8 : n < 8 := (by decide : ∀ n ∈ [7, 6, 5, 4, 3, 2, 1, 0], n < 8) n hn
    have x0 : (x 0).val < 1 := (x 0).isLt
    have x1 : (x 1).val < 1 := (x 1).isLt
    have x3 : (x 3).val < 128 := (x 3).isLt
    have e2 : ((Rect.unit (s := S1x1x2048x1024) ![0, 0, 0, 128 * (n % 8)] S1x1x2048x128.size (inbU n)).emb x 2).val = 0 + (x 2).val :=
      Rect.idx_unit_val _ _ _ _ _
    have e3 : ((Rect.unit (s := S1x1x2048x1024) ![0, 0, 0, 128 * (n % 8)] S1x1x2048x128.size (inbU n)).emb x 3).val = 128 * (n % 8) + (x 3).val :=
      Rect.idx_unit_val _ _ _ _ _
    show w n x = w _ _
    have hd : (128 * (n % 8) + (x 3).val) / 128 = n := by omega
    have hm : (128 * (n % 8) + (x 3).val) % 128 = (x 3).val := by omega
    rw [e3, hd]
    refine congrArg (w n) ?_
    funext a; apply Fin.ext
    match a with
    | 0 => show (x 0).val = 0; omega
    | 1 => show (x 1).val = 0; omega
    | 2 =>
      show (x 2).val = ((Rect.unit (s := S1x1x2048x1024) ![0, 0, 0, 128 * (n % 8)] S1x1x2048x128.size (inbU n)).emb x 2).val
      rw [e2]; omega
    | 3 => show (x 3).val = (128 * (n % 8) + (x 3).val) % 128; rw [hm]
  · have y0 : (y 0).val < 1 := (y 0).isLt
    have y1 : (y 1).val < 1 := (y 1).isLt
    have y2 : (y 2).val < 2048 := (y 2).isLt
    have y3 : (y 3).val < 1024 := (y 3).isLt
    refine ⟨_, List.mem_map.mpr ⟨(y 3).val / 128, ?_, rfl⟩, ?_⟩
    · exact (by decide : ∀ n < 8, n ∈ [7, 6, 5, 4, 3, 2, 1, 0]) _ (by omega)
    · rw [Rect.mem_set_unit]
      intro a
      match a with
      | 0 => show 0 ≤ (y 0).val ∧ (y 0).val < 0 + 1; omega
      | 1 => show 0 ≤ (y 1).val ∧ (y 1).val < 0 + 1; omega
      | 2 => show 0 ≤ (y 2).val ∧ (y 2).val < 0 + 2048; omega
      | 3 => show 128 * ((y 3).val / 128 % 8) ≤ (y 3).val ∧ (y 3).val < 128 * ((y 3).val / 128 % 8) + 128; omega

/-- A turned section is the turn's, when the tables are the angle tables laid out over a head. -/
theorem rot_half {C S : Fin 64 → EReal} (n : ℕ) (hn : n < 8) (d : Fin 128)
    (hc : ∀ d : Fin 128, cs (ix2 i d) = C ⟨d.val % 64, by omega⟩)
    (hs : ∀ d : Fin 128, sn (ix2 i d) = if d.val < 64 then - S ⟨d.val % 64, by omega⟩ else S ⟨d.val % 64, by omega⟩) :
    rot cs sn (half h X B n) (ix2 i d) =
      turn (fun e => lin (fun k => h (ix2 i k)) (fun k => X (ix2 k e)) (B (ix2 0 e))) C S ⟨128 * n + d.val, by omega⟩ := by
  rw [rot_at, half_at h X B i n hn, half_at h X B i n hn, hc, hs]
  exact turn_eq (fun e => lin (fun k => h (ix2 i k)) (fun k => X (ix2 k e)) (B (ix2 0 e))) C S n hn d

/-- A stored section is the slab's, by the step's kind. -/
theorem sec_at {C S : Fin 64 → EReal} (k : Kind) (s : Fin 11) (hk : k = if s.val = 0 then 0 else if s.val = 1 then 1 else 2)
    (n : ℕ) (hn : n < 8) (d : Fin 128)
    (hc : ∀ d : Fin 128, cs (ix2 i d) = C ⟨d.val % 64, by omega⟩)
    (hs : ∀ d : Fin 128, sn (ix2 i d) = if d.val < 64 then - S ⟨d.val % 64, by omega⟩ else S ⟨d.val % 64, by omega⟩) :
    sec (F := Ideal) k cs sn (half h X B n) (ix4 0 0 i d) =
      slab s (fun e => lin (fun k => h (ix2 i k)) (fun k => X (ix2 k e)) (B (ix2 0 e))) C S ⟨128 * n + d.val, by omega⟩ := by
  have hr := rot_half h X B cs sn i n hn d hc hs
  unfold slab
  by_cases h0 : s.val = 0
  · rw [if_pos h0] at hk ⊢
    subst hk
    rw [← hr]
    exact put_at _ i d
  rw [if_neg h0] at hk ⊢
  by_cases h1 : s.val = 1
  · rw [if_pos h1] at hk ⊢
    subst hk
    rw [← hr]
    exact put_at _ i d
  rw [if_neg h1] at hk ⊢
  subst hk
  exact (put_at _ i d).trans (half_at h X B i n hn d)

/-- The slab as left, at a row and a channel. -/
theorem slab_at {C S : Fin 64 → EReal} (k : Kind) (s : Fin 11) (hk : k = if s.val = 0 then 0 else if s.val = 1 then 1 else 2) (e : Fin 1024)
    (hc : ∀ d : Fin 128, cs (ix2 i d) = C ⟨d.val % 64, by omega⟩)
    (hs : ∀ d : Fin 128, sn (ix2 i d) = if d.val < 64 then - S ⟨d.val % 64, by omega⟩ else S ⟨d.val % 64, by omega⟩) :
    View.canon (pieces (F := Ideal) k h (wcol X) (bcol B) cs sn) (ix4 0 0 i e) =
      slab s (fun e => lin (fun k => h (ix2 i k)) (fun k => X (ix2 k e)) (B (ix2 0 e))) C S e := by
  rw [pieces_eq, canon_secs]
  refine (sec_at h X B cs sn i k s hk (e.val / 128) (by omega) ⟨e.val % 128, Nat.mod_lt _ (by decide)⟩ hc hs).trans ?_
  exact congrArg (slab s _ C S) (Fin.ext (by show 128 * (e.val / 128) + e.val % 128 = e.val; omega))

end Cert.Kernel3Ideal.Hand
end
-- ==== Proof.ProjHost.lean ====
/- What the host prepares for the input-projection kernel, read at an element, over the extended reals. -/
module

public import proofs.«01_k».proof.Proof.ProjSpec
public import proofs.«01_k».proof.Proof.Gen.Kernel3Ideal.Frame
public import proofs.«01_k».proof.Proof.Gen.Reference3Ideal.Read
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select
public import Idealize.ShloMosaic.Lib.Pipeline.ValueKit
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe
open Cert.Proj

variable (m : (ℓ : Loc nD τ sig) → Buf (Elt Ideal) ℓ)

/-- The angles' cosines and sines, as both programs' hosts compute them. -/
abbrev cosT : Tab := Cert.Reference3Ideal.Read.val_main_v24 (F := Ideal)
@[inherit_doc cosT] abbrev sinT : Tab := Cert.Reference3Ideal.Read.val_main_v25 (F := Ideal)

theorem V24 (c : Dev nD) : V m c main_v24 = cosT := by
  rfl
theorem V25 (c : Dev nD) : V m c main_v25 = sinT := by
  rfl
/-- The array the arguments give each operand of the launch. -/
theorem V26 (c : Dev nD) : V m c main_v26 = concatenate S2048x128 1 [⟨S2048x64, cosT⟩, ⟨S2048x64, cosT⟩] concatenates_S2048x64_S2048x64_S2048x128_d1 := by
  rfl
theorem V28 (c : Dev nD) : V m c main_v28 = concatenate S2048x128 1 [⟨S2048x64, Host.negf sinT⟩, ⟨S2048x64, sinT⟩] concatenates_S2048x64_S2048x64_S2048x128_d1 := by
  rfl
theorem V32 (c : Dev nD) : V m c main_v32 = truncf (F := Ideal) .bf16 (concatenate S1024x11264 1
    [⟨S1024x9216, extractStridedSlice S1024x9216 ![0, 0] (m ((c : Thread nD τ).loc main_arg4)) slices_S1024x11296_S1024x9216_0_0⟩,
     ⟨S1024x2048, extractStridedSlice S1024x2048 ![0, 9248] (m ((c : Thread nD τ).loc main_arg4)) slices_S1024x11296_S1024x2048_0_9248⟩]
      concatenates_S1024x9216_S1024x2048_S1024x11264_d1 : FVec Ideal S1024x11264 .f32) bitsLt_bf16_f32 := by
  rfl
theorem V36 (c : Dev nD) : V m c main_v36 = shapeCast S1x11264 (concatenate S11264 0
    [⟨S9216, extractStridedSlice S9216 ![0] (m ((c : Thread nD τ).loc main_arg5)) slices_S11296_S9216_0⟩,
     ⟨S2048, extractStridedSlice S2048 ![9248] (m ((c : Thread nD τ).loc main_arg5)) slices_S11296_S2048_9248⟩]
      concatenates_S9216_S2048_S11264_d0 : FVec Ideal S11264 .f32) shapeCasts_S11264_S1x11264 := by
  rfl
theorem V39 (c : Dev nD) : V m c main_v39 = truncf (F := Ideal) .bf16 (pad S1024x128 ![0, 0] ![0, 96] ![0, 0]
    (extractStridedSlice S1024x32 ![0, 9216] (m ((c : Thread nD τ).loc main_arg4)) slices_S1024x11296_S1024x32_0_9216 : FVec Ideal S1024x32 .f32)
      (sitofp .f32 (constantI S_ 32 0#32)) pads_S1024x32_S1024x128_000_0960 h_S_) bitsLt_bf16_f32 := by
  rfl
theorem V42 (c : Dev nD) : V m c main_v42 = shapeCast S1x128 (pad S128 ![0] ![96] ![0]
    (extractStridedSlice S32 ![9216] (m ((c : Thread nD τ).loc main_arg5)) slices_S11296_S32_9216 : FVec Ideal S32 .f32)
      (sitofp .f32 (constantI S_ 32 0#32)) pads_S32_S128_0960 h_S_) shapeCasts_S128_S1x128 := by
  rfl
theorem V43 (c : Dev nD) : V m c main_v43 = shapeCast S1x1024 (m ((c : Thread nD τ).loc main_arg1)) shapeCasts_S1024_S1x1024 := by
  rfl
theorem V44 (c : Dev nD) : V m c main_v44 = shapeCast S32x1x1024 (m ((c : Thread nD τ).loc main_arg2)) shapeCasts_S32x1024_S32x1x1024 := by
  rfl
theorem V45 (c : Dev nD) : V m c main_v45 = shapeCast S32x1x1024 (m ((c : Thread nD τ).loc main_arg3)) shapeCasts_S32x1024_S32x1x1024 := by
  rfl

/-- The slabs' columns skip the gates'. -/
def skip (j : Fin 11264) : Fin 11296 := if j.val < 9216 then ⟨j.val, by omega⟩ else ⟨j.val + 32, by omega⟩

theorem skip_lt {j : Fin 11264} (h : j.val < 9216) : skip j = ⟨j.val, by omega⟩ := if_pos h
theorem skip_ge {j : Fin 11264} (h : ¬ j.val < 9216) : skip j = ⟨9248 + (j.val - 9216), by omega⟩ :=
  (if_neg h).trans (Fin.ext (by show j.val + 32 = 9248 + (j.val - 9216); omega))
/-- Slab `s` of them is the slab of the weights. -/
theorem skip_col (s : Fin 11) (e : Fin 1024) (h : 1024 * s.val + e.val < 11264) : skip ⟨1024 * s.val + e.val, h⟩ = col s e := by
  unfold skip col
  by_cases h9 : s.val < 9
  · rw [if_pos (show 1024 * s.val + e.val < 9216 by omega), dif_pos h9]
  · rw [if_neg (show ¬ 1024 * s.val + e.val < 9216 by omega), dif_neg h9]
    exact Fin.ext (by show 1024 * s.val + e.val + 32 = 1024 * s.val + 32 + e.val; omega)

/-- The launch's operands at an element. -/
theorem V26_at (c : Dev nD) (l : Fin 2048) (d : Fin 128) : V m c main_v26 (ix2 l d) = cosT (ix2 l ⟨d.val % 64, by omega⟩) := by
  rw [V26]
  pointwise
  by_cases h : d.val < 64
  · rw [dif_pos h]
    exact congrArg cosT (congrArg (ix2 l) (Fin.ext (Nat.mod_eq_of_lt h).symm))
  · rw [dif_neg h]
    exact congrArg cosT (congrArg (ix2 l) (Fin.ext (by show d.val - 64 = d.val % 64; omega)))
@[inherit_doc V26_at]
theorem V28_at (c : Dev nD) (l : Fin 2048) (d : Fin 128) : V m c main_v28 (ix2 l d) =
    if d.val < 64 then - sinT (ix2 l ⟨d.val % 64, by omega⟩) else sinT (ix2 l ⟨d.val % 64, by omega⟩) := by
  rw [V28]
  pointwise
  by_cases h : d.val < 64
  · rw [dif_pos h, if_pos h]
    exact congrArg (fun i => - sinT (ix2 l i)) (Fin.ext (Nat.mod_eq_of_lt h).symm)
  · rw [dif_neg h, if_neg h]
    exact congrArg sinT (congrArg (ix2 l) (Fin.ext (by show d.val - 64 = d.val % 64; omega)))
@[inherit_doc V26_at]
theorem V32_at (c : Dev nD) (k : Fin 1024) (j : Fin 11264) : V m c main_v32 (ix2 k j) = m ((c : Thread nD τ).loc main_arg4) (ix2 k (skip j)) := by
  rw [V32]
  pointwise
  by_cases h : j.val < 9216
  · rw [dif_pos h, skip_lt h]
  · rw [dif_neg h, skip_ge h]
@[inherit_doc V26_at]
theorem V36_at (c : Dev nD) (j : Fin 11264) : V m c main_v36 (ix2 0 j) = m ((c : Thread nD τ).loc main_arg5) (ix1 (skip j)) := by
  rw [V36]
  pointwise
  by_cases h : j.val < 9216
  · rw [dif_pos h, skip_lt h]
  · rw [dif_neg h, skip_ge h]
@[inherit_doc V26_at]
theorem V39_at (c : Dev nD) (k : Fin 1024) (e : Fin 32) : V m c main_v39 (ix2 k ⟨e.val, by omega⟩) = m ((c : Thread nD τ).loc main_arg4) (ix2 k (gcol e)) := by
  rw [V39]
  pointwise
  rfl
@[inherit_doc V26_at]
theorem V42_at (c : Dev nD) (e : Fin 32) : V m c main_v42 (ix2 0 ⟨e.val, by omega⟩) = m ((c : Thread nD τ).loc main_arg5) (ix1 (gcol e)) := by
  rw [V42]
  pointwise
  rfl
@[inherit_doc V26_at]
theorem V43_at (c : Dev nD) (e : Fin 1024) : V m c main_v43 (ix2 0 e) = m ((c : Thread nD τ).loc main_arg1) (ix1 e) := by
  rw [V43]
  pointwise
@[inherit_doc V26_at]
theorem V44_at (c : Dev nD) (n : Fin 32) (e : Fin 1024) : V m c main_v44 (ix3 n 0 e) = m ((c : Thread nD τ).loc main_arg2) (ix2 n e) := by
  rw [V44]
  pointwise
@[inherit_doc V26_at]
theorem V45_at (c : Dev nD) (n : Fin 32) (e : Fin 1024) : V m c main_v45 (ix3 n 0 e) = m ((c : Thread nD τ).loc main_arg3) (ix2 n e) := by
  rw [V45]
  pointwise

end Cert.Kernel3Ideal.Hand
end
-- ==== Proof.ProjKernelArr.lean ====
/- The input-projection kernel's results after the launch: the slabs and the gates of the arguments as launched. -/
module

public import proofs.«01_k».proof.Proof.ProjKernelSlab
public import proofs.«01_k».proof.Proof.ProjHost
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem
open Cert.Proj

variable (m : (ℓ : Loc nD τ sig) → Buf (Elt Ideal) ℓ) (ρ : Dev nD → PrngReg)

/-- The slabs of the arguments as launched, -/
def goalU (c : Dev nD) : FVec Ideal ⟨4, ![11, 32, 2048, 1024]⟩ .bf16 :=
  slabs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) cosT sinT
/-- and the gates. -/
def goalG (c : Dev nD) : FVec Ideal ⟨3, ![32, 2048, 32]⟩ .f32 :=
  gates (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The point's batch element and its step. -/
def pb (t : Fin cfg0.N) : Fin 32 := grid0.coords t 0
@[inherit_doc pb] def ps (t : Fin cfg0.N) : Fin 11 := grid0.coords t 2

/-- Where each window's block is at a point. -/
theorem e0 : ∀ t : Fin cfg0.N, win0_0.index t = ![(pb t).val, 0, 0] := (by decide +kernel : ∀ t : Fin grid0.N, _)
@[inherit_doc e0] theorem e1 : ∀ t : Fin cfg0.N, win0_1.index t = ![0, 0] := (by decide +kernel : ∀ t : Fin grid0.N, _)
@[inherit_doc e0] theorem e2 : ∀ t : Fin cfg0.N, win0_2.index t = ![(pb t).val, 0, 0] := (by decide +kernel : ∀ t : Fin grid0.N, _)
@[inherit_doc e0] theorem e3 : ∀ t : Fin cfg0.N, win0_3.index t = ![(pb t).val, 0, 0] := (by decide +kernel : ∀ t : Fin grid0.N, _)
@[inherit_doc e0] theorem e4 : ∀ t : Fin cfg0.N, win0_4.index t = ![0, (ps t).val] := (by decide +kernel : ∀ t : Fin grid0.N, _)
@[inherit_doc e0] theorem e5 : ∀ t : Fin cfg0.N, win0_5.index t = ![0, (ps t).val] := (by decide +kernel : ∀ t : Fin grid0.N, _)
@[inherit_doc e0] theorem e6 : ∀ t : Fin cfg0.N, win0_6.index t = ![0, 0] := (by decide +kernel : ∀ t : Fin grid0.N, _)
@[inherit_doc e0] theorem e7 : ∀ t : Fin cfg0.N, win0_7.index t = ![0, 0] := (by decide +kernel : ∀ t : Fin grid0.N, _)
@[inherit_doc e0] theorem e8 : ∀ t : Fin cfg0.N, win0_8.index t = ![0, 0] := (by decide +kernel : ∀ t : Fin grid0.N, _)
@[inherit_doc e0] theorem e9 : ∀ t : Fin cfg0.N, win0_9.index t = ![0, 0] := (by decide +kernel : ∀ t : Fin grid0.N, _)
@[inherit_doc e0] theorem e10 : ∀ t : Fin cfg0.N, win0_10.index t = ![(ps t).val, (pb t).val, 0, 0] := (by decide +kernel : ∀ t : Fin grid0.N, _)
@[inherit_doc e0] theorem e11 : ∀ t : Fin cfg0.N, win0_11.index t = ![(pb t).val, 0, 0] := (by decide +kernel : ∀ t : Fin grid0.N, _)

/-- A point's step says its kind. -/
theorem kind_eq (t : Fin cfg0.N) : kind t = if (ps t).val = 0 then 0 else if (ps t).val = 1 then 1 else 2 := by
  unfold kind
  rw [show (ps t).val = t.val % 11 from step_eq t]

/-- The point's blocks hold the arguments' rows of its batch element, -/
theorem blk0 (c : Dev nD) (t : Fin cfg0.N) (i : Fin 2048) (k : Fin 1024) : iblk m c 0 t (ix3 0 i k) = m ((c : Thread nD τ).loc main_arg0) (ix3 (pb t) i k) := by
  blk_ext! [iblk, V_main_arg0, e0 t]
@[inherit_doc blk0]
theorem blk1 (c : Dev nD) (t : Fin cfg0.N) (k : Fin 1024) : iblk m c 1 t (ix2 0 k) = m ((c : Thread nD τ).loc main_arg1) (ix1 k) := by
  refine Eq.trans (b := V m c main_v43 (ix2 0 k)) ?_ (V43_at m c k)
  blk_simp [iblk]; refine congrArg (V m c main_v43) ?_; blk_ext [e1 t]
@[inherit_doc blk0]
theorem blk2 (c : Dev nD) (t : Fin cfg0.N) (k : Fin 1024) : iblk m c 2 t (ix3 0 0 k) = m ((c : Thread nD τ).loc main_arg2) (ix2 (pb t) k) := by
  refine Eq.trans (b := V m c main_v44 (ix3 (pb t) 0 k)) ?_ (V44_at m c (pb t) k)
  blk_simp [iblk]; refine congrArg (V m c main_v44) ?_; blk_ext [e2 t]
@[inherit_doc blk0]
theorem blk3 (c : Dev nD) (t : Fin cfg0.N) (k : Fin 1024) : iblk m c 3 t (ix3 0 0 k) = m ((c : Thread nD τ).loc main_arg3) (ix2 (pb t) k) := by
  refine Eq.trans (b := V m c main_v45 (ix3 (pb t) 0 k)) ?_ (V45_at m c (pb t) k)
  blk_simp [iblk]; refine congrArg (V m c main_v45) ?_; blk_ext [e3 t]
/-- the slab's columns of the weights and of the bias, -/
theorem blk4 (c : Dev nD) (t : Fin cfg0.N) (k e : Fin 1024) : iblk m c 4 t (ix2 k e) = m ((c : Thread nD τ).loc main_arg4) (ix2 k (col (ps t) e)) := by
  have hb : 1024 * (ps t).val + e.val < 11264 := by have := (ps t).isLt; omega
  rw [← skip_col (ps t) e hb]
  refine Eq.trans (b := V m c main_v32 (ix2 k ⟨1024 * (ps t).val + e.val, hb⟩)) ?_ (V32_at m c k _)
  blk_simp [iblk]; refine congrArg (V m c main_v32) ?_; blk_ext [e4 t]
@[inherit_doc blk4]
theorem blk5 (c : Dev nD) (t : Fin cfg0.N) (e : Fin 1024) : iblk m c 5 t (ix2 0 e) = m ((c : Thread nD τ).loc main_arg5) (ix1 (col (ps t) e)) := by
  have hb : 1024 * (ps t).val + e.val < 11264 := by have := (ps t).isLt; omega
  rw [← skip_col (ps t) e hb]
  refine Eq.trans (b := V m c main_v36 (ix2 0 ⟨1024 * (ps t).val + e.val, hb⟩)) ?_ (V36_at m c _)
  blk_simp [iblk]; refine congrArg (V m c main_v36) ?_; blk_ext [e5 t]
/-- the gates' columns, padded, -/
theorem blk6 (c : Dev nD) (t : Fin cfg0.N) (k : Fin 1024) (e : Fin 128) : iblk m c 6 t (ix2 k e) = V m c main_v39 (ix2 k e) := by
  blk_simp [iblk]; refine congrArg (V m c main_v39) ?_; blk_ext [e6 t]
@[inherit_doc blk6]
theorem blk7 (c : Dev nD) (t : Fin cfg0.N) (e : Fin 128) : iblk m c 7 t (ix2 0 e) = V m c main_v42 (ix2 0 e) := by
  blk_simp [iblk]; refine congrArg (V m c main_v42) ?_; blk_ext [e7 t]
/-- and the angle tables, laid out over a head. -/
theorem blk8 (c : Dev nD) (t : Fin cfg0.N) (l : Fin 2048) (d : Fin 128) : iblk m c 8 t (ix2 l d) = cosT (ix2 l ⟨d.val % 64, by omega⟩) := by
  refine Eq.trans (b := V m c main_v26 (ix2 l d)) ?_ (V26_at m c l d)
  blk_simp [iblk]; refine congrArg (V m c main_v26) ?_; blk_ext [e8 t]
@[inherit_doc blk8]
theorem blk9 (c : Dev nD) (t : Fin cfg0.N) (l : Fin 2048) (d : Fin 128) : iblk m c 9 t (ix2 l d) =
    if d.val < 64 then - sinT (ix2 l ⟨d.val % 64, by omega⟩) else sinT (ix2 l ⟨d.val % 64, by omega⟩) := by
  refine Eq.trans (b := V m c main_v28 (ix2 l d)) ?_ (V28_at m c l d)
  blk_simp [iblk]; refine congrArg (V m c main_v28) ?_; blk_ext [e9 t]

/-- The rows a point works on are its batch element's. -/
theorem rows_at (c : Dev nD) (t : Fin cfg0.N) (i : Fin 2048) (k : Fin 1024) : hOf m c t (ix2 i k) =
    rowAt (m ((c : Thread nD τ).loc main_arg0)) (m ((c : Thread nD τ).loc main_arg1)) (m ((c : Thread nD τ).loc main_arg2))
      (m ((c : Thread nD τ).loc main_arg3)) (pb t) i k := by
  unfold hOf
  rw [pay8_at]
  simp only [blk0, blk1, blk2, blk3]
  rfl

/-- The slabs after the launch. -/
theorem arr10 (c : Dev nD) : (dats (F := Ideal) m 0 c).arrAt 10 cfg0.N = goalU m c := by
  refine (dats (F := Ideal) m 0 c).arrAt_eq_of_covers 10 (goalU m c) (by decide +kernel) fun t hf y => ?_
  blk_simp
  rw [aft10]
  have y0 : (y 0).val < 1 := (y 0).isLt
  have y1 : (y 1).val < 1 := (y 1).isLt
  have y2 : (y 2).val < 2048 := (y 2).isLt
  have y3 : (y 3).val < 1024 := (y 3).isLt
  have ey : y = ix4 0 0 ⟨(y 2).val, y2⟩ ⟨(y 3).val, y3⟩ := by
    funext a; apply Fin.ext; match a with | 0 => show (y 0).val = 0; omega | 1 => show (y 1).val = 0; omega | 2 => rfl | 3 => rfl
  have eg : (win0_10.blk t).view.emb y = ix4 (ps t) (pb t) ⟨(y 2).val, y2⟩ ⟨(y 3).val, y3⟩ := by blk_ext [e10 t]
  rw [eg]
  conv_lhs => rw [ey]
  unfold uOf
  rw [slab_at (C := fun i => cosT (ix2 ⟨(y 2).val, y2⟩ i)) (S := fun i => sinT (ix2 ⟨(y 2).val, y2⟩ i)) (hOf m c t) (iblk m c 4 t) (iblk m c 5 t) (iblk m c 8 t) (iblk m c 9 t) ⟨(y 2).val, y2⟩ (kind t) (ps t) (kind_eq t) ⟨(y 3).val, y3⟩
    (fun d => blk8 m c t _ d) (fun d => blk9 m c t _ d)]
  simp only [rows_at, blk4, blk5]
  rfl

/-- The gates' array after the launch: the rows' product with the padded columns. -/
def wideAt (c : Dev nD) (n : Fin 32) (l : Fin 2048) (e : Fin 128) : EReal :=
  lin (rowAt (m ((c : Thread nD τ).loc main_arg0)) (m ((c : Thread nD τ).loc main_arg1)) (m ((c : Thread nD τ).loc main_arg2))
    (m ((c : Thread nD τ).loc main_arg3)) n l) (fun k => V m c main_v39 (ix2 k e)) (V m c main_v42 (ix2 0 e))
@[inherit_doc wideAt]
def wide (c : Dev nD) : FVec Ideal S32x2048x128 .f32 := fun j => wideAt m c (j 0) (j 1) (j 2)
@[inherit_doc wideAt]
theorem arr11 (c : Dev nD) : (dats (F := Ideal) m 0 c).arrAt 11 cfg0.N = wide m c := by
  refine (dats (F := Ideal) m 0 c).arrAt_eq_of_covers 11 (wide m c) (by decide +kernel) fun t hf y => ?_
  blk_simp
  rw [aft11]
  have y0 : (y 0).val < 1 := (y 0).isLt
  have y1 : (y 1).val < 2048 := (y 1).isLt
  have y2 : (y 2).val < 128 := (y 2).isLt
  have ey : y = ix3 0 ⟨(y 1).val, y1⟩ ⟨(y 2).val, y2⟩ := by
    funext a; apply Fin.ext; match a with | 0 => show (y 0).val = 0; omega | 1 => rfl | 2 => rfl
  have eg : (win0_11.blk t).view.emb y = ix3 (pb t) ⟨(y 1).val, y1⟩ ⟨(y 2).val, y2⟩ := by blk_ext [e11 t]
  rw [eg]
  conv_lhs => rw [ey]
  unfold gOf
  rw [gate_at]
  simp only [blk0, blk1, blk2, blk3, blk6, blk7]
  rfl

/-- An array's first 32 columns. -/
def first32 (z : FVec Ideal S32x2048x128 .f32) : FVec Ideal S32x2048x32 .f32 :=
  extractStridedSlice S32x2048x32 ![0, 0, 0] z slices_S32x2048x128_S32x2048x32_0_0_0
@[inherit_doc first32]
theorem first32_at (z : FVec Ideal S32x2048x128 .f32) (n : Fin 32) (l : Fin 2048) (e : Fin 32) : first32 z (ix3 n l e) = z (ix3 n l ⟨e.val, by omega⟩) := by
  unfold first32
  pointwise

/-- The gates' array's first 32 columns are the gates. -/
theorem gates_eq (c : Dev nD) : first32 (wide m c) = goalG m c := by
  funext j
  obtain ⟨n, l, e, rfl⟩ : ∃ n l e, j = ix3 n l e := ⟨j 0, j 1, j 2, by
    funext a; apply Fin.ext; match a with | 0 => rfl | 1 => rfl | 2 => rfl⟩
  rw [first32_at]
  refine Eq.trans (b := wideAt m c n l ⟨e.val, by omega⟩) rfl ?_
  unfold wideAt
  exact congrArg₂ (lin _) (funext fun k => V39_at m c k e) (V42_at m c e)

/-- The second result after the launch. -/
theorem tail47 (c : Dev nD) : Pipeline.afterTail₀ cfgs (dats (F := Ideal) m) 0 (V0 m) [hostOps1] c main_v47 = goalG m c := by
  refine Eq.trans (b := first32 (Pipeline.withArrays spec0 c (V0 m c) (fun w => (dats (F := Ideal) m 0 c).arrAt w cfg0.N) (Proc.devRef .tc main_v46_1))) ?_
    (Eq.trans (congrArg first32 ?_) (gates_eq m c))
  · rfl
  · refine Eq.trans ?_ (arr11 m c)
    exact Pipeline.withArrays_arr spec0 (by decide) c (V0 m c) (fun w => (dats (F := Ideal) m 0 c).arrAt w cfg0.N) 11

end Cert.Kernel3Ideal.Hand
end
-- ==== Proof.ProjRefAt.lean ====
/- The reference's input projection read at an element, over the extended reals. -/
module

public import proofs.«01_k».proof.Proof.ProjSpec
public import proofs.«01_k».proof.Proof.Gen.Reference3Ideal.Read
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select
public import Idealize.ShloMosaic.Lib.Pipeline.Value

@[expose] public section

set_option maxRecDepth 16384

noncomputable section

namespace Cert.Reference3Ideal.Hand

open Cert.Reference3Ideal Cert.Reference3Ideal.Gen Cert.Reference3Ideal.Read
open Idealize.ShloMosaic Idealize.ShloMosaic.TcCoe
open Cert.Proj

variable (x : Tok) (nw : Row) (sc sh : PerBatch) (w : Wgt) (bi : Bias) (n : Fin 32) (l : Fin 2048)

/-- The modulated rows. -/
theorem v46_at (d : Fin 1024) : val_main_v46 (F := Ideal) x nw sc sh (ix3 n l d) = rowAt x nw sc sh n l d := by
  unfold val_main_v46 val_main_v45 val_main_v44 val_main_v43 val_main_v42 val_main_v41 val_main_v40 val_main_v39 val_main_v38 val_main_v37
    val_main_v36 val_main_v35 val_main_v34 val_main_v33 val_main_v32 val_main_v31 val_main_v30 val_main_v29 val_main_v28 val_main_v27 val_main_v26
    val_main_cst_1 val_main_cst_2 val_main_cst_3 val_main_cst_4
  pointwise
  rfl

/-- Their projection. -/
theorem v50_at (j : Fin 11296) : val_main_v50 (F := Ideal) x nw sc sh w bi (ix3 n l j) = linAt x nw sc sh w bi n l j := by
  unfold val_main_v50 val_main_v49 val_main_v48 val_main_v47
  pointwise
  simp only [v46_at]
  rfl

/-- A slab of the projection at a channel, by where its columns begin. -/
theorem at_col {o : ℕ} {s : Fin 11} {e : Fin 1024} (h : o + e.val < 11296) (ho : o = if s.val < 9 then 1024 * s.val else 1024 * s.val + 32) :
    val_main_v50 (F := Ideal) x nw sc sh w bi (ix3 n l ⟨o + e.val, h⟩) = linAt x nw sc sh w bi n l (col s e) := by
  rw [v50_at]
  refine congrArg (linAt x nw sc sh w bi n l) (Fin.ext ?_)
  unfold col
  by_cases h9 : s.val < 9
  · rw [dif_pos h9]; rw [if_pos h9] at ho; subst ho; rfl
  · rw [dif_neg h9]; rw [if_neg h9] at ho; subst ho; rfl

/-- The queries as projected, -/
theorem v51_at (e : Fin 1024) : val_main_v51 (F := Ideal) x nw sc sh w bi (ix3 n l e) = linAt x nw sc sh w bi n l (col 0 e) := by
  unfold val_main_v51
  pointwise
  rw [v50_at]
  refine congrArg (linAt x nw sc sh w bi n l) (Fin.ext ?_)
  unfold col
  rw [dif_pos (by decide)]
  show e.val = 1024 * 0 + e.val
  omega
/-- and the keys. -/
theorem v52_at (e : Fin 1024) : val_main_v52 (F := Ideal) x nw sc sh w bi (ix3 n l e) = linAt x nw sc sh w bi n l (col 1 e) := by
  unfold val_main_v52
  pointwise
  exact at_col x nw sc sh w bi n l (o := 1024) (by omega) rfl

/-- A head's rows turned, from the head's halves. -/
theorem turned (v : Fin 1024 → EReal) (cs sn : Fin 64 → EReal) (h : Fin 8) (d : Fin 128) :
    (if h1 : d.val < 64 then
        v ⟨h.val * 128 + d.val, by omega⟩ * cs ⟨d.val, h1⟩ - v ⟨h.val * 128 + (64 + d.val), by omega⟩ * sn ⟨d.val, h1⟩
      else
        v ⟨h.val * 128 + (d.val - 64), by omega⟩ * sn ⟨d.val - 64, by omega⟩
          + v ⟨h.val * 128 + (64 + (d.val - 64)), by omega⟩ * cs ⟨d.val - 64, by omega⟩)
      = turn v cs sn ⟨h.val * 128 + d.val, by omega⟩ := by
  unfold turn
  have hm : (h.val * 128 + d.val) % 128 = d.val := by omega
  by_cases h1 : d.val < 64
  · rw [dif_pos h1, dif_pos (show (h.val * 128 + d.val) % 128 < 64 by omega)]
    congr 3 <;> exact Fin.ext (by first | exact hm.symm | (show h.val * 128 + (64 + d.val) = h.val * 128 + d.val + 64; omega))
  · rw [dif_neg h1, dif_neg (show ¬ (h.val * 128 + d.val) % 128 < 64 by omega)]
    congr 3 <;> exact Fin.ext (by
      first
      | (show d.val - 64 = (h.val * 128 + d.val) % 128 - 64; omega)
      | (show h.val * 128 + (d.val - 64) = h.val * 128 + d.val - 64; omega)
      | (show h.val * 128 + (64 + (d.val - 64)) = h.val * 128 + d.val; omega))

/-- The queries turned, -/
theorem v83_at (h : Fin 8) (d : Fin 128) : val_main_v83 (F := Ideal) x nw sc sh w bi (ix4 n h l d) =
    turn (fun e => linAt x nw sc sh w bi n l (col 0 e)) (fun i => val_main_v24 (F := Ideal) (ix2 l i)) (fun i => val_main_v25 (F := Ideal) (ix2 l i))
      ⟨h.val * 128 + d.val, by omega⟩ := by
  rw [← turned]
  unfold val_main_v83 val_main_v82 val_main_v81 val_main_v80 val_main_v79 val_main_v78 val_main_v77 val_main_v76 val_main_v75 val_main_v74 val_main_v73 val_main_v72
    val_main_v71 val_main_v70 val_main_v69 val_main_v68 val_main_v67 val_main_v64 val_main_v63
  pointwise
  simp only [v51_at]
/-- and the keys. -/
theorem v100_at (h : Fin 8) (d : Fin 128) : val_main_v100 (F := Ideal) x nw sc sh w bi (ix4 n h l d) =
    turn (fun e => linAt x nw sc sh w bi n l (col 1 e)) (fun i => val_main_v24 (F := Ideal) (ix2 l i)) (fun i => val_main_v25 (F := Ideal) (ix2 l i))
      ⟨h.val * 128 + d.val, by omega⟩ := by
  rw [← turned]
  unfold val_main_v100 val_main_v99 val_main_v98 val_main_v97 val_main_v96 val_main_v95 val_main_v94 val_main_v93 val_main_v92 val_main_v91 val_main_v90 val_main_v89
    val_main_v88 val_main_v87 val_main_v86 val_main_v85 val_main_v84 val_main_v66 val_main_v65
  pointwise
  simp only [v52_at]

/-- A channel from its head and its place in it. -/
theorem chan_eq (e : Fin 1024) (h : e.val / 128 * 128 + e.val % 128 < 1024) : (⟨e.val / 128 * 128 + e.val % 128, h⟩ : Fin 1024) = e :=
  Fin.ext (by show e.val / 128 * 128 + e.val % 128 = e.val; omega)

/-- The first slab, -/
theorem v104_at (e : Fin 1024) : val_main_v104 (F := Ideal) x nw sc sh w bi (ix3 n l e) =
    slabAt x nw sc sh w bi (val_main_v24 (F := Ideal)) (val_main_v25 (F := Ideal)) 0 n l e := by
  unfold val_main_v104 val_main_v103 val_main_v102 val_main_v101 val_main_cst_5
  pointwise
  rw [v83_at]
  simp only [chan_eq]
  rfl
/-- and the second. -/
theorem v106_at (e : Fin 1024) : val_main_v106 (F := Ideal) x nw sc sh w bi (ix3 n l e) =
    slabAt x nw sc sh w bi (val_main_v24 (F := Ideal)) (val_main_v25 (F := Ideal)) 1 n l e := by
  unfold val_main_v106 val_main_v105
  pointwise
  rw [v100_at]
  simp only [chan_eq]
  rfl

/-- A slab after the first two is the projection. -/
theorem plain (cs sn : Tab) (s : Fin 11) (hs : 2 ≤ s.val) (e : Fin 1024) :
    slabAt x nw sc sh w bi cs sn s n l e = linAt x nw sc sh w bi n l (col s e) := by
  unfold slabAt slab
  rw [if_neg (by omega), if_neg (by omega)]

/-- A slab cut out of the projection, as stacked. -/
theorem cut_at (y : FVec Ideal S32x2048x11296 .f32) {o : ℕ} (ho : o + 1024 ≤ 11296) (h : Shape.Slices S32x2048x11296 ![0, 0, o] S32x2048x1024) (e : Fin 1024) :
    broadcastInDim S1x32x2048x1024 ![1, 2, 3] bcast_S32x2048x1024_S1x32x2048x1024_1_2_3 (extractStridedSlice S32x2048x1024 ![0, 0, o] y h) (ix4 0 n l e)
      = y (ix3 n l ⟨o + e.val, by omega⟩) := by
  pointwise
@[inherit_doc cut_at]
theorem part_plain {o : ℕ} (h : Shape.Slices S32x2048x11296 ![0, 0, o] S32x2048x1024) (s : Fin 11) (hs : 2 ≤ s.val)
    (ho : o = if s.val < 9 then 1024 * s.val else 1024 * s.val + 32) (cs sn : Tab) (e : Fin 1024) :
    broadcastInDim S1x32x2048x1024 ![1, 2, 3] bcast_S32x2048x1024_S1x32x2048x1024_1_2_3
        (extractStridedSlice S32x2048x1024 ![0, 0, o] (val_main_v50 (F := Ideal) x nw sc sh w bi) h) (ix4 0 n l e)
      = slabAt x nw sc sh w bi cs sn s n l e := by
  have hb : o + 1024 ≤ 11296 := by have := s.isLt; split at ho <;> omega
  rw [plain x nw sc sh w bi n l cs sn s hs, cut_at n l _ hb]
  exact at_col x nw sc sh w bi n l _ ho

/-- The slabs, -/
def part (s : Fin 11) : FVec Ideal S1x32x2048x1024 .f32 :=
  ![val_main_v107 (F := Ideal) x nw sc sh w bi, val_main_v108 (F := Ideal) x nw sc sh w bi, val_main_v109 (F := Ideal) x nw sc sh w bi,
    val_main_v110 (F := Ideal) x nw sc sh w bi, val_main_v111 (F := Ideal) x nw sc sh w bi, val_main_v112 (F := Ideal) x nw sc sh w bi,
    val_main_v113 (F := Ideal) x nw sc sh w bi, val_main_v114 (F := Ideal) x nw sc sh w bi, val_main_v115 (F := Ideal) x nw sc sh w bi,
    val_main_v116 (F := Ideal) x nw sc sh w bi, val_main_v117 (F := Ideal) x nw sc sh w bi] s
/-- each at an element, -/
theorem part_at (s : Fin 11) (e : Fin 1024) : part x nw sc sh w bi s (ix4 0 n l e) =
    slabAt x nw sc sh w bi (val_main_v24 (F := Ideal)) (val_main_v25 (F := Ideal)) s n l e :=
  match s with
  | 0 => by
    show val_main_v107 (F := Ideal) x nw sc sh w bi (ix4 0 n l e) = _
    unfold val_main_v107; pointwise; exact v104_at x nw sc sh w bi n l e
  | 1 => by
    show val_main_v108 (F := Ideal) x nw sc sh w bi (ix4 0 n l e) = _
    unfold val_main_v108; pointwise; exact v106_at x nw sc sh w bi n l e
  | 2 => part_plain x nw sc sh w bi n l slices_S32x2048x11296_S32x2048x1024_0_0_2048 2 (by decide) rfl _ _ e
  | 3 => part_plain x nw sc sh w bi n l slices_S32x2048x11296_S32x2048x1024_0_0_3072 3 (by decide) rfl _ _ e
  | 4 => part_plain x nw sc sh w bi n l slices_S32x2048x11296_S32x2048x1024_0_0_4096 4 (by decide) rfl _ _ e
  | 5 => part_plain x nw sc sh w bi n l slices_S32x2048x11296_S32x2048x1024_0_0_5120 5 (by decide) rfl _ _ e
  | 6 => part_plain x nw sc sh w bi n l slices_S32x2048x11296_S32x2048x1024_0_0_6144 6 (by decide) rfl _ _ e
  | 7 => part_plain x nw sc sh w bi n l slices_S32x2048x11296_S32x2048x1024_0_0_7168 7 (by decide) rfl _ _ e
  | 8 => part_plain x nw sc sh w bi n l slices_S32x2048x11296_S32x2048x1024_0_0_8192 8 (by decide) rfl _ _ e
  | 9 => part_plain x nw sc sh w bi n l slices_S32x2048x11296_S32x2048x1024_0_0_9248 9 (by decide) rfl _ _ e
  | 10 => part_plain x nw sc sh w bi n l slices_S32x2048x11296_S32x2048x1024_0_0_10272 10 (by decide) rfl _ _ e

/-- and stacked. -/
theorem v118_at (s : Fin 11) (e : Fin 1024) : val_main_v118 (F := Ideal) x nw sc sh w bi (ix4 s n l e) =
    slabAt x nw sc sh w bi (val_main_v24 (F := Ideal)) (val_main_v25 (F := Ideal)) s n l e := by
  refine Eq.trans ?_ (part_at x nw sc sh w bi n l s e)
  unfold val_main_v118
  exact concatenate_ofFn_unit_apply (t := S11x32x2048x1024) (s₁ := S1x32x2048x1024) 0 (part x nw sc sh w bi)
    concatenates_S1x32x2048x1024_S1x32x2048x1024_S1x32x2048x1024_S1x32x2048x1024_S1x32x2048x1024_S1x32x2048x1024_S1x32x2048x1024_S1x32x2048x1024_S1x32x2048x1024_S1x32x2048x1024_S1x32x2048x1024_S11x32x2048x1024_d0
    rfl rfl (ix4 s n l e) s rfl (ix4 0 n l e) fun b hb => by
      match b with
      | 0 => exact absurd rfl hb
      | 1 => rfl
      | 2 => rfl
      | 3 => rfl

/-- The first result. -/
theorem v119_eq : val_main_v119 (F := Ideal) x nw sc sh w bi = slabs x nw sc sh w bi (val_main_v24 (F := Ideal)) (val_main_v25 (F := Ideal)) := by
  funext j
  obtain ⟨s, n, l, e, rfl⟩ : ∃ s n l e, j = ix4 s n l e := ⟨j 0, j 1, j 2, j 3, by
    funext a; apply Fin.ext; match a with | 0 => rfl | 1 => rfl | 2 => rfl | 3 => rfl⟩
  unfold val_main_v119
  pointwise
  rw [v118_at]
  rfl

/-- The gates. -/
theorem v60_eq : val_main_v60 (F := Ideal) x nw sc sh w bi = gates x nw sc sh w bi := by
  funext j
  obtain ⟨n, l, e, rfl⟩ : ∃ n l e, j = ix3 n l e := ⟨j 0, j 1, j 2, by
    funext a; apply Fin.ext; match a with | 0 => rfl | 1 => rfl | 2 => rfl⟩
  unfold val_main_v60
  pointwise
  rw [v50_at]
  rfl

end Cert.Reference3Ideal.Hand

end
-- ==== Proof.ProjEnds.lean ====
/- The input projection's two runs' ends: the kernel's two results and the reference's. -/
module

public import proofs.«01_k».proof.Proof.ProjKernelArr
public import proofs.«01_k».proof.Proof.ProjRefAt
public import proofs.«01_k».proof.Proof.Gen.Reference3Ideal.Run
public import Idealize.ShloMosaic.Lib.Quiescent

@[expose] public section

noncomputable section

open Idealize.ShloMosaic Idealize.ShloMosaic.TcCoe Idealize.SL.Sem
open Cert.Proj

namespace Cert.Kernel3Ideal.Hand

open Cert.Kernel3Ideal Cert.Kernel3Ideal.Gen

variable (m : (ℓ : Loc nD τ sig) → Buf (Elt Ideal) ℓ) (ρ : Dev nD → PrngReg)

/-- The kernel's run: its two results are the slabs and the gates of its arguments, which end unchanged. -/
theorem ends : θ_run defs (onTc (τ := τ) (main (F := Ideal))) ⟨m, fun _ => 0, ρ⟩ (fun r => ∀ c : Dev nD,
      r.2.mem ((c.tc : Thread nD τ).loc main_v46_0) = goalU m c
      ∧ r.2.mem ((c.tc : Thread nD τ).loc main_v47) = goalG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).1 10).trans (arr10 m c),
    ((h.1.1 c).2 main_v47 (Pipeline.mem_restRefs_of main_v47 (by decide) (by decide))).trans (tail47 m c), h.2.1 c⟩)
    (θ_run_and (launched m ρ) (frame m ρ))

end Cert.Kernel3Ideal.Hand

namespace Cert.Reference3Ideal.Hand

open Cert.Reference3Ideal Cert.Reference3Ideal.Gen Cert.Reference3Ideal.Read

variable (m : (ℓ : Loc nD τ sig) → Buf (Elt Ideal) ℓ) (ρ : Dev nD → PrngReg)

/-- The reference's run: its two results are the slabs and the gates of its arguments, which end unchanged. -/
theorem ends : θ_run defs (onTc (τ := τ) (main (F := Ideal))) ⟨m, fun _ => 0, ρ⟩ (fun r => ∀ c : Dev nD,
      r.2.mem ((c.tc : Thread nD τ).loc main_v119) = slabs (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (val_main_v24 (F := Ideal)) (val_main_v25 (F := Ideal))
      ∧ r.2.mem ((c.tc : Thread nD τ).loc main_v60) = gates (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans ((val_main_v119_eq m c).trans (v119_eq _ _ _ _ _ _)),
    (h c).2.1.trans ((val_main_v60_eq _ _ _ _ _ _).trans (v60_eq _ _ _ _ _ _)), (h c).2.2⟩) (Value.run m ρ)

/-- The reference's frame: its arguments end unchanged, and it has no semaphore. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => (h c).2.2, sem_eq_zero_of_no_sems rfl r.2⟩) (ends m ρ)

end Cert.Reference3Ideal.Hand

end
-- ==== Proof.ProjKernelFrame.lean ====
module
public import proofs.«01_k».proof.Proof.ProjRun
public import proofs.«01_k».proof.Proof.Gen.Kernel3
public import proofs.«01_k».proof.Defs
@[expose] public section
/-! `Kernel3` and `Kernel3Ideal` are the same text; here the two are shown equal, so that the one run
written for `Kernel3Ideal` over any float values gives the frame of `Kernel3`. -/
set_option maxRecDepth 1000000
set_option maxHeartbeats 0
open Idealize.ShloMosaic
namespace Cert.Kernel3.Hand
instance : Cert.Kernel3.Facts := Cert.Kernel3.Gen.facts
instance : Cert.Kernel3Ideal.Facts := Cert.Kernel3Ideal.Gen.facts

/-- The two bodies are the same program. -/
theorem body_eq : @Cert.Kernel3.cc0_inproj_rope Bits _ _ = @Cert.Kernel3Ideal.cc0_inproj_rope Bits _ _ := rfl

/-- The two tables of kernel bodies are the same. -/
theorem defs₀_eq : @Cert.Kernel3.defs₀ Bits _ _ = @Cert.Kernel3Ideal.defs₀ Bits _ _ := by
  unfold Cert.Kernel3.defs₀ Cert.Kernel3Ideal.defs₀
  refine congrArg (Defs.onTc (Λ := Cert.Kernel3Ideal.Λ₀)) ?_
  refine funext fun l => funext fun a => ?_
  match l, a with
  | 0, (t, s) =>
    dsimp only
    rw [body_eq]
    rfl

/-- The two pipelined launches are the same. -/
theorem defs_eq : @Cert.Kernel3.defs Bits _ _ = @Cert.Kernel3Ideal.defs Bits _ _ := by
  unfold Cert.Kernel3.defs Cert.Kernel3Ideal.defs
  exact congrArg (Pipeline.defs (Cert.Kernel3Ideal.pcfgs (F := Bits))) defs₀_eq

/-- The kernel as printed finishes, leaves its six inputs as they were and no semaphore raised. -/
theorem frame_kernel3 : Cert.quiescent_Kernel3 := fun m ρ _ => by
  have h := Cert.Kernel3Ideal.Hand.frame (F := Bits) m ρ
  rw [← defs_eq] at h
  exact h

end Cert.Kernel3.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_decay_below_inf
public import proofs.«01_k».proof.Proof.Ends
public import proofs.«01_k».proof.Proof.KernelFrame
public import proofs.«01_k».proof.Proof.MergeEnds
public import proofs.«01_k».proof.Proof.MidEnds
public import proofs.«01_k».proof.Proof.ModEnds
public import proofs.«01_k».proof.Proof.ProjEnds
public import proofs.«01_k».proof.Proof.ProjKernelFrame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_decay_below_inf.Gen.facts, Cert.Kernel.Hand.frame_kernel, fun m ρ _ => Cert.KernelIdeal.Hand.frame m ρ,
  fun m ρ _ => Cert.KernelIdeal.Hand.frame m ρ, fun m ρ _ => Cert.ReferenceIdeal.Hand.frame m ρ,
  fun m ρ _ => Cert.ReferenceIdeal.Hand.frame m ρ,
  fun m ρ _ => Cert.Kernel2.Gen.frame m ρ, fun m ρ _ => Cert.Kernel2Ideal.Gen.frame m ρ, fun m ρ _ => Cert.Reference2Ideal.Hand.frame m ρ,
  Cert.Kernel3.Hand.frame_kernel3, fun m ρ _ => Cert.Kernel3Ideal.Hand.frame m ρ, fun m ρ _ => Cert.Reference3Ideal.Hand.frame m ρ,
  fun m ρ _ => Cert.Kernel4.Gen.frame m ρ, fun m ρ _ => Cert.Kernel4Ideal.Gen.frame m ρ, fun m ρ _ => Cert.Reference4Ideal.Hand.frame m ρ,
  fun m ρ _ => Cert.Kernel5.Gen.frame m ρ, fun m ρ _ => Cert.Kernel5Ideal.Gen.frame m ρ, fun m ρ _ => Cert.Reference5Ideal.Hand.frame m ρ,
  trivial,
  fun m g m' g' hp ha => ⟨fun c => Cert.Ret.resX (Cert.KernelIdeal.Hand.aU m c) (Cert.KernelIdeal.Hand.aUC m c)
      (Cert.KernelIdeal.Hand.aG m c) (Cert.KernelIdeal.Hand.aW m c),
    fun c => Cert.Ret.resC (Cert.KernelIdeal.Hand.aUC m c) (Cert.KernelIdeal.Hand.aG m c) (Cert.KernelIdeal.Hand.aW m c),
    Cert.KernelIdeal.Hand.ends m g fun c j => Cert.Pre_decay_below_inf.below _ _ _ _ (hp c) j,
    (θ_run _ _ _).mono (fun r h c => by
      obtain ⟨h0, h1, h2⟩ := h c
      obtain ⟨a0, a1, a2, a3⟩ := ha c
      rw [a0, a1, a2, a3] at h0
      rw [a1, a2, a3] at h1
      exact ⟨h0, h1, h2⟩) (Cert.ReferenceIdeal.Hand.ends m' g')⟩,
  trivial,
  fun m g m' g' _ ha => ⟨fun c => Cert.Kernel2Ideal.Hand.goal m c, Cert.Kernel2Ideal.Hand.ends m g,
    (θ_run _ _ _).mono (fun r h c => by
      obtain ⟨h0, h1⟩ := h c
      obtain ⟨a0, a1, a2, a3, a4, a5, a6, a7, a8⟩ := ha c
      rw [a0, a1, a2, a3, a4, a5, a6, a7, a8] at h0
      exact ⟨h0, h1⟩) (Cert.Reference2Ideal.Hand.ends m' g')⟩,
  trivial,
  fun m g m' g' _ ha => ⟨fun c => Cert.Kernel3Ideal.Hand.goalU m c, fun c => Cert.Kernel3Ideal.Hand.goalG m c, Cert.Kernel3Ideal.Hand.ends m g,
    (θ_run _ _ _).mono (fun r h c => by
      obtain ⟨h0, h1, h2⟩ := h c
      obtain ⟨a0, a1, a2, a3, a4, a5⟩ := ha c
      rw [a0, a1, a2, a3, a4, a5] at h0 h1
      exact ⟨h0, h1, h2⟩) (Cert.Reference3Ideal.Hand.ends m' g')⟩,
  trivial,
  fun m g m' g' _ ha => ⟨fun c => Cert.Kernel4Ideal.Hand.goal m c, Cert.Kernel4Ideal.Hand.ends m g,
    (θ_run _ _ _).mono (fun r h c => by
      obtain ⟨h0, h1⟩ := h c
      obtain ⟨a0, a1, a2, a3, a4, a5, a6, a7⟩ := ha c
      rw [a0, a1, a2, a3, a4, a5, a6, a7] at h0
      exact ⟨h0, h1⟩) (Cert.Reference4Ideal.Hand.ends m' g')⟩,
  trivial,
  fun m g m' g' _ ha => ⟨fun c => Cert.Kernel5Ideal.Hand.goalX m c, fun c => Cert.Kernel5Ideal.Hand.goalC m c, Cert.Kernel5Ideal.Hand.ends m g,
    (θ_run _ _ _).mono (fun r h c => by
      obtain ⟨h0, h1, h2⟩ := h c
      obtain ⟨a0, a1, a2, a3⟩ := ha c
      rw [a0, a2, a3] at h0
      rw [a1, a2, a3] at h1
      exact ⟨h0, h1, h2⟩) (Cert.Reference5Ideal.Hand.ends m' g')⟩⟩

end Cert.Proof

end
